-- ==== Defs.lean ====
def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_RouteIdeal [hPre_finite_RouteIdeal : Cert.Pre_finite_RouteIdeal.Facts] (m : (ℓ : Loc Cert.RouteIdeal.nD Cert.RouteIdeal.τ Cert.RouteIdeal.sig) → Buf (Elt Ideal) ℓ) : Prop :=
  ∀ c : Dev Cert.RouteIdeal.nD,
    (Cert.Pre_finite_RouteIdeal.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))).1 = (fun _ => 1#1)
    ∧ (Cert.Pre_finite_RouteIdeal.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))).2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_RouteRefIdeal [hPre_finite_RouteRefIdeal : Cert.Pre_finite_RouteRefIdeal.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_RouteRefIdeal.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1))).1 = (fun _ => 1#1)
    ∧ (Cert.Pre_finite_RouteRefIdeal.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1))).2 = (fun _ => 1#1)

def Pre_Ffn [hPre_starts_inside : Cert.Pre_starts_inside.Facts] (m : (ℓ : Loc Cert.Ffn.nD Cert.Ffn.τ Cert.Ffn.sig) → Buf (Elt Bits) ℓ) : Prop :=
  ∀ c : Dev Cert.Ffn.nD,
    (Cert.Pre_starts_inside.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4))) = (fun _ => 1#1)

def Pre_FfnIdeal [hPre_starts_inside : Cert.Pre_starts_inside.Facts] (m : (ℓ : Loc Cert.FfnIdeal.nD Cert.FfnIdeal.τ Cert.FfnIdeal.sig) → Buf (Elt Ideal) ℓ) : Prop :=
  ∀ c : Dev Cert.FfnIdeal.nD,
    (Cert.Pre_starts_inside.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnIdeal_segments_fit [hPre_segments_fit : Cert.Pre_segments_fit.Facts] (m : (ℓ : Loc Cert.FfnIdeal.nD Cert.FfnIdeal.τ Cert.FfnIdeal.sig) → Buf (Elt Ideal) ℓ) : Prop :=
  ∀ c : Dev Cert.FfnIdeal.nD,
    (Cert.Pre_segments_fit.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_segments_fit.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_segments_fit [hPre_segments_fit : Cert.Pre_segments_fit.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_segments_fit.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_segments_fit.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2 = (fun _ => 1#1)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_finite_RouteIdeal [hRouteIdeal : Cert.RouteIdeal.Facts] [hPre_finite_RouteIdeal : Cert.Pre_finite_RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_RouteRefIdeal_pre_finite_RouteRefIdeal [hRouteRefIdeal : Cert.RouteRefIdeal.Facts] [hPre_finite_RouteRefIdeal : Cert.Pre_finite_RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_Ffn [hFfn : Cert.Ffn.Facts] [hPre_starts_inside : Cert.Pre_starts_inside.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] [hPre_starts_inside : Cert.Pre_starts_inside.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_segments_fit [hFfnIdeal : Cert.FfnIdeal.Facts] [hPre_segments_fit : Cert.Pre_segments_fit.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_segments_fit m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_segments_fit [hFfnRefIdeal : Cert.FfnRefIdeal.Facts] [hPre_segments_fit : Cert.Pre_segments_fit.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_segments_fit m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m ((c.tc : Thread Cert.CombineIdeal.nD Cert.CombineIdeal.τ).loc Cert.CombineIdeal.main_arg0) = Layout.blockN ⟨2, ![2048, 1024]⟩ ⟨2, ![4096, 1024]⟩ (Layout.meshBlock [2, 2, 4] ![[1], []] c) (m' (((0 : Dev Cert.CombineRefIdeal.nD).tc : Thread Cert.CombineRefIdeal.nD Cert.CombineRefIdeal.τ).loc Cert.CombineRefIdeal.main_arg0))) →
    ∃ (v0 : Buf (Elt Ideal) (((0 : Dev Cert.CombineRefIdeal.nD).tc : Thread Cert.CombineRefIdeal.nD Cert.CombineRefIdeal.τ).loc Cert.CombineRefIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = Layout.blockN ⟨2, ![1024, 1024]⟩ ⟨2, ![2048, 1024]⟩ (Layout.meshBlock [2, 2, 4] ![[1], []] c) v0
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ θ_run (Cert.CombineRefIdeal.defs (F := Ideal)) (onTc (τ := Cert.CombineRefIdeal.τ) (Cert.CombineRefIdeal.main (F := Ideal))) ⟨m', fun _ => 0, g'⟩ (fun r =>
          r.2.mem (((0 : Dev Cert.CombineRefIdeal.nD).tc : Thread Cert.CombineRefIdeal.nD Cert.CombineRefIdeal.τ).loc Cert.CombineRefIdeal.main_v2) = v0
          ∧ r.2.mem (((0 : Dev Cert.CombineRefIdeal.nD).tc : Thread Cert.CombineRefIdeal.nD Cert.CombineRefIdeal.τ).loc Cert.CombineRefIdeal.main_arg0) = m' (((0 : Dev Cert.CombineRefIdeal.nD).tc : Thread Cert.CombineRefIdeal.nD Cert.CombineRefIdeal.τ).loc Cert.CombineRefIdeal.main_arg0))

def preserves_Route_RouteIdeal : Prop :=
  True

def algebraic_RouteIdeal_RouteRefIdeal_pre_finite_RouteIdeal [hRouteIdeal : Cert.RouteIdeal.Facts] [hRouteRefIdeal : Cert.RouteRefIdeal.Facts] [hPre_finite_RouteIdeal : Cert.Pre_finite_RouteIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_RouteIdeal m →
    (∀ c : Dev Cert.RouteIdeal.nD,
      m ((c.tc : Thread Cert.RouteIdeal.nD Cert.RouteIdeal.τ).loc Cert.RouteIdeal.main_arg0) = Layout.blockN ⟨2, ![1024, 1024]⟩ ⟨2, ![2048, 1024]⟩ (Layout.meshBlock [2, 2, 4] ![[1], []] c) (m' (((0 : Dev Cert.RouteRefIdeal.nD).tc : Thread Cert.RouteRefIdeal.nD Cert.RouteRefIdeal.τ).loc Cert.RouteRefIdeal.main_arg0))
      ∧ m ((c.tc : Thread Cert.RouteIdeal.nD Cert.RouteIdeal.τ).loc Cert.RouteIdeal.main_arg1) = Layout.blockN ⟨2, ![1024, 8]⟩ ⟨2, ![1024, 16]⟩ (Layout.meshBlock [2, 2, 4] ![[], [1]] c) (m' (((0 : Dev Cert.RouteRefIdeal.nD).tc : Thread Cert.RouteRefIdeal.nD Cert.RouteRefIdeal.τ).loc Cert.RouteRefIdeal.main_arg1))) →
    ∃ (v0 : Buf (Elt Ideal) (((0 : Dev Cert.RouteRefIdeal.nD).tc : Thread Cert.RouteRefIdeal.nD Cert.RouteRefIdeal.τ).loc Cert.RouteRefIdeal.main_v15)) (v1 : Buf (Elt Ideal) (((0 : Dev Cert.RouteRefIdeal.nD).tc : Thread Cert.RouteRefIdeal.nD Cert.RouteRefIdeal.τ).loc Cert.RouteRefIdeal.main_v16)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1_0) = v0
          ∧ r.2.mem ((c.tc : Thread Cert.RouteIdeal.nD Cert.RouteIdeal.τ).loc Cert.RouteIdeal.main_v1_1) = v1
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteRefIdeal.defs (F := Ideal)) (onTc (τ := Cert.RouteRefIdeal.τ) (Cert.RouteRefIdeal.main (F := Ideal))) ⟨m', fun _ => 0, g'⟩ (fun r =>
          r.2.mem (((0 : Dev Cert.RouteRefIdeal.nD).tc : Thread Cert.RouteRefIdeal.nD Cert.RouteRefIdeal.τ).loc Cert.RouteRefIdeal.main_v15) = v0
          ∧ r.2.mem (((0 : Dev Cert.RouteRefIdeal.nD).tc : Thread Cert.RouteRefIdeal.nD Cert.RouteRefIdeal.τ).loc Cert.RouteRefIdeal.main_v16) = v1
          ∧ r.2.mem (((0 : Dev Cert.RouteRefIdeal.nD).tc : Thread Cert.RouteRefIdeal.nD Cert.RouteRefIdeal.τ).loc Cert.RouteRefIdeal.main_arg0) = m' (((0 : Dev Cert.RouteRefIdeal.nD).tc : Thread Cert.RouteRefIdeal.nD Cert.RouteRefIdeal.τ).loc Cert.RouteRefIdeal.main_arg0)
          ∧ r.2.mem (((0 : Dev Cert.RouteRefIdeal.nD).tc : Thread Cert.RouteRefIdeal.nD Cert.RouteRefIdeal.τ).loc Cert.RouteRefIdeal.main_arg1) = m' (((0 : Dev Cert.RouteRefIdeal.nD).tc : Thread Cert.RouteRefIdeal.nD Cert.RouteRefIdeal.τ).loc Cert.RouteRefIdeal.main_arg1))

def preserves_Ffn_FfnIdeal : Prop :=
  True

def algebraic_FfnIdeal_FfnRefIdeal_pre_segments_fit [hFfnIdeal : Cert.FfnIdeal.Facts] [hFfnRefIdeal : Cert.FfnRefIdeal.Facts] [hPre_segments_fit : Cert.Pre_segments_fit.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_segments_fit m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def Claim : Prop :=
  ∃ (hCombine : Cert.Combine.Facts) (hCombineIdeal : Cert.CombineIdeal.Facts) (hCombineRefIdeal : Cert.CombineRefIdeal.Facts) (hRoute : Cert.Route.Facts) (hRouteIdeal : Cert.RouteIdeal.Facts) (hRouteRefIdeal : Cert.RouteRefIdeal.Facts) (hFfn : Cert.Ffn.Facts) (hFfnIdeal : Cert.FfnIdeal.Facts) (hFfnRefIdeal : Cert.FfnRefIdeal.Facts) (hPre_finite_RouteIdeal : Cert.Pre_finite_RouteIdeal.Facts) (hPre_finite_RouteRefIdeal : Cert.Pre_finite_RouteRefIdeal.Facts) (hPre_starts_inside : Cert.Pre_starts_inside.Facts) (hPre_segments_fit : Cert.Pre_segments_fit.Facts),
    quiescent_Combine (hCombine := hCombine)
    ∧ quiescent_CombineIdeal (hCombineIdeal := hCombineIdeal)
    ∧ quiescent_CombineRefIdeal (hCombineRefIdeal := hCombineRefIdeal)
    ∧ quiescent_Route (hRoute := hRoute)
    ∧ quiescent_RouteIdeal (hRouteIdeal := hRouteIdeal)
    ∧ quiescent_RouteIdeal_pre_finite_RouteIdeal (hRouteIdeal := hRouteIdeal) (hPre_finite_RouteIdeal := hPre_finite_RouteIdeal)
    ∧ quiescent_RouteRefIdeal (hRouteRefIdeal := hRouteRefIdeal)
    ∧ quiescent_RouteRefIdeal_pre_finite_RouteRefIdeal (hRouteRefIdeal := hRouteRefIdeal) (hPre_finite_RouteRefIdeal := hPre_finite_RouteRefIdeal)
    ∧ quiescent_Ffn (hFfn := hFfn) (hPre_starts_inside := hPre_starts_inside)
    ∧ quiescent_FfnIdeal (hFfnIdeal := hFfnIdeal) (hPre_starts_inside := hPre_starts_inside)
    ∧ quiescent_FfnIdeal_pre_segments_fit (hFfnIdeal := hFfnIdeal) (hPre_segments_fit := hPre_segments_fit)
    ∧ quiescent_FfnRefIdeal (hFfnRefIdeal := hFfnRefIdeal)
    ∧ quiescent_FfnRefIdeal_pre_segments_fit (hFfnRefIdeal := hFfnRefIdeal) (hPre_segments_fit := hPre_segments_fit)
    ∧ preserves_Combine_CombineIdeal
    ∧ algebraic_CombineIdeal_CombineRefIdeal (hCombineIdeal := hCombineIdeal) (hCombineRefIdeal := hCombineRefIdeal)
    ∧ preserves_Route_RouteIdeal
    ∧ algebraic_RouteIdeal_RouteRefIdeal_pre_finite_RouteIdeal (hRouteIdeal := hRouteIdeal) (hRouteRefIdeal := hRouteRefIdeal) (hPre_finite_RouteIdeal := hPre_finite_RouteIdeal)
    ∧ preserves_Ffn_FfnIdeal
    ∧ algebraic_FfnIdeal_FfnRefIdeal_pre_segments_fit (hFfnIdeal := hFfnIdeal) (hFfnRefIdeal := hFfnRefIdeal) (hPre_segments_fit := hPre_segments_fit)
-- ==== Pre_finite_RouteIdeal.lean ====
abbrev S1024x1024 : Shape := ⟨2, ![1024, 1024]⟩
abbrev S1024x8 : Shape := ⟨2, ![1024, 8]⟩
abbrev S_ : Shape := ⟨0, ![]⟩

class Facts : Prop where
  bcast_S_S1024x1024 : S_.BroadcastsInDim S1024x1024 (![] : Fin 0 → Fin S1024x1024.rank)
  bcast_S_S1024x8 : S_.BroadcastsInDim S1024x8 (![] : Fin 0 → Fin S1024x8.rank)

variable [Facts]

def fn {F : FTy → Type} [FloatOps F] (main_arg0 : FVec F S1024x1024 .f32) (main_arg1 : FVec F S1024x8 .f32) : IVec S1024x1024 1 × IVec S1024x8 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Pre_finite_RouteRefIdeal.lean ====
abbrev S2048x1024 : Shape := ⟨2, ![2048, 1024]⟩
abbrev S1024x16 : Shape := ⟨2, ![1024, 16]⟩
abbrev S_ : Shape := ⟨0, ![]⟩

class Facts : Prop where
  bcast_S_S2048x1024 : S_.BroadcastsInDim S2048x1024 (![] : Fin 0 → Fin S2048x1024.rank)
  bcast_S_S1024x16 : S_.BroadcastsInDim S1024x16 (![] : Fin 0 → Fin S1024x16.rank)

variable [Facts]

def fn {F : FTy → Type} [FloatOps F] (main_arg0 : FVec F S2048x1024 .f32) (main_arg1 : FVec F S1024x16 .f32) : IVec S2048x1024 1 × IVec S1024x16 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x16 .f32 := Host.absf main_arg1
  let main_cst_0 : FVec F S_ .f32 := constant S_ .f32 0x7F800000#32
  let main_v4 : FVec F S1024x16 .f32 := broadcastInDim S1024x16 ![] bcast_S_S1024x16 main_cst_0
  let main_v5 : IVec S1024x16 1 := cmpf .olt main_v3 main_v4
  (main_v2, main_v5)
-- ==== Pre_segments_fit.lean ====
abbrev S2048x1024 : Shape := ⟨2, ![2048, 1024]⟩
abbrev S1x4544 : Shape := ⟨2, ![1, 4544]⟩
abbrev S2x8 : Shape := ⟨2, ![2, 8]⟩
abbrev S8x1024x4096 : Shape := ⟨3, ![8, 1024, 4096]⟩
abbrev S8x4096x1024 : Shape := ⟨3, ![8, 4096, 1024]⟩
abbrev S1x8 : Shape := ⟨2, ![1, 8]⟩
abbrev S8 : Shape := ⟨1, ![8]⟩
abbrev S_ : Shape := ⟨0, ![]⟩

class Facts : Prop where
  slices_S2x8_S1x8_0_0 : S2x8.Slices ![0, 0] S1x8
  shapeCasts_S1x8_S8 : S1x8.ShapeCasts S8
  bcast_S_S8 : S_.BroadcastsInDim S8 (![] : Fin 0 → Fin S8.rank)
  slices_S2x8_S1x8_1_0 : S2x8.Slices ![1, 0] S1x8

variable [Facts]

def fn {F : FTy → Type} [FloatOps F] (main_arg0 : FVec F S2048x1024 .bf16) (main_arg1 : FVec F S1x4544 .f32) (main_arg2 : IVec S2x8 32) (main_arg3 : FVec F S8x1024x4096 .f32) (main_arg4 : FVec F S8x4096x1024 .f32) : IVec S8 1 × IVec S8 1 :=
  let main_v0 : IVec S1x8 32 := (extractStridedSlice S1x8 ![0, 0] · slices_S2x8_S1x8_0_0) main_arg2
  let main_v1 : IVec S8 32 := shapeCast S8 main_v0 shapeCasts_S1x8_S8
  let main_c : IVec S_ 32 := constantI S_ 32 0#32
  let main_v2 : IVec S8 32 := broadcastInDim S8 ![] bcast_S_S8 main_c
  let main_v3 : IVec S8 1 := cmpi .sge main_v1 main_v2
  let main_v4 : IVec S1x8 32 := (extractStridedSlice S1x8 ![0, 0] · slices_S2x8_S1x8_0_0) main_arg2
  let main_v5 : IVec S8 32 := shapeCast S8 main_v4 shapeCasts_S1x8_S8
  let main_c_0 : IVec S_ 32 := constantI S_ 32 4224#32
  let main_v6 : IVec S8 32 := broadcastInDim S8 ![] bcast_S_S8 main_c_0
  let main_v7 : IVec S8 1 := cmpi .slt main_v5 main_v6
  let main_v8 : IVec S8 1 := andi main_v3 main_v7
  let main_v9 : IVec S1x8 32 := (extractStridedSlice S1x8 ![1, 0] · slices_S2x8_S1x8_1_0) main_arg2
  let main_v10 : IVec S8 32 := shapeCast S8 main_v9 shapeCasts_S1x8_S8
  let main_c_1 : IVec S_ 32 := constantI S_ 32 320#32
  let main_v11 : IVec S8 32 := broadcastInDim S8 ![] bcast_S_S8 main_c_1
  let main_v12 : IVec S8 1 := cmpi .sle main_v10 main_v11
  (main_v8, main_v12)
-- ==== Pre_starts_inside.lean ====
abbrev S2048x1024 : Shape := ⟨2, ![2048, 1024]⟩
abbrev S1x4544 : Shape := ⟨2, ![1, 4544]⟩
abbrev S2x8 : Shape := ⟨2, ![2, 8]⟩
abbrev S8x1024x4096 : Shape := ⟨3, ![8, 1024, 4096]⟩
abbrev S8x4096x1024 : Shape := ⟨3, ![8, 4096, 1024]⟩
abbrev S1x8 : Shape := ⟨2, ![1, 8]⟩
abbrev S8 : Shape := ⟨1, ![8]⟩
abbrev S_ : Shape := ⟨0, ![]⟩

class Facts : Prop where
  slices_S2x8_S1x8_0_0 : S2x8.Slices ![0, 0] S1x8
  shapeCasts_S1x8_S8 : S1x8.ShapeCasts S8
  bcast_S_S8 : S_.BroadcastsInDim S8 (![] : Fin 0 → Fin S8.rank)

variable [Facts]

def fn {F : FTy → Type} [FloatOps F] (main_arg0 : FVec F S2048x1024 .bf16) (main_arg1 : FVec F S1x4544 .f32) (main_arg2 : IVec S2x8 32) (main_arg3 : FVec F S8x1024x4096 .f32) (main_arg4 : FVec F S8x4096x1024 .f32) : IVec S8 1 :=
  let main_v0 : IVec S1x8 32 := (extractStridedSlice S1x8 ![0, 0] · slices_S2x8_S1x8_0_0) main_arg2
  let main_v1 : IVec S8 32 := shapeCast S8 main_v0 shapeCasts_S1x8_S8
  let main_c : IVec S_ 32 := constantI S_ 32 0#32
  let main_v2 : IVec S8 32 := broadcastInDim S8 ![] bcast_S_S8 main_c
  let main_v3 : IVec S8 1 := cmpi .sge main_v1 main_v2
  let main_v4 : IVec S1x8 32 := (extractStridedSlice S1x8 ![0, 0] · slices_S2x8_S1x8_0_0) main_arg2
  let main_v5 : IVec S8 32 := shapeCast S8 main_v4 shapeCasts_S1x8_S8
  let main_c_0 : IVec S_ 32 := constantI S_ 32 4224#32
  let main_v6 : IVec S8 32 := broadcastInDim S8 ![] bcast_S_S8 main_c_0
  let main_v7 : IVec S8 1 := cmpi .slt main_v5 main_v6
  let main_v8 : IVec S8 1 := andi main_v3 main_v7
  main_v8
-- ==== Combine.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(2, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier2 : Sem sig := 0

abbrev nD : Nat := 16
abbrev τ : Topo := Topo.v7x

variable {F : FTy → Type} [FloatOps F]

abbrev grid0 : Pipeline.Grid := .none

def k0_mult1 (d0 : Dev nD) : BitVec 32 :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c1024_i32 : BitVec 32 := 1024#32
  let v14 : BitVec 32 := Scalar.muli v13 c1024_i32
  v14
def k0_mult2 (d0 : Dev nD) : BitVec 32 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_6 : BitVec 32 := 1024#32
  let v16 : BitVec 32 := Scalar.muli v2 c1024_i32_6
  v16
def k0_off1 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c1024_i32 : BitVec 32 := 1024#32
  let v14 : BitVec 32 := Scalar.muli v13 c1024_i32
  let v15 : BitVec 32 := v14
  let v18 : Index := Scalar.indexCast v15
  let c0 : Index := 0#32
  ![v18.toNat, 0]
def k0_dev1 (d0 : Dev nD) : Nat :=
  let c0_i32 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_10 : BitVec 32 := 8#32
  let v26 : BitVec 32 := Scalar.muli v5 c8_i32_10
  let v27 : BitVec 32 := Scalar.addi c0_i32 v26
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_11 : BitVec 32 := 4#32
  let v28 : BitVec 32 := Scalar.muli v9 c4_i32_11
  let v29 : BitVec 32 := Scalar.addi v27 v28
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_12 : BitVec 32 := 1#32
  let v30 : BitVec 32 := Scalar.muli v12 c1_i32_12
  let v31 : BitVec 32 := Scalar.addi v29 v30
  v31.toNat
def k0_dev2 (d0 : Dev nD) : Nat :=
  let c0_i32_15 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_14 : BitVec 32 := 8#32
  let v32 : BitVec 32 := Scalar.muli v5 c8_i32_14
  let v33 : BitVec 32 := Scalar.addi c0_i32_15 v32
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_16 : BitVec 32 := 4#32
  let v34 : BitVec 32 := Scalar.muli v9 c4_i32_16
  let v35 : BitVec 32 := Scalar.addi v33 v34
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_17 : BitVec 32 := 1#32
  let v36 : BitVec 32 := Scalar.muli v12 c1_i32_17
  let v37 : BitVec 32 := Scalar.addi v35 v36
  v37.toNat
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_6 : BitVec 32 := 1024#32
  let v16 : BitVec 32 := Scalar.muli v2 c1024_i32_6
  let v17 : BitVec 32 := v16
  let v44 : Index := Scalar.indexCast v17
  let c0_23 : Index := 0#32
  ![v44.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CombineRefIdeal.lean ====
abbrev S4096x1024 : Shape := ⟨2, ![4096, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .f32⟩
  | .hbm, ⟨3, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Route.lean ====
abbrev S1024x1024 : Shape := ⟨2, ![1024, 1024]⟩
abbrev S1024x8 : Shape := ⟨2, ![1024, 8]⟩
abbrev S2x1024x1024 : Shape := ⟨3, ![2, 1024, 1024]⟩
abbrev S2x1024x2 : Shape := ⟨3, ![2, 1024, 2]⟩
abbrev S1024x2 : Shape := ⟨2, ![1024, 2]⟩
abbrev S2 : Shape := ⟨1, ![2]⟩
abbrev S_ : Shape := ⟨0, ![]⟩
abbrev S1 : Shape := ⟨1, ![1]⟩
abbrev S1024x16 : Shape := ⟨2, ![1024, 16]⟩
abbrev S1024 : Shape := ⟨1, ![1024]⟩
abbrev S1024x1 : Shape := ⟨2, ![1024, 1]⟩
abbrev S1x1024x1024 : Shape := ⟨3, ![1, 1024, 1024]⟩
abbrev S1x1024x2 : Shape := ⟨3, ![1, 1024, 2]⟩

abbrev nBuf : Space → Nat
  | .hbm => 4
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S2x1024x1024, .bf16⟩
  | .hbm, ⟨3, _⟩ => ⟨S2x1024x2, .f32⟩
  | .local _ .vmem, ⟨0, _⟩ => ⟨S1024x1024, .f32⟩
  | .local _ .vmem, ⟨1, _⟩ => ⟨S1024x8, .f32⟩
  | .local _ .vmem, ⟨2, _⟩ => ⟨S2x1024x1024, .bf16⟩
  | .local _ .vmem, ⟨3, _⟩ => ⟨S2x1024x2, .f32⟩
  | .local _ .vmem, ⟨4, _⟩ => ⟨S1024x1024, .bf16⟩
  | .local _ .vmem, ⟨5, _⟩ => ⟨S1024x8, .f32⟩
  | .local _ .vmem, ⟨6, _⟩ => ⟨S1024x1024, .bf16⟩
  | .local _ .vmem, ⟨7, _⟩ => ⟨S1024x2, .f32⟩
  | .local _ .vmem, ⟨8, _⟩ => ⟨S1024x2, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_6 : BitVec 32 := 8#32
  let v14 : BitVec 32 := Scalar.muli v5 c8_i32_6
  let v15 : BitVec 32 := Scalar.addi c0_i32 v14
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_7 : BitVec 32 := 4#32
  let v16 : BitVec 32 := Scalar.muli v9 c4_i32_7
  let v17 : BitVec 32 := Scalar.addi v15 v16
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_8 : BitVec 32 := 1#32
  let v18 : BitVec 32 := Scalar.muli v12 c1_i32_8
  let v19 : BitVec 32 := Scalar.addi v17 v18
  v19.toNat
def k0_dev2 (d0 : Dev nD) : Nat :=
  let c0_i32_13 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_12 : BitVec 32 := 8#32
  let v20 : BitVec 32 := Scalar.muli v5 c8_i32_12
  let v21 : BitVec 32 := Scalar.addi c0_i32_13 v20
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_14 : BitVec 32 := 4#32
  let v22 : BitVec 32 := Scalar.muli v9 c4_i32_14
  let v23 : BitVec 32 := Scalar.addi v21 v22
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_15 : BitVec 32 := 1#32
  let v24 : BitVec 32 := Scalar.muli v12 c1_i32_15
  let v25 : BitVec 32 := Scalar.addi v23 v24
  v25.toNat
def k0_dev3 (d0 : Dev nD) : Nat :=
  let c0_i32_22 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_21 : BitVec 32 := 8#32
  let v36 : BitVec 32 := Scalar.muli v5 c8_i32_21
  let v37 : BitVec 32 := Scalar.addi c0_i32_22 v36
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_23 : BitVec 32 := 4#32
  let v38 : BitVec 32 := Scalar.muli v9 c4_i32_23
  let v39 : BitVec 32 := Scalar.addi v37 v38
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_24 : BitVec 32 := 1#32
  let v40 : BitVec 32 := Scalar.muli v12 c1_i32_24
  let v41 : BitVec 32 := Scalar.addi v39 v40
  v41.toNat
def k0_dev4 (d0 : Dev nD) : Nat :=
  let c0_i32_58 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_57 : BitVec 32 := 8#32
  let v109 : BitVec 32 := Scalar.muli v5 c8_i32_57
  let v110 : BitVec 32 := Scalar.addi c0_i32_58 v109
  let c1_i32 : BitVec 32 := 1#32
  let v6 : BitVec 32 := Dev.word d0
  let c4_i32_2 : BitVec 32 := 4#32
  let v7 : BitVec 32 := Scalar.divsi v6 c4_i32_2
  let c2_i32_1 : BitVec 32 := 2#32
  let v8 : BitVec 32 := Scalar.remsi v7 c2_i32_1
  let v9 : BitVec 32 := Scalar.subi c1_i32 v8
  let c4_i32_59 : BitVec 32 := 4#32
  let v111 : BitVec 32 := Scalar.muli v9 c4_i32_59
  let v112 : BitVec 32 := Scalar.addi v110 v111
  let v10 : BitVec 32 := Dev.word d0
  let c1_i32_4 : BitVec 32 := 1#32
  let v11 : BitVec 32 := Scalar.divsi v10 c1_i32_4
  let c4_i32_3 : BitVec 32 := 4#32
  let v12 : BitVec 32 := Scalar.remsi v11 c4_i32_3
  let c1_i32_60 : BitVec 32 := 1#32
  let v113 : BitVec 32 := Scalar.muli v12 c1_i32_60
  let v114 : BitVec 32 := Scalar.addi v112 v113
  v114.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RouteRefIdeal.lean ====
abbrev S2048x1024 : Shape := ⟨2, ![2048, 1024]⟩
abbrev S1024x16 : Shape := ⟨2, ![1024, 16]⟩
abbrev S2048x16 : Shape := ⟨2, ![2048, 16]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2x1024x1024 : Shape := ⟨3, ![2, 1024, 1024]⟩
abbrev S2x1024x2 : Shape := ⟨3, ![2, 1024, 2]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S2048x16, .f32⟩
  | .hbm, ⟨3, _⟩ => ⟨S2048x2, .f32⟩
  | .hbm, ⟨4, _⟩ => ⟨S2048x2, .i32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x2, .f32⟩
  | .hbm, ⟨9, _⟩ => ⟨S2048x2, .f32⟩
  | .hbm, ⟨10, _⟩ => ⟨S2048x2, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x2, .f32⟩
  | .hbm, ⟨15, _⟩ => ⟨S2048x2, .f32⟩
  | .hbm, ⟨16, _⟩ => ⟨S2048x2, .f32⟩
  | .hbm, ⟨17, _⟩ => ⟨S_, .f32⟩
  | .hbm, ⟨18, _⟩ => ⟨S2048x2, .f32⟩
  | .hbm, ⟨19, _⟩ => ⟨S2048x2, .f32⟩
  | .hbm, ⟨20, _⟩ => ⟨S2048x2, .f32⟩
  | .hbm, ⟨21, _⟩ => ⟨S2048x1024, .bf16⟩
  | .hbm, ⟨22, _⟩ => ⟨S2x1024x1024, .bf16⟩
  | .hbm, ⟨23, _⟩ => ⟨S2x1024x2, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ffn.lean ====
abbrev S2048x1024 : Shape := ⟨2, ![2048, 1024]⟩
abbrev S1x4544 : Shape := ⟨2, ![1, 4544]⟩
abbrev S2x8 : Shape := ⟨2, ![2, 8]⟩
abbrev S8x1024x4096 : Shape := ⟨3, ![8, 1024, 4096]⟩
abbrev S8x4096x1024 : Shape := ⟨3, ![8, 4096, 1024]⟩
abbrev S1x1024x2048 : Shape := ⟨3, ![1, 1024, 2048]⟩
abbrev S1x2048x1024 : Shape := ⟨3, ![1, 2048, 1024]⟩
abbrev S320x1024 : Shape := ⟨2, ![320, 1024]⟩
abbrev S1x1 : Shape := ⟨2, ![1, 1]⟩
abbrev S1x320 : Shape := ⟨2, ![1, 320]⟩
abbrev S1x448 : Shape := ⟨2, ![1, 448]⟩
abbrev S320x2048 : Shape := ⟨2, ![320, 2048]⟩
abbrev S320 : Shape := ⟨1, ![320]⟩
abbrev S320x1 : Shape := ⟨2, ![320, 1]⟩
abbrev S1024x2048 : Shape := ⟨2, ![1024, 2048]⟩

abbrev nBuf : Space → Nat
  | .hbm => 6
  | .vmem => 9
  | .smem => 1
  | _ => 0

abbrev bufTy : (tb : Table) → Fin (tcTables nBuf tb) → BufTy
  | .hbm, ⟨0, _⟩ => ⟨S2048x1024, .bf16⟩
  | .hbm, ⟨1, _⟩ => ⟨S1x4544, .f32⟩
  | .hbm, ⟨2, _⟩ => ⟨S2x8, .i32⟩
  | .hbm, ⟨3, _⟩ => ⟨S8x1024x4096, .f32⟩
  | .hbm, ⟨4, _⟩ => ⟨S8x4096x1024, .f32⟩
  | .hbm, ⟨5, _⟩ => ⟨S2048x1024, .f32⟩
  | .local _ .vmem, ⟨0, _⟩ => ⟨S2048x1024, .bf16⟩
  | .local _ .vmem, ⟨1, _⟩ => ⟨S1x4544, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S2048x1024, .f32⟩
  | .local _ .vmem, ⟨7, _⟩ => ⟨S320x1024, .bf16⟩
  | .local _ .vmem, ⟨8, _⟩ => ⟨S320x1024, .f32⟩
  | .local _ .smem, ⟨0, _⟩ => ⟨S2x8, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_mult1 (v1 : BitVec 32) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c128_i32 : BitVec 32 := 128#32
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v1 c128_i32
  let c0_i32_3 : BitVec 32 := 0#32
  let v17 : BitVec 1 := Scalar.cmpi .ne v16 c0_i32_3
  let v18 : BitVec 1 := Scalar.andi v15 v17
  let v4 : BitVec 32 := Scalar.divsi v1 c128_i32
  let c1_i32 : BitVec 32 := 1#32
  let v19 : BitVec 32 := Scalar.subi v4 c1_i32
  let v20 : BitVec 32 := Scalar.select v18 v19 v4
  let c128_i32_4 : BitVec 32 := 128#32
  let v21 : BitVec 32 := Scalar.muli v20 c128_i32_4
  v21

def k0_cond2 (i : grid0.Coords) : BitVec 1 :=
  let arg1 : BitVec 32 := BitVec.ofNat 32 (i 1).val
  let c0_i32_14 : BitVec 32 := 0#32
  let v41 : BitVec 1 := Scalar.cmpi .eq arg1 c0_i32_14
  let v42 : BitVec 32 := Scalar.extui v41
  let c0_i32_15 : BitVec 32 := 0#32
  let v43 : BitVec 1 := Scalar.cmpi .ne v42 c0_i32_15
  v43

def k0_off3 (v1 : BitVec 32) : Fin 2 → Nat :=
  let c0_32 : Index := 0#32
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c128_i32 : BitVec 32 := 128#32
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v1 c128_i32
  let c0_i32_3 : BitVec 32 := 0#32
  let v17 : BitVec 1 := Scalar.cmpi .ne v16 c0_i32_3
  let v18 : BitVec 1 := Scalar.andi v15 v17
  let v4 : BitVec 32 := Scalar.divsi v1 c128_i32
  let c1_i32 : BitVec 32 := 1#32
  let v19 : BitVec 32 := Scalar.subi v4 c1_i32
  let v20 : BitVec 32 := Scalar.select v18 v19 v4
  let c128_i32_4 : BitVec 32 := 128#32
  let v21 : BitVec 32 := Scalar.muli v20 c128_i32_4
  let v22 : BitVec 32 := v21
  let v64 : Index := Scalar.indexCast v22
  ![0, v64.toNat]
def k0_cond3 (i : grid0.Coords) : BitVec 1 :=
  let arg1 : BitVec 32 := BitVec.ofNat 32 (i 1).val
  let c1_i32_30 : BitVec 32 := 1#32
  let v61 : BitVec 1 := Scalar.cmpi .eq arg1 c1_i32_30
  let v62 : BitVec 32 := Scalar.extui v61
  let c0_i32_31 : BitVec 32 := 0#32
  let v63 : BitVec 1 := Scalar.cmpi .ne v62 c0_i32_31
  v63

def k0_off4 (v1 : BitVec 32) : Fin 2 → Nat :=
  let c0_32 : Index := 0#32
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c128_i32 : BitVec 32 := 128#32
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v1 c128_i32
  let c0_i32_3 : BitVec 32 := 0#32
  let v17 : BitVec 1 := Scalar.cmpi .ne v16 c0_i32_3
  let v18 : BitVec 1 := Scalar.andi v15 v17
  let v4 : BitVec 32 := Scalar.divsi v1 c128_i32
  let c1_i32 : BitVec 32 := 1#32
  let v19 : BitVec 32 := Scalar.subi v4 c1_i32
  let v20 : BitVec 32 := Scalar.select v18 v19 v4
  let c128_i32_4 : BitVec 32 := 128#32
  let v21 : BitVec 32 := Scalar.muli v20 c128_i32_4
  let v22 : BitVec 32 := v21
  let v64 : Index := Scalar.indexCast v22
  ![0, v64.toNat]

def k0_chk1 (i : grid0.Coords) (v1 : BitVec 32) : Prop :=
  (128 ∣ (k0_mult1 v1).toNat) ∧
  (∀ (k0_h2 : k0_cond2 i = 1#1), ∀ a, (k0_off3 v1) a + S1x448.size a ≤ S1x4544.size a) ∧
  (∀ (k0_h3 : k0_cond3 i = 1#1), ∀ a, (k0_off4 v1) a + S1x448.size a ≤ S1x4544.size a)
theorem k0_mult1_dvd : ∀ (i : grid0.Coords) (v1 : BitVec 32) (k0_hw1 : k0_chk1 i v1), 128 ∣ (k0_mult1 v1).toNat := fun i v1 k0_hw1 => k0_hw1.1
theorem k0_off3_inb : ∀ (i : grid0.Coords) (v1 : BitVec 32) (k0_hw1 : k0_chk1 i v1), ∀ (k0_h2 : k0_cond2 i = 1#1), ∀ a, (k0_off3 v1) a + S1x448.size a ≤ S1x4544.size a := fun i v1 k0_hw1 k0_h2 => k0_hw1.2.1 k0_h2
theorem k0_off4_inb : ∀ (i : grid0.Coords) (v1 : BitVec 32) (k0_hw1 : k0_chk1 i v1), ∀ (k0_h3 : k0_cond3 i = 1#1), ∀ a, (k0_off4 v1) a + S1x448.size a ≤ S1x4544.size a := fun i v1 k0_hw1 k0_h3 => k0_hw1.2.2 k0_h3

def k0_cond1 (i : grid0.Coords) : BitVec 1 :=
  let arg0 : BitVec 32 := BitVec.ofNat 32 (i 0).val
  let c0_i32_11 : BitVec 32 := 0#32
  let v36 : BitVec 1 := Scalar.cmpi .eq arg0 c0_i32_11
  let arg1 : BitVec 32 := BitVec.ofNat 32 (i 1).val
  let c0_i32_12 : BitVec 32 := 0#32
  let v37 : BitVec 1 := Scalar.cmpi .eq arg1 c0_i32_12
  let v38 : BitVec 1 := Scalar.andi v36 v37
  let v39 : BitVec 32 := Scalar.extui v38
  let c0_i32_13 : BitVec 32 := 0#32
  let v40 : BitVec 1 := Scalar.cmpi .ne v39 c0_i32_13
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4544 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== FfnRefIdeal.lean ====
abbrev S2048x1024 : Shape := ⟨2, ![2048, 1024]⟩
abbrev S1x4544 : Shape := ⟨2, ![1, 4544]⟩
abbrev S2x8 : Shape := ⟨2, ![2, 8]⟩
abbrev S8x1024x4096 : Shape := ⟨3, ![8, 1024, 4096]⟩
abbrev S8x4096x1024 : Shape := ⟨3, ![8, 4096, 1024]⟩
abbrev S4544 : Shape := ⟨1, ![4544]⟩
abbrev S1x8 : Shape := ⟨2, ![1, 8]⟩
abbrev S8 : Shape := ⟨1, ![8]⟩
abbrev S8x1 : Shape := ⟨2, ![8, 1]⟩
abbrev S8x4544 : Shape := ⟨2, ![8, 4544]⟩
abbrev S2048 : Shape := ⟨1, ![2048]⟩
abbrev S2048x1 : Shape := ⟨2, ![2048, 1]⟩
abbrev S2048x4544 : Shape := ⟨2, ![2048, 4544]⟩
abbrev S8x1x4544 : Shape := ⟨3, ![8, 1, 4544]⟩
abbrev S1x2048x4544 : Shape := ⟨3, ![1, 2048, 4544]⟩
abbrev S8x2048x4544 : Shape := ⟨3, ![8, 2048, 4544]⟩
abbrev S_ : Shape := ⟨0, ![]⟩
abbrev S8x2048 : Shape := ⟨2, ![8, 2048]⟩
abbrev S8x4096x2048 : Shape := ⟨3, ![8, 4096, 2048]⟩
abbrev S8x2048x4096 : Shape := ⟨3, ![8, 2048, 4096]⟩
abbrev S8x2048x1024 : Shape := ⟨3, ![8, 2048, 1024]⟩
abbrev S8x2048x1 : Shape := ⟨3, ![8, 2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4544, .f32⟩
  | .hbm, ⟨2, _⟩ => ⟨S2x8, .i32⟩
  | .hbm, ⟨3, _⟩ => ⟨S8x1024x4096, .f32⟩
  | .hbm, ⟨4, _⟩ => ⟨S8x4096x1024, .f32⟩
  | .hbm, ⟨5, _⟩ => ⟨S4544, .f32⟩
  | .hbm, ⟨6, _⟩ => ⟨S4544, .f32⟩
  | .hbm, ⟨7, _⟩ => ⟨S4544, .f32⟩
  | .hbm, ⟨8, _⟩ => ⟨S4544, .f32⟩
  | .hbm, ⟨9, _⟩ => ⟨S4544, .i32⟩
  | .hbm, ⟨10, _⟩ => ⟨S1x8, .i32⟩
  | .hbm, ⟨11, _⟩ => ⟨S8, .i32⟩
  | .hbm, ⟨12, _⟩ => ⟨S8x1, .i32⟩
  | .hbm, ⟨13, _⟩ => ⟨S1x4544, .i32⟩
  | .hbm, ⟨14, _⟩ => ⟨S8x4544, .i32⟩
  | .hbm, ⟨15, _⟩ => ⟨S8x4544, .i32⟩
  | .hbm, ⟨16, _⟩ => ⟨S8x4544, .i1⟩
  | .hbm, ⟨17, _⟩ => ⟨S1x8, .i32⟩
  | .hbm, ⟨18, _⟩ => ⟨S8, .i32⟩
  | .hbm, ⟨19, _⟩ => ⟨S1x8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S1x4544, .i32⟩
  | .hbm, ⟨24, _⟩ => ⟨S8x4544, .i32⟩
  | .hbm, ⟨25, _⟩ => ⟨S8x4544, .i32⟩
  | .hbm, ⟨26, _⟩ => ⟨S8x4544, .i1⟩
  | .hbm, ⟨27, _⟩ => ⟨S8x4544, .i1⟩
  | .hbm, ⟨28, _⟩ => ⟨S4544, .i32⟩
  | .hbm, ⟨29, _⟩ => ⟨S1x4544, .i32⟩
  | .hbm, ⟨30, _⟩ => ⟨S2048, .i32⟩
  | .hbm, ⟨31, _⟩ => ⟨S2048x1, .i32⟩
  | .hbm, ⟨32, _⟩ => ⟨S2048x4544, .i32⟩
  | .hbm, ⟨33, _⟩ => ⟨S2048x4544, .i32⟩
  | .hbm, ⟨34, _⟩ => ⟨S2048x4544, .i1⟩
  | .hbm, ⟨35, _⟩ => ⟨S8x1x4544, .i1⟩
  | .hbm, ⟨36, _⟩ => ⟨S1x2048x4544, .i1⟩
  | .hbm, ⟨37, _⟩ => ⟨S8x2048x4544, .i1⟩
  | .hbm, ⟨38, _⟩ => ⟨S8x2048x4544, .i1⟩
  | .hbm, ⟨39, _⟩ => ⟨S8x2048x4544, .i1⟩
  | .hbm, ⟨40, _⟩ => ⟨S_, .f32⟩
  | .hbm, ⟨41, _⟩ => ⟨S_, .f32⟩
  | .hbm, ⟨42, _⟩ => ⟨S8x2048x4544, .f32⟩
  | .hbm, ⟨43, _⟩ => ⟨S8x2048x4544, .f32⟩
  | .hbm, ⟨44, _⟩ => ⟨S8x2048x4544, .f32⟩
  | .hbm, ⟨45, _⟩ => ⟨S_, .f32⟩
  | .hbm, ⟨46, _⟩ => ⟨S8x2048, .f32⟩
  | .hbm, ⟨47, _⟩ => ⟨S2048x1024, .f32⟩
  | .hbm, ⟨48, _⟩ => ⟨S8x4096x2048, .f32⟩
  | .hbm, ⟨49, _⟩ => ⟨S8x2048x4096, .f32⟩
  | .hbm, ⟨50, _⟩ => ⟨S_, .f32⟩
  | .hbm, ⟨51, _⟩ => ⟨S8x2048x4096, .f32⟩
  | .hbm, ⟨52, _⟩ => ⟨S8x2048x4096, .f32⟩
  | .hbm, ⟨53, _⟩ => ⟨S8x2048x1024, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Swap.lean ====
/-
# A swap between paired devices, with an entry handshake: its protocol once for every such kernel

Devices are paired by an involution `peer`. Each device has a fixed list of semaphore cells, each of which is raised
exactly once in a launch, by the device itself (the departure of a transfer it issues) or by its peer (the handshake's
signal, the arrival of a transfer). This module states that protocol over an arbitrary list of cells (`Plan`) under the
rounds library — one round, one duty per cell — and proves once: what a device owes and holds at launch, the order in
which it may wait, the rules for a signal, a transfer and a wait, and how the launch deals the protocol's ghost state.
-/
module

public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The protocol's copy of the rounds algebra: one duty per cell. -/
abbrev UB (nD : Nat) (τ : Topo) (sig : RefSig) : Type := URounds (GSem nD τ sig) Unit
/-- The pipeline library's copy beside it. -/
abbrev UU (nD : Nat) (τ : Topo) (sig : RefSig) : Type := UR sig nD τ × UB nD τ sig

/-- The assertions' resources for a kernel over `Val`. -/
abbrev MM (nD : Nat) (τ : Topo) (sig : RefSig) (Val : EltTy → Type) : Type := MT nD τ sig Unit Val ℕ (UU nD τ sig) ℕ

variable (nD : Nat) (τ : Topo) (sig : RefSig) (Val : EltTy → Type)

abbrev EP : Emb (UR sig nD τ) (MM nD τ sig Val) := embL
abbrev ER : Emb (UB nD τ sig) (MM nD τ sig Val) := embR

/-- The data of a swap: who is paired with whom, the cells of a device, the units each is raised by, which of them the
    PEER raises, the level at which a device waits on each, and what the units hand to the waiting device. -/
structure Plan (n : ℕ) where
  peer : Dev nD → Dev nD
  peer_peer : ∀ c, peer (peer c) = c
  sem : Fin n → SemLoc sig
  sem_inj : Function.Injective sem
  amt : Fin n → ℕ
  amt_pos : ∀ k, 0 < amt k
  crossed : Fin n → Bool
  lev : Fin n → ℕ
  pay : Dev nD → Fin n → sProp (MM nD τ sig Val)
  storable : ∀ c k, BI.Storable (upEmb : UEmb _ (MM nD τ sig Val)) (pay c k)

variable {nD τ sig Val}

namespace Plan

local notation "𝕄" => MM nD τ sig Val

variable {n : ℕ} (P : Plan nD τ sig Val n)

/-- Device `c`'s `k`-th cell. -/
abbrev cell (c : Dev nD) (k : Fin n) : GSem nD τ sig := ((c : Thread nD τ), P.sem k)
/-- The device whose `k`-th cell device `c` raises: its peer for a crossed cell, itself otherwise. -/
def tgt (c : Dev nD) (k : Fin n) : Dev nD := if P.crossed k then P.peer c else c

theorem tgt_tgt (c : Dev nD) (k : Fin n) : P.tgt (P.tgt c k) k = c := by
  unfold tgt; split
  · exact P.peer_peer c
  · rfl
theorem tgt_crossed (c : Dev nD) {k : Fin n} (h : P.crossed k = true) : P.tgt c k = P.peer c := if_pos h
theorem tgt_own (c : Dev nD) {k : Fin n} (h : P.crossed k = false) : P.tgt c k = c := if_neg (by rw [h]; exact Bool.false_ne_true)

theorem cell_eq_iff {c d : Dev nD} {k j : Fin n} : P.cell c k = P.cell d j ↔ c = d ∧ k = j :=
  ⟨fun h => ⟨congrArg (fun g : GSem nD τ sig => g.1.1) h, P.sem_inj (congrArg Prod.snd h)⟩, fun ⟨h, h'⟩ => by rw [h, h']⟩

open Classical in
/-- The value of `f` at the index of a semaphore, `d` for a semaphore that is none of the plan's. -/
def at' {β : Sort _} (f : Fin n → β) (d : β) (s : SemLoc sig) : β := if h : ∃ k, P.sem k = s then f h.choose else d

theorem at_sem {β : Sort _} (f : Fin n → β) (d : β) (k : Fin n) : P.at' f d (P.sem k) = f k := by
  have h : ∃ j, P.sem j = P.sem k := ⟨k, rfl⟩
  unfold at'; rw [dif_pos h, P.sem_inj h.choose_spec]

theorem at_other {β : Sort _} (f : Fin n → β) (d : β) {s : SemLoc sig} (h : ∀ k, P.sem k ≠ s) : P.at' f d s = d := by
  unfold at'; exact dif_neg (fun ⟨k, hk⟩ => h k hk)

open Classical in
/-- One round, round 0, of one duty, at each of the plan's cells. -/
def sched : Rounds.Schedule (GSem nD τ sig) Unit 𝕄 where
  duties g r := if r = 0 ∧ g.1.2 = .tc ∧ ∃ k, P.sem k = g.2 then {()} else ∅
  unitless _ := False
  amount g _ _ := P.at' P.amt 1 g.2
  payload g _ _ := P.at' (P.pay g.1.1) iprop(emp) g.2
  amount_pos g _ _ _ := by
    unfold at'; split
    · exact P.amt_pos _
    · exact Nat.one_pos

instance sched_storable (g : GSem nD τ sig) (r : ℕ) (d : Unit) : BI.Storable (upEmb : UEmb _ 𝕄) (P.sched.payload g r d) := by
  show BI.Storable upEmb (P.at' (P.pay g.1.1) iprop(emp) g.2)
  unfold at'; split
  · exact P.storable _ _
  · infer_instance

theorem duties_cell (c : Dev nD) (k : Fin n) : P.sched.duties (P.cell c k) 0 = {()} := by
  dsimp only [sched]; exact if_pos ⟨rfl, rfl, k, rfl⟩
theorem duties_later (g : GSem nD τ sig) : ∀ r, 1 ≤ r → P.sched.duties g r = ∅ :=
  fun r hr => by dsimp only [sched]; exact if_neg fun h => by omega
theorem amount_cell (c : Dev nD) (k : Fin n) : P.sched.amount (P.cell c k) 0 () = P.amt k := P.at_sem P.amt 1 k
theorem payload_cell (c : Dev nD) (k : Fin n) : P.sched.payload (P.cell c k) 0 () = P.pay c k := P.at_sem (P.pay c) _ k
theorem expect_cell (c : Dev nD) (k : Fin n) : P.sched.expect (P.cell c k) 0 = P.amt k := by
  unfold Schedule.expect Schedule.amountOf; rw [duties_cell, Finset.sum_singleton, amount_cell]
theorem rest_cell (c : Dev nD) (k : Fin n) :
    bigSep (P.sched.duties (P.cell c k) 0 \ ∅) (fun d => P.sched.payload (P.cell c k) 0 d) = P.pay c k := by
  rw [Finset.sdiff_empty, duties_cell, bigSep_singleton, payload_cell]

/-! ## What a device owes; the levels -/

/-- What device `c` still owes its peer: the units of the cells in `S`. -/
def owe (S : Finset (Fin n)) (c : Dev nD) : CellTallies nD τ sig Unit := ∑ k ∈ S, tallyAt (P.cell (P.peer c) k) () (P.amt k)

/-- The cells a device raises at its peer. -/
def cross : Finset (Fin n) := Finset.univ.filter fun k => P.crossed k = true

theorem owe_empty (c : Dev nD) : P.owe ∅ c = 0 := Finset.sum_empty

/-- Paying one of them. -/
theorem owe_erase {S S' : Finset (Fin n)} {k : Fin n} (hk : k ∈ S) (hS : S' = S.erase k) (c : Dev nD) :
    P.owe S c = P.owe S' c + tallyAt (P.cell (P.peer c) k) () (P.amt k) := by
  subst hS; unfold owe; exact (Finset.sum_erase_add S _ hk).symm

theorem owe_apply (S : Finset (Fin n)) (c : Dev nD) (g : GSem nD τ sig) :
    P.owe S c g () = ∑ k ∈ S, if g = P.cell (P.peer c) k then P.amt k else 0 := by
  unfold owe
  rw [Finset.sum_apply, Finsupp.finset_sum_apply]
  exact Finset.sum_congr rfl fun k _ => by rw [tallyAt_apply]; exact if_congr (by simp) rfl rfl

theorem owe_cell (S : Finset (Fin n)) (c d : Dev nD) (k : Fin n) :
    P.owe S c (P.cell d k) () = if c = P.peer d ∧ k ∈ S then P.amt k else 0 := by
  rw [owe_apply]
  by_cases h : c = P.peer d
  · subst h
    simp only [P.peer_peer, cell_eq_iff, true_and, Finset.sum_ite_eq]
  · rw [if_neg (fun h' => h h'.1)]
    exact Finset.sum_eq_zero fun j _ => if_neg fun h' => h (by rw [(P.cell_eq_iff.mp h').1, P.peer_peer])

theorem owe_pos {S : Finset (Fin n)} {c : Dev nD} {g : GSem nD τ sig} {u : Unit} (h : 0 < P.owe S c g u) :
    ∃ k ∈ S, g = P.cell (P.peer c) k := by
  rw [show u = () from rfl, owe_apply] at h
  obtain ⟨k, hk, hp⟩ := Finset.exists_ne_zero_of_sum_ne_zero (Nat.pos_iff_ne_zero.mp h)
  exact ⟨k, hk, by by_contra hg; exact hp (if_neg hg)⟩

/-- Every TensorCore cell is at the one index. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The plan's levels; every other semaphore is at level 0. -/
def lv (g : GSem nD τ sig) (_ : Unit) : ℕ := P.at' P.lev 0 g.2

/-- A device may wait on a semaphore below every cell it still owes. -/
theorem mayWait {c : Dev nD} {sm : SemLoc sig} {S : Finset (Fin n)} (h : ∀ k ∈ S, P.at' P.lev 0 sm < P.lev k) :
    (levAts L P.lv : sProp 𝕄) ⊢ MayWait (c : Thread nD τ) sm () (P.owe S c) :=
  MayOwe.of_cut (L := L) (lev := P.lv) (P.at' P.lev 0 sm)
    (fun p hp => by rw [Finset.mem_singleton.mp hp, L_tc]; exact Finset.mem_singleton_self _)
    (fun g u hg => by obtain ⟨k, hk, rfl⟩ := P.owe_pos hg; exact Finset.mem_singleton_self _)
    (fun p hp => by rw [Finset.mem_singleton.mp hp]; exact le_rfl)
    (fun g u hg => by obtain ⟨k, hk, rfl⟩ := P.owe_pos hg; unfold lv; rw [at_sem]; exact h k hk)

/-! ## The ghost state -/

/-- Every cell's invariant, at the names `K`, and that every cell has reached round 0. -/
def records (K : Dev nD × Fin n → ℕ) : sProp 𝕄 :=
  iprop((bigSep Finset.univ fun ck : Dev nD × Fin n => cellInv (ER nD τ sig Val) P.sched (K ck) (P.cell ck.1 ck.2))
    ∗ bigSep Finset.univ fun ck : Dev nD × Fin n => reached (ER nD τ sig Val) (P.cell ck.1 ck.2) 0)

instance records_persistent (K : Dev nD × Fin n → ℕ) : BI.Persistent (P.records K) := by unfold records; infer_instance

theorem records_inv (K : Dev nD × Fin n → ℕ) (c : Dev nD) (k : Fin n) :
    P.records K ⊢ cellInv (ER nD τ sig Val) P.sched (K (c, k)) (P.cell c k) := by
  unfold records
  iintro ⟨H, -⟩
  iapply (show (bigSep Finset.univ fun ck : Dev nD × Fin n => (cellInv (ER nD τ sig Val) P.sched (K ck) (P.cell ck.1 ck.2) : sProp 𝕄))
    ⊢ cellInv (ER nD τ sig Val) P.sched (K (c, k)) (P.cell c k) from bigSep_elim (Finset.mem_univ (c, k)))
  iexact H

theorem records_reached (K : Dev nD × Fin n → ℕ) (c : Dev nD) (k : Fin n) :
    P.records K ⊢ reached (ER nD τ sig Val) (P.cell c k) 0 := by
  unfold records
  iintro ⟨-, H⟩
  iapply (show (bigSep Finset.univ fun ck : Dev nD × Fin n => (reached (ER nD τ sig Val) (P.cell ck.1 ck.2) 0 : sProp 𝕄))
    ⊢ reached (ER nD τ sig Val) (P.cell c k) 0 from bigSep_elim (Finset.mem_univ (c, k)))
  iexact H

/-- Device `c`'s position at the start of its `k`-th cell. -/
abbrev pos (c : Dev nD) (k : Fin n) : sProp 𝕄 := atPos (ER nD τ sig Val) (P.cell c k) 0 ∅ 0
/-- The token of the duty device `c` pays at its (or its peer's) `k`-th cell. -/
abbrev tok (c : Dev nD) (k : Fin n) : sProp 𝕄 := dutyTok (ER nD τ sig Val) (P.cell (P.tgt c k) k) 0 ()

/-- What device `c` starts with: the records at some names, its positions, and the tokens it pays with. -/
def ghost (c : Dev nD) : sProp 𝕄 :=
  iprop(∃ K, P.records K ∗ (bigSep Finset.univ fun k => P.pos c k) ∗ bigSep Finset.univ fun k => P.tok c k)

/-- What device `c` owes, the units of the cells in `S`, whatever it has waited on so far. -/
def owes' (S : Finset (Fin n)) (c : Dev nD) : sProp 𝕄 := iprop(∃ W, owes (c : Thread nD τ) (P.owe S c) W)

/-- The credit with which device `c` waits on its `k`-th cell. -/
abbrev crd (c : Dev nD) (k : Fin n) : sProp 𝕄 := cred (tallyAt (P.cell c k) () (P.amt k))

/-! ## The rules -/

section Rules

variable {Λ : Labels} (defs : Defs nD τ sig Val Λ) (𝒱 : Variants) (K : Dev nD × Fin n → ℕ)
variable {α : Type}

/-- The handshake: a signal to the peer's crossed cell `k`, with its payload. -/
theorem wp_signal {Φ : α → sProp (MM nD τ sig Val)} (c d : Dev nD) (hd : d = P.peer c) (k : Fin n) {s : Sem sig} (hs : P.sem k = .reg s) (hc : P.crossed k = true)
    {u : ℕ} (hu : P.amt k = u) {S S' : Finset (Fin n)} (hk : k ∈ S) (hS : S' = S.erase k)
    {kk : PUnit → Prog (TpuEff nD τ sig Val Λ (c : Thread nD τ).2) α} (hr : τ.routes (c : Thread nD τ) (P.peer c : Thread nD τ) = true) :
    iprop(P.records K ∗ P.owes' S c ∗ P.tok c k ∗ P.pay (P.peer c) k)
      ⊢ iprop((P.owes' S' c -∗ wp frame (wpE defs 𝒱 (c : Thread nD τ) none) Set.univ (kk ⟨⟩) Φ)
          -∗ wp frame (wpE defs 𝒱 (c : Thread nD τ) none) Set.univ (.op (.semSignal (d : Thread nD τ) s u) kk) Φ) := by
  subst hd
  have hcell : P.cell (P.peer c) k = ((P.peer c : Thread nD τ), .reg s) := by rw [← hs]
  unfold owes' tok
  iintro ⟨#HR, ⟨%W, HO⟩, Ht, Hp⟩ Hk
  ihave #HI := (P.records_inv K (P.peer c) k) $$ HR
  ihave #Hr := (P.records_reached K (P.peer c) k) $$ HR
  rw [P.owe_erase hk hS c, P.tgt_crossed c hc]
  ihave Hp := (Entails.of_eq (P.payload_cell (P.peer c) k).symm) $$ Hp
  iapply (Rounds.wp_signal 𝒱 (ER nD τ sig Val) P.sched (c : Thread nD τ) none (dst := (P.peer c : Thread nD τ)) (κ := K (P.peer c, k)) (sem := s)
    (r := 0) (d := ()) (k' := u) (by rw [← hcell, duties_cell]; exact Finset.mem_singleton_self _) (by rw [← hcell, amount_cell, hu]) () (P.owe S' c)
    (O₀ := P.owe S' c + tallyAt (P.cell (P.peer c) k) () (P.amt k)) (by rw [hcell, hu]) (W := W) hr) $$ [HO Ht Hp]
  · rw [← hcell]
    isplitr; · iexact HI
    isplitl [HO]; · iexact HO
    isplitl [Ht]; · iexact Ht
    isplitl [Hp]; · iexact Hp
    iexact Hr
  iintro HO
  iapply Hk
  iexists W; iexact HO

/-- A wait for all the units of its cell `k`: the payload, and the cell is closed with its counter at zero. -/
theorem wp_wait {Φ : α → sProp (MM nD τ sig Val)} (c : Dev nD) (k : Fin n) {sm : SemLoc sig} (hs : P.sem k = sm) {u : ℕ} (hu : P.amt k = u) {S : Finset (Fin n)}
    (hS : ∀ j ∈ S, P.lev k < P.lev j) {w : TpuEff nD τ sig Val Λ (c : Thread nD τ).2 PUnit}
    (hw : ∀ R : PUnit → sProp 𝕄, wpE defs 𝒱 (c : Thread nD τ) none Set.univ w R = waitSpec (c : Thread nD τ) Set.univ sm u R)
    {kk : PUnit → Prog (TpuEff nD τ sig Val Λ (c : Thread nD τ).2) α} :
    iprop(P.records K ∗ levAts L P.lv ∗ P.crd c k ∗ P.owes' S c ∗ P.pos c k)
      ⊢ iprop(((P.owes' S c ∗ semVal (P.cell c k) 0 ∗ P.pay c k) -∗ wp frame (wpE defs 𝒱 (c : Thread nD τ) none) Set.univ (kk ⟨⟩) Φ)
          -∗ wp frame (wpE defs 𝒱 (c : Thread nD τ) none) Set.univ (.op w kk) Φ) := by
  subst hs hu
  unfold owes'
  iintro ⟨#HR, #Hlev, Hc, ⟨%W, HO⟩, Hat⟩ Hk
  ihave #HI := (P.records_inv K c k) $$ HR
  iapply (Rounds.wp_wait_rest_token 𝒱 (ER nD τ sig Val) P.sched (c : Thread nD τ) none (κ := K (c, k))
      hw (Set.mem_univ _) () (O := P.owe S c) (W := W) (R := 0) (m := 0) (T := ∅)
      (by rw [Nat.zero_add, expect_cell])) $$ [Hc HO Hat]
  · isplitr; · iexact HI
    isplitl [Hc]; · iexact Hc
    isplitl [HO]; · iexact HO
    isplitr
    · iapply (P.mayWait (c := c) (sm := P.sem k) (S := S) (by rw [at_sem]; exact hS)); iexact Hlev
    iexact Hat
  iintro ⟨HO, Hat, -, Hpay⟩
  ihave Hp := (Entails.of_eq (P.rest_cell c k)) $$ Hpay
  imod (Rounds.cell_close (ER nD τ sig Val) P.sched (Set.mem_univ (K (c, k))) (fun h => h) (R := 0 + 1) (P.duties_later (P.cell c k))) $$ [Hat] with Hz
  · isplitr; · iexact HI
    iexact Hat
  iapply Hk
  isplitl [HO]
  · iexists (insert (P.sem k, ()) W); iexact HO
  isplitl [Hz] <;> iassumption

variable {sp sp' : Space} {s : Shape} {e : EltTy}

/-- A transfer to the peer: it departs by the device's own cell `ks` and arrives by the peer's crossed cell `kr`. -/
theorem wp_send {Φ : α → sProp (MM nD τ sig Val)} (c d : Dev nD) (hd : d = P.peer c) (ks kr : Fin n) {sS sR : DmaSem sig} (hsS : P.sem ks = .dma sS) (hsR : P.sem kr = .dma sR)
    (hcs : P.crossed ks = false) (hcr : P.crossed kr = true)
    {src : Memref sig (c : Thread nD τ).2.kind sp s e} {dst : Memref sig (d : Thread nD τ).2.kind sp' s e} {hsc : dst.view.ref.isScScratch = false}
    {hsrc : src.view.WordExact} {hdst : dst.view.WordExact} {hsem : DmaTarget.Typed sp (.dma sR) (.remote (d : Thread nD τ) dst (.dma sS) hsc)}
    (hks : P.amt ks = dst.view.dmaCredit) (hkr : P.amt kr = dst.view.dmaCredit)
    {S S' : Finset (Fin n)} (hk : kr ∈ S) (hS : S' = S.erase kr)
    {q : PosShare TreeShare} {fs : Buf Val (src.view.loc (c : Thread nD τ))} {fd : Buf Val (dst.view.loc (d : Thread nD τ))}
    (hpay₁ : (src.view.loc (c : Thread nD τ) ↦[src.view.set]{q} fs) ⊢ P.pay c ks)
    (hpay₂ : (dst.view.loc (d : Thread nD τ) ↦[dst.view.set]{fullShare} (dst.view.write Val fd (src.view.read Val fs) Finset.univ)) ⊢ P.pay d kr)
    {kk : PUnit → Prog (TpuEff nD τ sig Val Λ (c : Thread nD τ).2) α} (hr : τ.routes (c : Thread nD τ) (d : Thread nD τ) = true) :
    iprop(P.records K ∗ P.owes' S c ∗ P.tok c ks ∗ P.tok c kr ∗ (src.view.loc (c : Thread nD τ) ↦[src.view.set]{q} fs)
        ∗ (dst.view.loc (d : Thread nD τ) ↦[dst.view.set]{fullShare} fd))
      ⊢ iprop(((P.crd c ks ∗ P.owes' S' c) -∗ wp frame (wpE defs 𝒱 (c : Thread nD τ) none) Set.univ (kk ⟨⟩) Φ)
          -∗ wp frame (wpE defs 𝒱 (c : Thread nD τ) none) Set.univ
              (.op (.enqueueDma src (.remote (d : Thread nD τ) dst (.dma sS) hsc) (.dma sR) hsrc hdst hsem) kk) Φ) := by
  have hcellS : P.cell c ks = ((c : Thread nD τ), .dma sS) := by rw [← hsS]
  have hcellR : P.cell d kr = ((d : Thread nD τ), .dma sR) := by rw [← hsR]
  unfold owes' tok
  iintro ⟨#HR, ⟨%W, HO⟩, HtS, HtR, Hs, Hd⟩ Hk
  ihave #HIS := (P.records_inv K c ks) $$ HR
  ihave #HIR := (P.records_inv K d kr) $$ HR
  ihave #HrS := (P.records_reached K c ks) $$ HR
  ihave #HrR := (P.records_reached K d kr) $$ HR
  rw [P.owe_erase hk hS c, P.tgt_own c hcs, P.tgt_crossed c hcr, ← hd]
  iapply (Rounds.wp_send_pointsTo 𝒱 (ER nD τ sig Val) P.sched (c : Thread nD τ) none (κ₁ := K (c, ks)) (κ₂ := K (d, kr))
    (r₁ := 0) (r₂ := 0) (d₁ := ()) (d₂ := ()) (fs := fs) (fd := fd)
    (by rw [← hcellS, duties_cell]; exact Finset.mem_singleton_self _) (by rw [← hcellR, duties_cell]; exact Finset.mem_singleton_self _)
    () () dst.view.dmaCredit rfl (by rw [← hcellS, amount_cell, hks]) (by rw [← hcellR, amount_cell, hkr]) (P.owe S' c)
    (O₀ := P.owe S' c + tallyAt (P.cell d kr) () (P.amt kr)) (by rw [hcellR, hkr]) (W := W)
    (by rw [← hcellS, payload_cell]; exact hpay₁)
    (by rw [← hcellR, payload_cell]; exact hpay₂) hr) $$ [HO HtS HtR Hs Hd]
  · rw [← hcellS, ← hcellR]
    isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]
  · unfold crd; rw [hks, hcellS]; iexact Hc
  iexists W; iexact HO

end Rules

/-! ## The launch -/

/-- The plan's cells, all devices'. -/
def cells : Finset (GSem nD τ sig) := Finset.univ.map ⟨fun ck : Dev nD × Fin n => P.cell ck.1 ck.2, fun a b h => Prod.ext (P.cell_eq_iff.mp h).1 (P.cell_eq_iff.mp h).2⟩
/-- Their duty tokens. -/
def toks : Finset (GSem nD τ sig × ℕ × Unit) :=
  Finset.univ.map ⟨fun ck : Dev nD × Fin n => (P.cell ck.1 ck.2, 0, ()), fun a b h =>
    Prod.ext (P.cell_eq_iff.mp (congrArg Prod.fst h)).1 (P.cell_eq_iff.mp (congrArg Prod.fst h)).2⟩

/-- What the launch deals device `c`: its own cells' round states, positions, reached-marks and tokens. -/
def deal (c : Dev nD) : sProp 𝕄 :=
  iprop((bigSep Finset.univ fun k => roundState (ER nD τ sig Val) P.sched (P.cell c k) 0)
    ∗ (bigSep Finset.univ fun k => reached (ER nD τ sig Val) (P.cell c k) 0)
    ∗ (bigSep Finset.univ fun k => P.pos c k)
    ∗ bigSep Finset.univ fun k => dutyTok (ER nD τ sig Val) (P.cell c k) 0 ())

theorem fund : BI.own (ER nD τ sig Val (initOf P.cells P.toks)) ⊢ (|==> bigSep Finset.univ P.deal : sProp 𝕄) := by
  have hX (Φ : GSem nD τ sig → sProp 𝕄) : bigSep P.cells Φ = bigSep Finset.univ fun c : Dev nD => bigSep Finset.univ fun k : Fin n => Φ (P.cell c k) := by
    unfold cells; rw [bigSep_map, bigSep_univ_prod]; rfl
  have hT : bigSep P.toks (fun x => (dutyTok (ER nD τ sig Val) x.1 x.2.1 x.2.2 : sProp 𝕄))
      = bigSep Finset.univ fun c : Dev nD => bigSep Finset.univ fun k : Fin n => dutyTok (ER nD τ sig Val) (P.cell c k) 0 () := by
    unfold toks; rw [bigSep_map, bigSep_univ_prod]; rfl
  iintro HX
  imod (Rounds.fund (ER nD τ sig Val) P.sched P.cells P.toks) $$ HX with ⟨Hst, Hr, Hat, Htok⟩
  imodintro
  ihave Hst' := (Entails.of_eq (hX fun g => roundState (ER nD τ sig Val) P.sched g 0)) $$ Hst
  ihave Hat' := (Entails.of_eq (hX fun g => atPos (ER nD τ sig Val) g 0 ∅ 0)) $$ Hat
  ihave Hr' := (Entails.of_eq (hX fun g => reached (ER nD τ sig Val) g 0)) $$ Hr
  ihave Htok' := (Entails.of_eq hT) $$ Htok
  unfold deal; simp only [bigSep_sep']
  isplitl [Hst']; · iexact Hst'
  isplitl [Hr']; · iexact Hr'
  isplitl [Hat']; · iexact Hat'
  iexact Htok'

/-- A device's counters at zero and its round states make its cells' invariants. -/
theorem alloc (c : Dev nD) :
    iprop((bigSep Finset.univ fun k => semVal (P.cell c k) 0) ∗ P.deal c)
      ⊢ |={Set.univ}=> iprop((bigSep Finset.univ fun k => iprop(∃ κ : ℕ, cellInv (ER nD τ sig Val) P.sched κ (P.cell c k)))
          ∗ (bigSep Finset.univ fun k => reached (ER nD τ sig Val) (P.cell c k) 0) ∗ (bigSep Finset.univ fun k => P.pos c k)
          ∗ bigSep Finset.univ fun k => dutyTok (ER nD τ sig Val) (P.cell c k) 0 ()) := by
  unfold deal
  iintro ⟨Hv, Hst, Hr, Hat, Htok⟩
  imod (show iprop((bigSep Finset.univ fun k : Fin n => semVal (P.cell c k) 0) ∗ bigSep Finset.univ fun k : Fin n => roundState (ER nD τ sig Val) P.sched (P.cell c k) 0)
      ⊢ (|={Set.univ}=> bigSep Finset.univ fun k => iprop(∃ κ : ℕ, cellInv (ER nD τ sig Val) P.sched κ (P.cell c k)) : sProp 𝕄) from by
        rw [← bigSep_sep']
        exact (bigSep_mono fun k _ => (Rounds.body_intro (ER nD τ sig Val) P.sched (P.cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The tokens dealt across the pairs: each crossed cell's token to the peer. -/
theorem toks_across :
    (bigSep Finset.univ fun c : Dev nD => bigSep Finset.univ fun k : Fin n => (dutyTok (ER nD τ sig Val) (P.cell c k) 0 () : sProp 𝕄))
      = bigSep Finset.univ fun c : Dev nD => bigSep Finset.univ fun k : Fin n => P.tok c k := by
  let e : Dev nD × Fin n ≃ Dev nD × Fin n := ⟨fun ck => (P.tgt ck.1 ck.2, ck.2), fun ck => (P.tgt ck.1 ck.2, ck.2),
    fun ck => Prod.ext (P.tgt_tgt ck.1 ck.2) rfl, fun ck => Prod.ext (P.tgt_tgt ck.1 ck.2) rfl⟩
  rw [← bigSep_univ_prod (fun ck : Dev nD × Fin n => (dutyTok (ER nD τ sig Val) (P.cell ck.1 ck.2) 0 () : sProp 𝕄)),
    bigSep_univ_equiv e, ← bigSep_univ_prod (fun ck : Dev nD × Fin n => (P.tok ck.1 ck.2 : sProp 𝕄))]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv (ER nD τ sig Val) P.sched κ (P.cell c k)))
          ∗ (bigSep Finset.univ fun k => reached (ER nD τ sig Val) (P.cell c k) 0) ∗ (bigSep Finset.univ fun k => P.pos c k)
          ∗ bigSep Finset.univ fun k => dutyTok (ER nD τ sig Val) (P.cell c k) 0 ()) : sProp 𝕄)
      ⊢ bigSep Finset.univ P.ghost := by
  rw [bigSep_sep', bigSep_sep', bigSep_sep',
    ← bigSep_univ_prod (fun ck : Dev nD × Fin n => iprop(∃ κ : ℕ, cellInv (ER nD τ sig Val) P.sched κ (P.cell ck.1 ck.2))),
    ← bigSep_univ_prod (fun ck : Dev nD × Fin n => (reached (ER nD τ sig Val) (P.cell ck.1 ck.2) 0 : sProp 𝕄)), P.toks_across]
  iintro ⟨HI, #HR, Hat, Htok⟩
  ihave HK := (BI.bigSep_exists_pi Finset.univ (fun (ck : Dev nD × Fin n) (κ : ℕ) => (cellInv (ER nD τ sig Val) P.sched κ (P.cell ck.1 ck.2) : sProp 𝕄))) $$ HI
  icases HK with ⟨%K, #HI⟩
  iapply (bigSep_with_persistent (R := P.records K)
    (Φ := fun c => iprop((bigSep Finset.univ fun k => P.pos c k) ∗ bigSep Finset.univ fun k => P.tok c k)) fun c _ => by
      unfold ghost
      iintro ⟨#HR, H1, H2⟩
      iexists K
      isplitr; · iexact HR
      isplitl [H1] <;> iassumption)
  isplitr
  · unfold records
    isplitr; · iexact HI
    iexact HR
  rw [bigSep_sep']
  isplitl [Hat] <;> iassumption

/-- The launch's step over all devices at once. -/
theorem glob {Z : Dev nD → sProp 𝕄} (hZ : ∀ c, Z c ⊢ bigSep Finset.univ fun k => semVal (P.cell c k) 0) :
    (bigSep Finset.univ fun c => iprop(Z c ∗ P.deal c) : sProp 𝕄) ⊢ |={Set.univ}=> bigSep Finset.univ P.ghost :=
  ((bigSep_mono fun c _ => (sep_mono_left (hZ c)).trans (P.alloc c)).trans (bigSep_fupd _ _)).trans (BI.fupd_mono P.regroup)

/-- What the peers owe device `c` at launch, as the credit it waits with on its crossed cells. -/
theorem launch_cell (c : Dev nD) {k : Fin n} (hk : P.crossed k = true) :
    tallyOn (P.cell c k) (launchCredit (Pipeline.owing (P.owe P.cross)) 0 (P.cell c k)) = (tallyAt (P.cell c k) () (P.amt k) : CellTallies nD τ sig Unit) := by
  have hm : k ∈ P.cross := Finset.mem_filter.mpr ⟨Finset.mem_univ _, hk⟩
  unfold tallyAt; refine congrArg _ (Finsupp.ext fun u => ?_); cases u
  rw [Pipeline.launchCredit_owing, Finsupp.single_eq_same, Finset.sum_congr rfl fun d _ => P.owe_cell P.cross d c k]
  simp only [hm, and_true, Finset.sum_ite_eq', Finset.mem_univ, if_true]

theorem creds (c : Dev nD) : (Pipeline.launchCred (P.owe P.cross) c : sProp 𝕄) ⊢ bigSep P.cross fun k => P.crd c k := by
  unfold Pipeline.launchCred
  refine (bigSep_subset (t := P.cross.map ⟨P.sem, P.sem_inj⟩) (Finset.subset_univ _)).trans ?_
  rw [bigSep_map]
  exact bigSep_mono fun k hk => Entails.of_eq (congrArg cred (P.launch_cell c (Finset.mem_filter.mp hk).2))

end Plan

end Cert.Swap

end
-- ==== Proof.CombineRun.lean ====
/-
# The run of the exchange of the experts' partial outputs

Every device casts the half of its partial outputs that belongs to its peer into a buffer, signals the peer's barrier
semaphore and waits for its own, sends the buffer to the peer, waits until it has left and until the peer's has landed,
and adds what landed to its own half. Stated over any float values, by the swap protocol of `Swap`: the launch
terminates, every semaphore counter is back at zero, the argument is unchanged and the result array holds the sum.
-/
module

public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Swap
public import Idealize.ShloMosaic.Lib.Quiescent
public import Idealize.ShloMosaic.Lib.Pipeline.CollectiveSegs

@[expose] public section

noncomputable section

namespace Cert.CombineProof

open Cert.CombineIdeal Cert.CombineIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Swap

variable {F : FTy → Type} [FloatOps F]

local notation "𝕄" => MM nD τ sig (Elt F)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairs -/

set_option backward.proofsInPublic true in
/-- The other device of the pair along the mesh's second axis. -/
def peer (c : Dev nD) : Dev nD := ⟨(8 * (c.val / 8) + (c.val % 4) + 4) - 4 * ((c.val / 4) % 2), by have := c.isLt; simp only [nD] at *; omega⟩

theorem peer_peer (c : Dev nD) : peer (peer c) = c := by
  apply Fin.ext; have := c.isLt; simp only [peer, nD] at *; omega

/-- The signal and the transfer both name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-! ## The memrefs and contents -/

abbrev xM : Memref sig .tc .vmem S2048x1024 .f32 := Memref.whole cc0_stg0_0
abbrev oM : Memref sig .tc .vmem S1024x1024 .f32 := Memref.whole cc0_stg1_0
abbrev sM : Memref sig .tc .vmem S1024x1024 .bf16 := Memref.whole cc0_scratch0
abbrev lM : Memref sig .tc .vmem S1024x1024 .bf16 := Memref.whole cc0_scratch1

abbrev N : ℕ := (lM : Memref sig .tc .vmem S1024x1024 .bf16).view.dmaCredit

/-- Device `c`'s staged partial outputs. -/
def xstg (c : Dev nD) : (cc0_stg0_0 : Ref sig .tc).ty.Contents (Elt F) :=
  (win0_0.blk (0 : Fin 1)).view.read (Elt F) ((s₀ m ρ).mem ((c : Thread nD τ).loc main_arg0))

/-- The half that belongs to the peer, -/
def theirs (c : Dev nD) : Vec F S1024x1024 .f32 :=
  (xM : Memref sig .tc .vmem S2048x1024 .f32).view.readAt (Elt F) (Rect.unit (s := S2048x1024) (k0_off1 c) S1024x1024.size (k0_off1_inb c)).toLoadRect (xstg m ρ c)
/-- and the device's own. -/
def mine (c : Dev nD) : Vec F S1024x1024 .f32 :=
  (xM : Memref sig .tc .vmem S2048x1024 .f32).view.readAt (Elt F) (Rect.unit (s := S2048x1024) (k0_off2 c) S1024x1024.size (k0_off2_inb c)).toLoadRect (xstg m ρ c)

/-- What device `c` sends: the peer's half, cast. -/
def sent (c : Dev nD) : (cc0_scratch0 : Ref sig .tc).ty.Contents (Elt F) := k0_pay2 (theirs m ρ c)
/-- What lands on device `c`. -/
def landed (c : Dev nD) : (cc0_scratch1 : Ref sig .tc).ty.Contents (Elt F) := sent m ρ (peer c)
/-- Device `c`'s result. -/
def outAt (c : Dev nD) : (cc0_stg1_0 : Ref sig .tc).ty.Contents (Elt F) := k0_pay1 (mine m ρ c) (landed m ρ c)

/-- A whole buffer of device `c` at given contents. -/
abbrev pts (c : Dev nD) (b : Ref sig .tc) (f : b.ty.Contents (Elt F)) : sProp 𝕄 :=
  (((c : Thread nD τ).loc b) ↦{fullShare} (f : Buf (Elt F) ((c : Thread nD τ).loc b)))

/-! ## The plan: the barrier, the departure, the arrival -/

abbrev barS : Sem sig := (SemArray.scalar (sig.barrier 2 rfl) : Sems sig S_).sem
abbrev csem : Fin 3 → SemLoc sig := fun | 0 => .reg barS | 1 => .dma cc0_scratch2.sem | 2 => .dma cc0_scratch3.sem

/-- The barrier's signal hands the peer's landing buffer, the departure the sent buffer back, the arrival what landed. -/
def pay (c : Dev nD) : Fin 3 → sProp 𝕄 := fun
  | 0 => iprop(∃ f, pts (peer c) cc0_scratch1 f)
  | 1 => pts c cc0_scratch0 (sent m ρ c)
  | 2 => pts c cc0_scratch1 (landed m ρ c)

/-- The cells a device owes its peer at launch, and after its signal. -/
abbrev S₀ : Finset (Fin 3) := {0, 2}
abbrev S₁ : Finset (Fin 3) := {2}

/-- The peer raises the barrier and the arrival. -/
abbrev cr : Fin 3 → Bool := fun | 0 => true | 1 => false | 2 => true

/-- The barrier is waited on below the arrival. -/
abbrev lvl : Fin 3 → ℕ := fun | 0 => 1 | 1 => 0 | 2 => 2

def plan : Plan nD τ sig (Elt F) 3 where
  peer := peer
  peer_peer := peer_peer
  sem := csem
  sem_inj := by decide
  amt := fun | 0 => 1 | 1 => N | 2 => N
  amt_pos := fun k => by fin_cases k <;> first | exact Nat.one_pos | exact View.dmaCredit_pos _ (by decide)
  crossed := cr
  lev := lvl
  pay := pay m ρ
  storable c k := by fin_cases k <;> (dsimp only [pay]; infer_instance)

abbrev PL : Plan nD τ sig (Elt F) 3 := plan m ρ

/-! ## The pipeline's proof data -/

/-- What the body starts from: the protocol's ghost state, the two credits it waits with, the levels. -/
def start (c : Dev nD) : sProp 𝕄 :=
  iprop((PL m ρ).ghost c ∗ (PL m ρ).crd c 0 ∗ (PL m ρ).crd c 2 ∗ levAts Plan.L (PL m ρ).lv)
def Φ₀ (c : Dev nD) : sProp 𝕄 := iprop(start m ρ c ∗ (∃ f, pts c cc0_scratch0 f) ∗ ∃ f, pts c cc0_scratch1 f)
/-- What it ends with: its buffers, and its three counters at zero. -/
def Φ₁ (c : Dev nD) : sProp 𝕄 :=
  iprop((pts c cc0_scratch0 (sent m ρ c) ∗ pts c cc0_scratch1 (landed m ρ c))
    ∗ semVal ((PL m ρ).cell c 0) 0 ∗ semVal ((PL m ρ).cell c 1) 0 ∗ semVal ((PL m ρ).cell c 2) 0)

def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => (PL m ρ).owe (PL m ρ).cross c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

abbrev r0 : Rect S1024x1024 := Rect.unit (s := S1024x1024) ![0, 0] S1024x1024.size inb_S1024x1024_S1024x1024_0_0

omit [FloatOps F] in
theorem hz : (![0, 0] : Fin 2 → Nat) = fun _ => 0 := funext fun a => by fin_cases a <;> rfl

/-- Writing a whole buffer leaves what was written. -/
theorem landed_eq (d : Dev nD) (fd : (cc0_scratch1 : Ref sig .tc).ty.Contents (Elt F)) (fs : (cc0_scratch0 : Ref sig .tc).ty.Contents (Elt F)) :
    (lM : Memref sig .tc .vmem S1024x1024 .bf16).view.write (Elt F) fd ((sM : Memref sig .tc .vmem S1024x1024 .bf16).view.read (Elt F) fs) Finset.univ = fs := by
  show (View.whole cc0_scratch1).write (Elt F) fd ((View.whole cc0_scratch0).read (Elt F) fs) Finset.univ = fs
  rw [View.read_whole]
  exact View.write_whole_univ _ _ _

omit [FloatOps F] in
theorem write_sent (f w : (cc0_scratch0 : Ref sig .tc).ty.Contents (Elt F)) :
    ((sM : Memref sig .tc .vmem S1024x1024 .bf16).access r0 : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1024x1024 .f32).access r0 : View sig .tc _ _ _).write (Elt F) f w Finset.univ = w :=
  Memref.write_access_unit_zero_univ (Elt F) cc0_stg1_0 hz _ f w
omit [FloatOps F] in
theorem read_landed (f : (cc0_scratch1 : Ref sig .tc).ty.Contents (Elt F)) :
    (lM : Memref sig .tc .vmem S1024x1024 .bf16).view.readAt (Elt F) r0.toLoadRect f = f :=
  Memref.readAt_unit_zero (Elt F) cc0_scratch1 hz _ f

theorem cross_eq : (PL m ρ).cross = S₀ := show Finset.univ.filter (fun k => cr k = true) = S₀ by decide

theorem bigSep_fin3 (Φ : Fin 3 → sProp 𝕄) : bigSep Finset.univ Φ = iprop(Φ 0 ∗ Φ 1 ∗ Φ 2) := bigSep_univ_eq_bigSepL [0, 1, 2] (by decide) (by decide) Φ

/-- The device's own landing buffer is what its signal hands its peer. -/
theorem bar_pay (c : Dev nD) (fl : (cc0_scratch1 : Ref sig .tc).ty.Contents (Elt F)) :
    pts c cc0_scratch1 fl ⊢ (PL m ρ).pay ((PL m ρ).peer c) 0 := by
  show pts c cc0_scratch1 fl ⊢ iprop(∃ f, pts (peer (peer c)) cc0_scratch1 f)
  rw [peer_peer]; iintro H; iexists fl; iexact H

/-- The transfer of the sent buffer into the peer's landing buffer. -/
theorem send_peer (K : Dev nD × Fin 3 → ℕ) (c d : Dev nD) (hd : d = peer c)
    {hsc : (lM : Memref sig (d : Thread nD τ).2.kind .vmem S1024x1024 .bf16).view.ref.isScScratch = false}
    {hsrc : (sM : Memref sig .tc .vmem S1024x1024 .bf16).view.WordExact} {hdst : (lM : Memref sig .tc .vmem S1024x1024 .bf16).view.WordExact}
    {hsem : DmaTarget.Typed .vmem (.dma cc0_scratch3.sem) (.remote (d : Thread nD τ) (lM : Memref sig .tc .vmem S1024x1024 .bf16) (.dma cc0_scratch2.sem) hsc)}
    {α : Type} {Q : α → sProp 𝕄} {k : PUnit → Prog (TpuEff nD τ sig (Elt F) Λ₀ .tc) α}
    (fp : (cc0_scratch1 : Ref sig .tc).ty.Contents (Elt F)) :
    iprop((PL m ρ).records K ∗ (PL m ρ).owes' S₁ c ∗ (PL m ρ).tok c 1 ∗ (PL m ρ).tok c 2 ∗ pts c cc0_scratch0 (sent m ρ c) ∗ pts (peer c) cc0_scratch1 fp)
      ⊢ iprop((((PL m ρ).crd c 1 ∗ (PL m ρ).owes' ∅ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (d : Thread nD τ) lM (.dma cc0_scratch2.sem) hsc) (.dma cc0_scratch3.sem) hsrc hdst hsem) k) Q) := by
  subst hd
  have h := (PL m ρ).wp_send (defs₀ (F := F)) 𝒱₀ K (Φ := Q) c (peer c) rfl 1 2 (sS := cc0_scratch2.sem) (sR := cc0_scratch3.sem) rfl rfl rfl rfl
    (src := sM) (dst := lM) (hsc := hsc) (hsrc := hsrc) (hdst := hdst) (hsem := hsem) rfl rfl (S := S₁) (S' := ∅) (by decide) (by decide)
    (q := fullShare) (fs := sent m ρ c) (fd := fp)
    (by rw [View.set_whole]; exact BI.Entails.refl _)
    (by
      rw [View.set_whole, landed_eq (peer c)]
      show pts (peer c) cc0_scratch1 (sent m ρ c) ⊢ pts (peer c) cc0_scratch1 (sent m ρ (peer (peer c)))
      rw [peer_peer])
    (kk := k) (by routes)
  rw [View.set_whole, View.set_whole] at h
  exact h

set_option maxHeartbeats 1600000 in
/-- The body, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre Φ₀ start Plan.ghost
  simp only [bigSep_fin3]
  iintro ⟨⟨⟨⟨⟨%K, #HR, ⟨HaB, HaS, HaV⟩, HtB, HtS, HtV⟩, HcB, HcV, #Hlev⟩, ⟨%fs, Hs⟩, %fl, Hl⟩,
    Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = (PL m ρ).owe S₀ c from congrArg (fun S => (PL m ρ).owe S c) (cross_eq m ρ)]
  ihave HO := (show owes (c : Thread nD τ) ((PL m ρ).owe S₀ c) W ⊢ (PL m ρ).owes' S₀ c from by unfold Plan.owes'; iintro H; iexists W; iexact H) $$ HO
  -- the peer's half is cast into the buffer to send
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := r0) (Mk := Finset.univ) (Finset.subset_univ _)) $$ Hs; iintro Hs
  rw [write_sent]
  -- the handshake
  iapply ((PL m ρ).wp_signal (defs₀ (F := F)) 𝒱₀ K c _ (dev1_eq c) 0 (s := barS) rfl rfl (u := 1) rfl (S := S₀) (S' := S₁) (by decide) (by decide) (by routes))
    $$ [HO HtB Hl]
  · isplitr; · iexact HR
    isplitl [HO]; · iexact HO
    isplitl [HtB]; · iexact HtB
    iapply (bar_pay m ρ c fl); iexact Hl
  iintro HO
  -- its own barrier: the peer's landing buffer
  iapply ((PL m ρ).wp_wait (defs₀ (F := F)) 𝒱₀ K c 0 (sm := .reg barS) rfl (u := 1) rfl (S := S₁) (show ∀ j ∈ S₁, lvl 0 < lvl j by decide) (wpE_semWait_eq 𝒱₀ (c : Thread nD τ) none Set.univ))
    $$ [HcB HO HaB]
  · isplitr; · iexact HR
    isplitr; · iexact Hlev
    isplitl [HcB]; · iexact HcB
    isplitl [HO]; · iexact HO
    iexact HaB
  iintro ⟨HO, HzB, Hp⟩
  ihave Hp := (show (PL m ρ).pay c 0 ⊢ iprop(∃ f, pts (peer c) cc0_scratch1 f) from BI.Entails.refl _) $$ Hp
  icases Hp with ⟨%fp, HlP⟩
  -- the transfer
  iapply (send_peer m ρ K c _ (dev2_eq c) fp) $$ [HO HtS HtV Hs HlP]
  · isplitr; · iexact HR
    isplitl [HO]; · iexact HO
    isplitl [HtS]; · iexact HtS
    isplitl [HtV]; · iexact HtV
    isplitl [Hs]; · iexact Hs
    iexact HlP
  iintro ⟨HcS, HO⟩
  -- it has left: the sent buffer back
  iapply ((PL m ρ).wp_wait (defs₀ (F := F)) 𝒱₀ K c 1 (sm := .dma cc0_scratch2.sem) rfl (u := (sM : Memref sig .tc .vmem S1024x1024 .bf16).view.dmaCredit) rfl (S := ∅) (show ∀ j ∈ (∅ : Finset (Fin 3)), lvl 1 < lvl j by decide) (wpE_waitDma2_eq 𝒱₀ (c : Thread nD τ) none Set.univ))
    $$ [HcS HO HaS]
  · isplitr; · iexact HR
    isplitr; · iexact Hlev
    isplitl [HcS]; · iexact HcS
    isplitl [HO]; · iexact HO
    iexact HaS
  iintro ⟨HO, HzS, Hs⟩
  ihave Hs := (show (PL m ρ).pay c 1 ⊢ pts c cc0_scratch0 (sent m ρ c) from BI.Entails.refl _) $$ Hs
  -- the peer's has landed
  iapply ((PL m ρ).wp_wait (defs₀ (F := F)) 𝒱₀ K c 2 (sm := .dma cc0_scratch3.sem) rfl (u := N) rfl (S := ∅) (show ∀ j ∈ (∅ : Finset (Fin 3)), lvl 2 < lvl j by decide) (wpE_waitDma2_eq 𝒱₀ (c : Thread nD τ) none Set.univ))
    $$ [HcV HO HaV]
  · isplitr; · iexact HR
    isplitr; · iexact Hlev
    isplitl [HcV]; · iexact HcV
    isplitl [HO]; · iexact HO
    iexact HaV
  iintro ⟨HO, HzV, Hl⟩
  ihave Hl := (show (PL m ρ).pay c 2 ⊢ pts c cc0_scratch1 (landed m ρ c) from BI.Entails.refl _) $$ Hl
  -- the sum
  iapply (wp_load 𝒱₀ (c : Thread nD τ) none Set.univ (m := xM) (Finset.subset_univ _)) $$ Hx; iintro Hx
  iapply (wp_load 𝒱₀ (c : Thread nD τ) none Set.univ (m := lM) (Finset.subset_univ _)) $$ Hl; iintro Hl
  rw [read_landed]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl]
  isplitl [Hs Hl HzS HzV HzB]
  · isplitl [Hs Hl]
    · isplitl [Hs]; · iexact Hs
      iexact Hl
    isplitl [HzB]; · iexact HzB
    isplitl [HzS] <;> iassumption
  isplitl [HO]
  · unfold Plan.owes'
    rw [Plan.owe_empty]
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

/-! ## The launch -/

/-- The kernel's own semaphores: departure and arrival. -/
abbrev osem : Fin 2 → SemLoc sig := fun | 0 => .dma cc0_scratch2.sem | 1 => .dma cc0_scratch3.sem

theorem ownSemFacts : Pipeline.OwnSemFacts cfg0.spec osem := by decide

theorem share_eq (c : Dev nD) (w : Fin cfg0.W) : (dats m ρ 0 c).share w = fullShare := by unfold Dat.share; split <;> rfl

omit [FloatOps F] in
theorem ownSems0_eq (c : Dev nD) : (Pipeline.ownSems0 (Ix := Unit) (Name := ℕ) (U := UU nD τ sig) (Lvl := ℕ) (Val := Elt F) (τ := τ) osem c : sProp 𝕄)
    = iprop(semVal ((c : Thread nD τ), osem 0) 0 ∗ semVal ((c : Thread nD τ), osem 1) 0) := by
  rw [Pipeline.ownSems0_eq_of_list c osem [0, 1] (by decide) (by decide)]; rfl
omit [FloatOps F] in
theorem unscopedSems0_eq (c : Dev nD) : (unscopedSems0 c : sProp 𝕄) = semVal ((c : Thread nD τ), .reg barS) 0 := by
  unfold unscopedSems0; rw [bigSep_eq_bigSepL_of_eq [SemLoc.reg barS] (by decide) (by decide)]; rfl

/-- The launch's counters at zero are the plan's cells'. -/
theorem sems0 (c : Dev nD) :
    iprop(Pipeline.ownSems0 (Ix := Unit) (Name := ℕ) (U := UU nD τ sig) (Lvl := ℕ) (Val := Elt F) (τ := τ) osem c ∗ unscopedSems0 c)
      ⊢ (bigSep Finset.univ fun k => semVal ((PL m ρ).cell c k) 0 : sProp 𝕄) := by
  rw [ownSems0_eq, unscopedSems0_eq, bigSep_fin3]
  iintro ⟨⟨HS, HV⟩, HB⟩
  isplitl [HB]; · iexact HB
  isplitl [HS]; · iexact HS
  iexact HV

omit [FloatOps F] in
theorem assoc_left (A B C : sProp 𝕄) : iprop(A ∗ B ∗ C) ⊢ iprop((A ∗ B) ∗ C) := by
  iintro ⟨H1, H2, H3⟩
  isplitl [H1 H2]
  · isplitl [H1] <;> iassumption
  iexact H3

theorem glob : (bigSep Finset.univ fun c => iprop(Pipeline.ownSems0 (Ix := Unit) (Name := ℕ) (U := UU nD τ sig) (Lvl := ℕ) (Val := Elt F) (τ := τ) osem c ∗ unscopedSems0 c ∗ (PL m ρ).deal c) : sProp 𝕄)
    ⊢ |={Set.univ}=> bigSep Finset.univ (PL m ρ).ghost :=
  (bigSep_mono fun c _ => assoc_left _ _ _).trans ((PL m ρ).glob (sems0 m ρ))

theorem start_intro (c : Dev nD) :
    iprop(Pipeline.unscopedRestP Pipeline.Prefetch.none cfg0.spec c (fun b => m ((c : Thread nD τ).loc b)) ∗ levAts Plan.L (PL m ρ).lv
        ∗ Pipeline.launchCred ((PL m ρ).owe (PL m ρ).cross) c ∗ prngReg c (ρ c) ∗ (PL m ρ).ghost c)
      ⊢ |={Set.univ}=> iprop(start m ρ c ∗ emp) := by
  iintro ⟨-, Hlev, Hcr, -, HG⟩
  ihave Hc := ((PL m ρ).creds c) $$ Hcr
  rw [cross_eq m ρ]
  ihave Hc := (Entails.of_eq (bigSep_eq_bigSepL_of_eq (S := S₀) (Φ := fun k => (PL m ρ).crd c k) [0, 2] (by decide) (by decide))) $$ Hc
  ihave Hc := (show bigSepL [0, 2] (fun k => (PL m ρ).crd c k) ⊢ iprop((PL m ρ).crd c 0 ∗ (PL m ρ).crd c 2) from BI.Entails.refl _) $$ Hc
  icases Hc with ⟨H0, H2⟩
  imodintro
  unfold start
  isplitl
  · isplitl [HG]; · iexact HG
    isplitl [H0]; · iexact H0
    isplitl [H2]; · iexact H2
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr, Hr'⟩
  isplitl [Hs]; · iexact Hs
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨⟨Hs, Hl⟩, HzB, HzS, HzV⟩
  isplitl [HzB]; · iexact HzB
  isplitl [HzS HzV]
  · isplitl [HzS]; · iexact HzS
    iexact HzV
  isplitl [Hs]
  · iexists (sent m ρ c); iexact Hs
  iexists (landed m ρ c); iexact Hl

/-- At its staging waits a device may owe its peer: staging semaphores are at level 0. -/
theorem waits (c : Dev nD) : (levAts Plan.L (PL m ρ).lv : sProp 𝕄) ⊢ Pipeline.cellsWaits cfgs (dats m ρ) () 0 c :=
  Pipeline.cellsWaits_intro cfgs (dats m ρ) () 0 c fun w s t => by
    have h0 : ∀ k, (PL m ρ).sem k ≠ .dma (((cfgs 0).win w).sem s) := by
      show ∀ k, csem k ≠ .dma ((cfg0.win w).sem s)
      fin_cases w <;> fin_cases s <;> decide
    rcases t with ⟨_ | _, ht⟩
    · exact (PL m ρ).mayWait (S := (PL m ρ).cross) (by rw [(PL m ρ).at_other _ _ h0, cross_eq]; exact (show ∀ k ∈ S₀, 0 < lvl k by decide))
    · show _ ⊢ MayWait _ _ _ 0
      rw [MayWait_zero]; iintro -; iempintro

def u₀ : UU nD τ sig :=
  (initOf (Pipeline.cells cfgs cellOf_inj) (Pipeline.launchToks cfgs cellOf_inj), initOf (PL m ρ).cells (PL m ρ).toks)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the launch terminates; each device's argument and result are at the computed contents
    and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) (EP nD τ sig (Elt F)) defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := (PL m ρ).owe (PL m ρ).cross) (howed₀ := fun _ => rfl) (howedN := fun _ => rfl)
    (L := Plan.L) (lv := (PL m ρ).lv) (hL := Plan.L_of_ne) (hwaits := waits m ρ)
    (G := (PL m ρ).deal) (G' := (PL m ρ).ghost) (u₀ := u₀ m ρ)
    (hu₀ := by
      unfold u₀
      iintro Hu
      ihave H := (ownU_pair _ _) $$ Hu
      icases H with ⟨HP, HX⟩
      imod ((PL m ρ).fund) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.CombineProof

end
-- ==== Proof.CombineRef.lean ====
/-
# The run of the exchange's reference

The reference adds the upper half of the stacked partial outputs to the lower half: two slices and a sum on one device.
Every execution terminates with the sum in the result array and the argument unchanged.
-/
module

public import proofs.«01_k».proof.Proof.Gen.CombineRefIdeal
public import Idealize.ShloMosaic.Lib.StableHlo.Run

@[expose] public section

noncomputable section

namespace Cert.CombineProof.Ref

open Cert.CombineRefIdeal Cert.CombineRefIdeal.Gen
open Idealize.ShloMosaic Idealize.ShloMosaic.TcCoe Idealize.ShloMosaic.StableHlo Idealize.SL.Sem

variable {F : FTy → Type} [FloatOps F]

/-- The sum of the two halves of the rows. -/
abbrev total (p : FVec F S4096x1024 .f32) : FVec F S2048x1024 .f32 :=
  addf (extractStridedSlice S2048x1024 ![0, 0] p slices_S4096x1024_S2048x1024_0_0)
    (extractStridedSlice S2048x1024 ![2048, 0] p slices_S4096x1024_S2048x1024_2048_0)

/-- The operations of the reference's main function. -/
abbrev ops : List (HloOp τ sig (Elt F)) :=
  [unary main_arg0 main_v0 (extractStridedSlice S2048x1024 ![0, 0] · slices_S4096x1024_S2048x1024_0_0),
    unary main_arg0 main_v1 (extractStridedSlice S2048x1024 ![2048, 0] · slices_S4096x1024_S2048x1024_2048_0),
    binary main_v0 main_v1 main_v2 addf]

theorem main_eq (c : Dev nD) : main (F := F) c = seq ops := rfl

theorem result_eq (V : Valuation τ sig (Elt F)) : after ops V (main_v2 : DevRef τ sig) = total (V (main_arg0 : DevRef τ sig)) := by
  after_results

theorem argument_eq (V : Valuation τ sig (Elt F)) : after ops V (main_arg0 : DevRef τ sig) = V (main_arg0 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_tc : (ops : List (HloOp τ sig (Elt F))).Forall fun op => op.bufs ⊆ tcRefs τ sig :=
  ⟨unary_bufs_sub .., unary_bufs_sub .., binary_bufs_sub ..⟩

/-- The reference's run: it terminates with the sum of the halves in its result array and its argument unchanged. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = total (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (result_eq _), (h c main_arg0).trans (argument_eq _)⟩)
    (run_seq no_scoped_refs no_scoped_sems defs main (fun _ => ops) main_eq (fun _ => ops_tc) m ρ)

end Cert.CombineProof.Ref

end
-- ==== Proof.CombineClaims.lean ====
/-
# The claims about the exchange of the experts' partial outputs

The kernel, its idealized text and the reference run and leave every semaphore at zero; and over the extended reals each
device's result is its block of the sum of the two halves of the stacked partial outputs: on the devices with coordinate
zero term by term, on the others with the two terms exchanged.
-/
module

public import proofs.«01_k».proof.Defs
public import proofs.«01_k».proof.Proof.Gen.Combine
public import proofs.«01_k».proof.Proof.Gen.CombineIdeal
public import proofs.«01_k».proof.Proof.Gen.CombineRefIdeal
public import proofs.«01_k».proof.Proof.CombineRun
public import proofs.«01_k».proof.Proof.CombineRef
public import Idealize.ShloMosaic.Lib.Pipeline.Value
public import Idealize.ShloMosaic.Lib.Layout

@[expose] public section

noncomputable section

namespace Cert.CombineProof

open Cert.CombineIdeal Cert.CombineIdeal.Gen

open Idealize.ShloMosaic
open Idealize.ShloMosaic.TcCoe
open Idealize.SL.Sem

section Generic

variable {F : FTy → Type} [FloatOps F]
variable (m : (ℓ : Loc nD τ sig) → Buf (Elt F) ℓ) (ρ : Dev nD → PrngReg)

/-- The result array's one block is the whole array, so after the run it holds what the body left. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz' : (fun a => (win0_1.index (0 : Fin 1)) a * main_v1.ty.shape.size a) = fun _ => 0 := funext fun a => Nat.zero_mul _
  exact (Memref.read_access_unit_zero (Elt F) main_v1 hz' (fun a => by fin_cases a <;> decide) _).symm.trans h

/-- The staged argument is the argument array. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => Nat.zero_mul _) (fun a => by fin_cases a <;> decide) _

/-- An entry of a device's own half. -/
theorem mine_apply (c : Dev nD) (i : S1024x1024.Idx) (k : S2048x1024.Idx)
    (h0 : (k 0).val = 1024 * ((c.val / 4) % 2) + (i 0).val) (h1 : (k 1).val = (i 1).val) :
    mine m ρ c i = (m ((c : Thread nD τ).loc main_arg0) : FVec F S2048x1024 .f32) k := by
  rw [mine, xstg_eq]
  refine congrArg (m ((c : Thread nD τ).loc main_arg0) : FVec F S2048x1024 .f32) (funext fun a => Fin.ext ?_)
  have e := k0_off2_eq c
  fin_cases a
  · show k0_off2 c 0 + 1 * (i 0).val = (k 0).val
    rw [e, h0]; simp
  · show k0_off2 c 1 + 1 * (i 1).val = (k 1).val
    rw [e, h1]; simp

/-- An entry of the half that belongs to the peer. -/
theorem theirs_apply (c : Dev nD) (i : S1024x1024.Idx) (k : S2048x1024.Idx)
    (h0 : (k 0).val = 1024 - 1024 * ((c.val / 4) % 2) + (i 0).val) (h1 : (k 1).val = (i 1).val) :
    theirs m ρ c i = (m ((c : Thread nD τ).loc main_arg0) : FVec F S2048x1024 .f32) k := by
  rw [theirs, xstg_eq]
  refine congrArg (m ((c : Thread nD τ).loc main_arg0) : FVec F S2048x1024 .f32) (funext fun a => Fin.ext ?_)
  have e := k0_off1_eq c
  fin_cases a
  · show k0_off1 c 0 + 1 * (i 0).val = (k 0).val
    rw [e, h0]; simp
  · show k0_off1 c 1 + 1 * (i 1).val = (k 1).val
    rw [e, h1]; simp

end Generic

section Value

open Cert.CombineRefIdeal (S4096x1024)

variable (m : (ℓ : Loc nD τ sig) → Buf (Elt Ideal) ℓ) (ρ : Dev nD → PrngReg)

/-- Over the extended reals a device's result is the sum of its own half and of the half its peer computed for it. -/
theorem outAt_apply (c : Dev nD) (i : S1024x1024.Idx) : outAt m ρ c i = (mine m ρ c i + theirs m ρ (peer c) i : EReal) := by
  show k0_pay1 (mine m ρ c) (k0_pay2 (theirs m ρ (peer c))) i = _
  unfold k0_pay1 k0_pay2
  simp only [shapeCast_self]
  rfl

/-- A device's coordinate on the mesh's second axis is the block it holds. -/
theorem block_val (c : Dev nD) : Layout.meshLin [2, 2, 4] c.val [1] = (c.val / 4) % 2 := by
  revert c; decide

theorem peer_val (c : Dev nD) : ((peer c).val / 4) % 2 = 1 - (c.val / 4) % 2 := by
  revert c; decide

/-- The index of a row and a lane of one device's partial outputs, -/
def at2 (r : Fin 2048) (l : Fin 1024) : S2048x1024.Idx := fun | ⟨0, _⟩ => r | ⟨1, _⟩ => l
/-- and of all of them. -/
def whole (r : Fin 4096) (l : Fin 1024) : S4096x1024.Idx := fun | ⟨0, _⟩ => r | ⟨1, _⟩ => l

theorem whole_congr {r r' : Fin 4096} {l l' : Fin 1024} (hr : r.val = r'.val) (hl : l.val = l'.val) : whole r l = whole r' l' := by
  rw [Fin.ext hr, Fin.ext hl]

/-- An entry of a device's partial outputs is the entry of the whole array as many blocks of rows down. -/
theorem block_entry (p : FVec Ideal S4096x1024 .f32)
    (h : ∀ c : Dev nD, m ((c : Thread nD τ).loc main_arg0)
      = Layout.blockN ⟨2, ![2048, 1024]⟩ ⟨2, ![4096, 1024]⟩ (Layout.meshBlock [2, 2, 4] ![[1], []] c) p) (c : Dev nD)
    (r : Fin 2048) (l : Fin 1024) :
    (m ((c : Thread nD τ).loc main_arg0) : FVec Ideal S2048x1024 .f32) (at2 r l)
      = p (whole ⟨(c.val / 4) % 2 * 2048 + r.val, by have := Nat.mod_lt (c.val / 4) (show 2 > 0 by decide); omega⟩ l) := by
  rw [h c, Layout.blockN_apply]
  refine congrArg p (funext fun a => Fin.ext ?_)
  rw [Layout.TilesN.idx_val]
  fin_cases a
  · exact congrArg (· * 2048 + r.val) (block_val c)
  · exact (congrArg (· + l.val) (Nat.zero_mul 1024)).trans (Nat.zero_add _)

/-- Each device's result is its block of the sum of the two halves. -/
theorem outAt_block (p : FVec Ideal S4096x1024 .f32)
    (h : ∀ c : Dev nD, m ((c : Thread nD τ).loc main_arg0)
      = Layout.blockN ⟨2, ![2048, 1024]⟩ ⟨2, ![4096, 1024]⟩ (Layout.meshBlock [2, 2, 4] ![[1], []] c) p) (c : Dev nD) :
    outAt m ρ c = Layout.blockN ⟨2, ![1024, 1024]⟩ ⟨2, ![2048, 1024]⟩ (Layout.meshBlock [2, 2, 4] ![[1], []] c) (Ref.total p) := by
  funext i
  have hi0 : (i 0).val < 1024 := (i 0).isLt
  have hi1 : (i 1).val < 1024 := (i 1).isLt
  have hy : (c.val / 4) % 2 < 2 := Nat.mod_lt _ (by decide)
  rw [outAt_apply, Layout.blockN_apply]
  set k := Layout.TilesN.idx _ (Layout.meshBlock [2, 2, 4] ![[1], []] c) i with hk
  have k0 : (k 0).val = (c.val / 4) % 2 * 1024 + (i 0).val := by
    rw [hk, Layout.TilesN.idx_val, ← block_val]; rfl
  have k1 : (k 1).val = (i 1).val := by
    rw [hk, Layout.TilesN.idx_val]; exact (congrArg (· + (i 1).val) (Nat.zero_mul 1024)).trans (Nat.zero_add _)
  rw [mine_apply m ρ c i (at2 ⟨1024 * ((c.val / 4) % 2) + (i 0).val, by omega⟩ ⟨(i 1).val, hi1⟩) rfl rfl,
    theirs_apply m ρ (peer c) i (at2 ⟨1024 - 1024 * (((peer c).val / 4) % 2) + (i 0).val, by rw [peer_val]; omega⟩ ⟨(i 1).val, hi1⟩) rfl rfl,
    block_entry m p h, block_entry m p h]
  show (_ : EReal) = extractStridedSlice S2048x1024 ![0, 0] p _ k + extractStridedSlice S2048x1024 ![2048, 0] p _ k
  rw [extractStridedSlice_apply _ p _ k (whole ⟨(k 0).val, by omega⟩ ⟨(k 1).val, by omega⟩) (fun a => by fin_cases a <;> simp [whole]),
    extractStridedSlice_apply _ p _ k (whole ⟨2048 + (k 0).val, by omega⟩ ⟨(k 1).val, by omega⟩) (fun a => by fin_cases a <;> simp [whole])]
  have e : (c.val / 4) % 2 = 0 ∨ (c.val / 4) % 2 = 1 := by omega
  have hp := peer_val c
  rcases e with e | e
  · refine congrArg₂ (fun a b : EReal => a + b) (congrArg p ?_) (congrArg p ?_) <;>
      refine whole_congr ?_ ?_ <;> simp only [at2, k0, k1, e, hp] <;> simp <;> omega
  · rw [add_comm]
    refine congrArg₂ (fun a b : EReal => a + b) (congrArg p ?_) (congrArg p ?_) <;>
      refine whole_congr ?_ ?_ <;> simp only [at2, k0, k1, e, hp] <;> simp <;> omega

end Value

/-! ## The claims -/

/-- The kernel's body table is the idealized text's. -/
theorem bodies_eq : Cert.Combine.defs₀ (F := Bits) = defs₀ (F := Bits) := by
  unfold Cert.Combine.defs₀ defs₀
  refine congrArg Defs.onTc (funext fun d => funext fun l => ?_)
  match d, l with
  | 0, (t, s) => rfl
  | ⟨_ + 1, h⟩, _ => exact absurd h (Nat.not_lt.2 (Nat.le_add_left _ _))

theorem tables_eq : Cert.Combine.defs (F := Bits) = defs (F := Bits) := congrArg (Pipeline.defs (pcfgs (F := Bits))) bodies_eq

/-- The kernel runs, leaves its argument as it was and every semaphore at zero. -/
theorem frame_kernel : Cert.quiescent_Combine := by
  intro m ρ _
  rw [tables_eq]
  have h := (θ_run (defs (F := Bits)) _ _).mono
    (fun _ h => (⟨fun c => (h.1 c (0 : Fin 2)).trans (finalA_in m ρ c), h.2⟩ : (∀ c : Dev nD, _ = _) ∧ _)) (run_main (F := Bits) m ρ)
  exact h

/-- The same of the idealized text. -/
theorem frame_ideal : Cert.quiescent_CombineIdeal := fun m ρ _ =>
  (θ_run defs _ _).mono (fun _ h => ⟨fun c => (h.1 c (0 : Fin 2)).trans (finalA_in m ρ c), h.2⟩)
    (run_main (F := Ideal) m ρ)

/-- The same of the reference. -/
theorem frame_ref : Cert.quiescent_CombineRefIdeal := fun m ρ _ =>
  (θ_run Cert.CombineRefIdeal.defs _ _).mono
    (fun r h => ⟨fun c => (h c).2, Idealize.ShloMosaic.sem_eq_zero_of_no_sems (by decide) r.2⟩) (Ref.run_ref (F := Ideal) m ρ)

/-- Over the extended reals the kernel computes the reference: each device ends with its block of the sum. -/
theorem algebraic : Cert.algebraic_CombineIdeal_CombineRefIdeal := by
  intro m ρ m' ρ' _ hp
  refine ⟨Ref.total (F := Ideal) (m' (((0 : Dev Cert.CombineRefIdeal.nD).tc : Thread _ Cert.CombineRefIdeal.τ).loc Cert.CombineRefIdeal.main_arg0)), ?_, ?_⟩
  · exact (θ_run defs _ _).mono
      (fun _ h c => ⟨((h.1 c (1 : Fin 2)).trans (finalA_out m ρ c)).trans (outAt_block m ρ _ hp c),
        (h.1 c (0 : Fin 2)).trans (finalA_in m ρ c)⟩) (run_main (F := Ideal) m ρ)
  · exact (θ_run Cert.CombineRefIdeal.defs _ _).mono (fun _ h => h 0) (Ref.run_ref (F := Ideal) m' ρ')

end Cert.CombineProof

end
-- ==== Proof.RouteRun.lean ====
/-
# The run of the routing exchange

Every device computes the gates of its own tokens against both halves of the router, picks the two best experts of each
token and packs each expert with its weight; and the two devices of a pair swap their halves of the router, their tokens
and their packed choices. A device signals its peer's barrier semaphore (handing it the three buffers the peer writes
into), waits for its own, and then makes three transfers, each waited for on both sides. Stated over any float values,
by the swap protocol of `Swap`: the launch terminates, every semaphore counter is back at zero, the arguments are
unchanged and the two result arrays hold the tokens and the choices of both devices, in the order of the mesh.
-/
module

public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Swap
public import Idealize.ShloMosaic.Lib.Quiescent
public import Idealize.ShloMosaic.Lib.Pipeline.CollectiveSegs
public import Idealize.ShloMosaic.Lib.Pipeline.Value

@[expose] public section

noncomputable section

namespace Cert.RouteProof

open Cert.RouteIdeal Cert.RouteIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Swap

variable {F : FTy → Type} [FloatOps F]

local notation "𝕄" => MM nD τ sig (Elt F)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairs -/

set_option backward.proofsInPublic true in
/-- The other device of the pair along the mesh's second axis. -/
def peer (c : Dev nD) : Dev nD := ⟨(8 * (c.val / 8) + (c.val % 4) + 4) - 4 * ((c.val / 4) % 2), by have := c.isLt; simp only [nD] at *; omega⟩

theorem peer_peer (c : Dev nD) : peer (peer c) = c := by
  apply Fin.ext; have := c.isLt; simp only [peer, nD] at *; omega

/-- The signal and the three transfers name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

/-! ## The memrefs and contents -/

abbrev xM : Memref sig .tc .vmem S1024x1024 .f32 := Memref.whole cc0_stg0_0
abbrev rM : Memref sig .tc .vmem S1024x8 .f32 := Memref.whole cc0_stg1_0
abbrev fM : Memref sig .tc .vmem S2x1024x1024 .bf16 := Memref.whole cc0_stg2_0
abbrev tM : Memref sig .tc .vmem S2x1024x2 .f32 := Memref.whole cc0_stg3_0
abbrev xsM : Memref sig .tc .vmem S1024x1024 .bf16 := Memref.whole cc0_scratch0
abbrev rlM : Memref sig .tc .vmem S1024x8 .f32 := Memref.whole cc0_scratch1
abbrev xlM : Memref sig .tc .vmem S1024x1024 .bf16 := Memref.whole cc0_scratch2
abbrev tsM : Memref sig .tc .vmem S1024x2 .f32 := Memref.whole cc0_scratch3
abbrev tlM : Memref sig .tc .vmem S1024x2 .f32 := Memref.whole cc0_scratch4

abbrev NR : ℕ := (rlM : Memref sig .tc .vmem S1024x8 .f32).view.dmaCredit
abbrev NX : ℕ := (xlM : Memref sig .tc .vmem S1024x1024 .bf16).view.dmaCredit
abbrev NT : ℕ := (tlM : Memref sig .tc .vmem S1024x2 .f32).view.dmaCredit

/-- The six transfer semaphores: of the router, the tokens and the choices, departure and arrival. -/
abbrev rS : DmaSem sig := ((cc0_scratch5.slice (Rect.unit (s := S2) ![0] S1.size inb_S2_S1_0)).squeeze S_ squeezes_S1_S_).sem
abbrev rV : DmaSem sig := ((cc0_scratch5.slice (Rect.unit (s := S2) ![1] S1.size inb_S2_S1_1)).squeeze S_ squeezes_S1_S_).sem
abbrev xS : DmaSem sig := ((cc0_scratch6.slice (Rect.unit (s := S2) ![0] S1.size inb_S2_S1_0)).squeeze S_ squeezes_S1_S_).sem
abbrev xV : DmaSem sig := ((cc0_scratch6.slice (Rect.unit (s := S2) ![1] S1.size inb_S2_S1_1)).squeeze S_ squeezes_S1_S_).sem
abbrev tS : DmaSem sig := ((cc0_scratch7.slice (Rect.unit (s := S2) ![0] S1.size inb_S2_S1_0)).squeeze S_ squeezes_S1_S_).sem
abbrev tV : DmaSem sig := ((cc0_scratch7.slice (Rect.unit (s := S2) ![1] S1.size inb_S2_S1_1)).squeeze S_ squeezes_S1_S_).sem

/-- Device `c`'s staged tokens and half of the router. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))

/-- The device's coordinate on the mesh's second axis, as the program computes it. -/
abbrev axis (c : Dev nD) : BitVec 32 := Scalar.remsi (Scalar.divsi (Dev.word c) 4#32) 2#32

/-- The tokens it sends, and the choices: for every token two numbers, an expert and its weight packed into each. -/
def tokens (c : Dev nD) : (cc0_scratch0 : Ref sig .tc).ty.Contents (Elt F) := k0_pay10 (k0_pay9 (xstg m ρ c))
def choices (c : Dev nD) : (cc0_scratch3 : Ref sig .tc).ty.Contents (Elt F) :=
  k0_pay15 (k0_pay14 (axis c) (k0_pay12 (xstg m ρ c) (rstg m ρ c)) (k0_pay13 (xstg m ρ c) (rstg m ρ (peer c))))

/-- Two arrays one above the other. -/
def stack {n k : ℕ} {α : Type} (a b : (⟨2, ![n, k]⟩ : Shape).Idx → α) : (⟨3, ![2, n, k]⟩ : Shape).Idx → α :=
  fun i => if (i 0).val = 0 then a (fun d => i d.succ) else b (fun d => i d.succ)

/-- Device `c`'s results: both devices' tokens and choices, the one's at coordinate zero first. -/
def outX (c : Dev nD) : (cc0_stg2_0 : Ref sig .tc).ty.Contents (Elt F) :=
  if (c.val / 4) % 2 = 0 then stack (n := 1024) (k := 1024) (tokens m ρ c) (tokens m ρ (peer c)) else stack (n := 1024) (k := 1024) (tokens m ρ (peer c)) (tokens m ρ c)
def outT (c : Dev nD) : (cc0_stg3_0 : Ref sig .tc).ty.Contents (Elt F) :=
  if (c.val / 4) % 2 = 0 then stack (n := 1024) (k := 2) (choices m ρ c) (choices m ρ (peer c)) else stack (n := 1024) (k := 2) (choices m ρ (peer c)) (choices m ρ c)

/-- A whole buffer of device `c` at given contents. -/
abbrev pts (c : Dev nD) (b : Ref sig .tc) (f : b.ty.Contents (Elt F)) : sProp 𝕄 :=
  (((c : Thread nD τ).loc b) ↦{fullShare} (f : Buf (Elt F) ((c : Thread nD τ).loc b)))

/-! ## The plan: the barrier, and a departure and an arrival per transfer -/

abbrev barS : Sem sig := (SemArray.scalar (sig.barrier 0 rfl) : Sems sig S_).sem
abbrev csem : Fin 7 → SemLoc sig := fun | 0 => .reg barS | 1 => .dma rS | 2 => .dma rV | 3 => .dma xS | 4 => .dma xV | 5 => .dma tS | 6 => .dma tV

/-- The barrier's signal hands the peer's three landing buffers, a departure its sent buffer back, an arrival what landed. -/
def pay (c : Dev nD) : Fin 7 → sProp 𝕄 := fun
  | 0 => iprop((∃ f, pts (peer c) cc0_scratch1 f) ∗ (∃ f, pts (peer c) cc0_scratch2 f) ∗ ∃ f, pts (peer c) cc0_scratch4 f)
  | 1 => pts c cc0_stg1_0 (rstg m ρ c)
  | 2 => pts c cc0_scratch1 (rstg m ρ (peer c))
  | 3 => pts c cc0_scratch0 (tokens m ρ c)
  | 4 => pts c cc0_scratch2 (tokens m ρ (peer c))
  | 5 => pts c cc0_scratch3 (choices m ρ c)
  | 6 => pts c cc0_scratch4 (choices m ρ (peer c))

/-- The cells a device owes its peer at launch, after its signal, and after each transfer. -/
abbrev S₀ : Finset (Fin 7) := {0, 2, 4, 6}
abbrev S₁ : Finset (Fin 7) := {2, 4, 6}
abbrev S₂ : Finset (Fin 7) := {4, 6}
abbrev S₃ : Finset (Fin 7) := {6}

/-- The peer raises the barrier and the arrivals. -/
abbrev cr : Fin 7 → Bool := fun | 0 => true | 1 => false | 2 => true | 3 => false | 4 => true | 5 => false | 6 => true

/-- The barrier is waited on below the router's arrival, and that below the arrivals of the tokens and the choices. -/
abbrev lvl : Fin 7 → ℕ := fun | 0 => 1 | 1 => 0 | 2 => 2 | 3 => 0 | 4 => 3 | 5 => 0 | 6 => 3

def plan : Plan nD τ sig (Elt F) 7 where
  peer := peer
  peer_peer := peer_peer
  sem := csem
  sem_inj := by decide
  amt := fun | 0 => 1 | 1 => NR | 2 => NR | 3 => NX | 4 => NX | 5 => NT | 6 => NT
  amt_pos := fun k => by fin_cases k <;> first | exact Nat.one_pos | exact View.dmaCredit_pos _ (by decide)
  crossed := cr
  lev := lvl
  pay := pay m ρ
  storable c k := by fin_cases k <;> (dsimp only [pay]; infer_instance)

abbrev PL : Plan nD τ sig (Elt F) 7 := plan m ρ

/-! ## The pipeline's proof data -/

/-- What the body starts from: the protocol's ghost state, the four credits it waits with, the levels. -/
def start (c : Dev nD) : sProp 𝕄 :=
  iprop((PL m ρ).ghost c ∗ ((PL m ρ).crd c 0 ∗ (PL m ρ).crd c 2 ∗ (PL m ρ).crd c 4 ∗ (PL m ρ).crd c 6) ∗ levAts Plan.L (PL m ρ).lv)
def Φ₀ (c : Dev nD) : sProp 𝕄 :=
  iprop(start m ρ c ∗ (∃ f, pts c cc0_scratch0 f) ∗ (∃ f, pts c cc0_scratch1 f) ∗ (∃ f, pts c cc0_scratch2 f) ∗ (∃ f, pts c cc0_scratch3 f)
    ∗ ∃ f, pts c cc0_scratch4 f)
/-- What it ends with: its buffers, and its seven counters at zero. -/
def Φ₁ (c : Dev nD) : sProp 𝕄 :=
  iprop((pts c cc0_scratch0 (tokens m ρ c) ∗ pts c cc0_scratch1 (rstg m ρ (peer c)) ∗ pts c cc0_scratch2 (tokens m ρ (peer c))
      ∗ pts c cc0_scratch3 (choices m ρ c) ∗ pts c cc0_scratch4 (choices m ρ (peer c)))
    ∗ semVal ((PL m ρ).cell c 0) 0 ∗ semVal ((PL m ρ).cell c 1) 0 ∗ semVal ((PL m ρ).cell c 2) 0 ∗ semVal ((PL m ρ).cell c 3) 0
    ∗ semVal ((PL m ρ).cell c 4) 0 ∗ semVal ((PL m ρ).cell c 5) 0 ∗ semVal ((PL m ρ).cell c 6) 0)

def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => outX m ρ c
    | ⟨3, _⟩ => outT m ρ c
  Φ t := match t with
    | ⟨0, _⟩ => Φ₀ m ρ c
    | ⟨_ + 1, _⟩ => Φ₁ m ρ c
  q _ := fullShare
  owed t := match t with
    | ⟨0, _⟩ => (PL m ρ).owe (PL m ρ).cross c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (rstg m ρ c)
    ∗ stg c cc0_stg2_0 (outX m ρ c) ∗ stg c cc0_stg3_0 (outT m ρ c))

abbrev r0 : Rect S1024x1024 := Rect.unit (s := S1024x1024) ![0, 0] S1024x1024.size inb_S1024x1024_S1024x1024_0_0
abbrev r8 : Rect S1024x8 := Rect.unit (s := S1024x8) ![0, 0] S1024x8.size inb_S1024x8_S1024x8_0_0
abbrev r2 : Rect S1024x2 := Rect.unit (s := S1024x2) ![0, 0] S1024x2.size inb_S1024x2_S1024x2_0_0
abbrev fA : Rect S2x1024x1024 := Rect.unit (s := S2x1024x1024) ![0, 0, 0] S1x1024x1024.size inb_S2x1024x1024_S1x1024x1024_0_0_0
abbrev fB : Rect S2x1024x1024 := Rect.unit (s := S2x1024x1024) ![1, 0, 0] S1x1024x1024.size inb_S2x1024x1024_S1x1024x1024_1_0_0
abbrev tA : Rect S2x1024x2 := Rect.unit (s := S2x1024x2) ![0, 0, 0] S1x1024x2.size inb_S2x1024x2_S1x1024x2_0_0_0
abbrev tB : Rect S2x1024x2 := Rect.unit (s := S2x1024x2) ![1, 0, 0] S1x1024x2.size inb_S2x1024x2_S1x1024x2_1_0_0

omit [FloatOps F] in
theorem hz : (![0, 0] : Fin 2 → Nat) = fun _ => 0 := funext fun a => by fin_cases a <;> rfl

/-- Copying a whole buffer into another leaves its contents there. -/
theorem copy_r (fd : (cc0_scratch1 : Ref sig .tc).ty.Contents (Elt F)) (fs : (cc0_stg1_0 : Ref sig .tc).ty.Contents (Elt F)) :
    (rlM : Memref sig .tc .vmem S1024x8 .f32).view.write (Elt F) fd ((rM : Memref sig .tc .vmem S1024x8 .f32).view.read (Elt F) fs) Finset.univ = fs := by
  show (View.whole cc0_scratch1).write (Elt F) fd ((View.whole cc0_stg1_0).read (Elt F) fs) Finset.univ = fs
  rw [View.read_whole]
  exact View.write_whole_univ _ _ _
theorem copy_x (fd : (cc0_scratch2 : Ref sig .tc).ty.Contents (Elt F)) (fs : (cc0_scratch0 : Ref sig .tc).ty.Contents (Elt F)) :
    (xlM : Memref sig .tc .vmem S1024x1024 .bf16).view.write (Elt F) fd ((xsM : Memref sig .tc .vmem S1024x1024 .bf16).view.read (Elt F) fs) Finset.univ = fs := by
  show (View.whole cc0_scratch2).write (Elt F) fd ((View.whole cc0_scratch0).read (Elt F) fs) Finset.univ = fs
  rw [View.read_whole]
  exact View.write_whole_univ _ _ _
theorem copy_t (fd : (cc0_scratch4 : Ref sig .tc).ty.Contents (Elt F)) (fs : (cc0_scratch3 : Ref sig .tc).ty.Contents (Elt F)) :
    (tlM : Memref sig .tc .vmem S1024x2 .f32).view.write (Elt F) fd ((tsM : Memref sig .tc .vmem S1024x2 .f32).view.read (Elt F) fs) Finset.univ = fs := by
  show (View.whole cc0_scratch4).write (Elt F) fd ((View.whole cc0_scratch3).read (Elt F) fs) Finset.univ = fs
  rw [View.read_whole]
  exact View.write_whole_univ _ _ _

omit [FloatOps F] in
theorem write_tokens (f w : (cc0_scratch0 : Ref sig .tc).ty.Contents (Elt F)) :
    ((xsM : Memref sig .tc .vmem S1024x1024 .bf16).access r0 : View sig .tc _ _ _).write (Elt F) f w Finset.univ = w :=
  Memref.write_access_unit_zero_univ (Elt F) cc0_scratch0 hz _ f w
omit [FloatOps F] in
theorem write_choices (f w : (cc0_scratch3 : Ref sig .tc).ty.Contents (Elt F)) :
    ((tsM : Memref sig .tc .vmem S1024x2 .f32).access r2 : View sig .tc _ _ _).write (Elt F) f w Finset.univ = w :=
  Memref.write_access_unit_zero_univ (Elt F) cc0_scratch3 hz _ f w
omit [FloatOps F] in
theorem read_x (f : (cc0_stg0_0 : Ref sig .tc).ty.Contents (Elt F)) :
    (xM : Memref sig .tc .vmem S1024x1024 .f32).view.readAt (Elt F) r0.toLoadRect f = f :=
  Memref.readAt_unit_zero (Elt F) cc0_stg0_0 hz _ f
omit [FloatOps F] in
theorem read_r (f : (cc0_stg1_0 : Ref sig .tc).ty.Contents (Elt F)) :
    (rM : Memref sig .tc .vmem S1024x8 .f32).view.readAt (Elt F) r8.toLoadRect f = f :=
  Memref.readAt_unit_zero (Elt F) cc0_stg1_0 hz _ f
omit [FloatOps F] in
theorem read_rl (f : (cc0_scratch1 : Ref sig .tc).ty.Contents (Elt F)) :
    (rlM : Memref sig .tc .vmem S1024x8 .f32).view.readAt (Elt F) r8.toLoadRect f = f :=
  Memref.readAt_unit_zero (Elt F) cc0_scratch1 hz _ f
omit [FloatOps F] in
theorem read_xs (f : (cc0_scratch0 : Ref sig .tc).ty.Contents (Elt F)) :
    (xsM : Memref sig .tc .vmem S1024x1024 .bf16).view.readAt (Elt F) r0.toLoadRect f = f :=
  Memref.readAt_unit_zero (Elt F) cc0_scratch0 hz _ f
omit [FloatOps F] in
theorem read_xl (f : (cc0_scratch2 : Ref sig .tc).ty.Contents (Elt F)) :
    (xlM : Memref sig .tc .vmem S1024x1024 .bf16).view.readAt (Elt F) r0.toLoadRect f = f :=
  Memref.readAt_unit_zero (Elt F) cc0_scratch2 hz _ f
omit [FloatOps F] in
theorem read_ts (f : (cc0_scratch3 : Ref sig .tc).ty.Contents (Elt F)) :
    (tsM : Memref sig .tc .vmem S1024x2 .f32).view.readAt (Elt F) r2.toLoadRect f = f :=
  Memref.readAt_unit_zero (Elt F) cc0_scratch3 hz _ f
omit [FloatOps F] in
theorem read_tl (f : (cc0_scratch4 : Ref sig .tc).ty.Contents (Elt F)) :
    (tlM : Memref sig .tc .vmem S1024x2 .f32).view.readAt (Elt F) r2.toLoadRect f = f :=
  Memref.readAt_unit_zero (Elt F) cc0_scratch4 hz _ f

/-! ### The two stores of a result -/

section Stores

variable (a b : Vec F S1024x1024 .bf16) (f : (cc0_stg2_0 : Ref sig .tc).ty.Contents (Elt F))
variable (p q : Vec F S1024x2 .f32) (g : (cc0_stg3_0 : Ref sig .tc).ty.Contents (Elt F))

/-- A store of the first slab, at an index of it and at one of the other; -/
theorem storeXA_in (w : Vec F S1024x1024 .bf16) (f : (cc0_stg2_0 : Ref sig .tc).ty.Contents (Elt F)) (i : S2x1024x1024.Idx) (h : (i 0).val = 0) :
    ((fM : Memref sig .tc .vmem S2x1024x1024 .bf16).access fA : View sig .tc _ _ _).write (Elt F) f (shapeCast S1x1024x1024 w shapeCasts_S1024x1024_S1x1024x1024) Finset.univ i = w (fun d => i d.succ) := by
  have e : ((fM : Memref sig .tc .vmem S2x1024x1024 .bf16).access fA : View sig .tc _ _ _).emb (fun | 0 => (0 : Fin 1) | 1 => i 1 | 2 => i 2) = i := by
    funext d; apply Fin.ext
    fin_cases d
    · show 0 + 1 * 0 = (i 0).val; omega
    · show 0 + 1 * (i 1).val = (i 1).val; omega
    · show 0 + 1 * (i 2).val = (i 2).val; omega
  conv_lhs => rw [← e]
  refine (View.write_emb_of_mem _ _ (Finset.mem_univ _)).trans ?_
  refine (shapeCast_addUnit_apply ![1024, 1024] w shapeCasts_S1024x1024_S1x1024x1024 _).trans (congrArg w (funext fun d => ?_))
  fin_cases d <;> rfl
theorem storeXA_out (w : Vec F S1x1024x1024 .bf16) (f : (cc0_stg2_0 : Ref sig .tc).ty.Contents (Elt F)) (i : S2x1024x1024.Idx) (h : (i 0).val ≠ 0) :
    ((fM : Memref sig .tc .vmem S2x1024x1024 .bf16).access fA : View sig .tc _ _ _).write (Elt F) f w Finset.univ i = f i := by
  refine View.write_of_not_mem _ _ _ fun hm => ?_
  obtain ⟨j, -, hj⟩ := Finset.mem_map.1 hm
  have h0 : 0 + 1 * (j 0).val = (i 0).val := congrArg (fun i : S2x1024x1024.Idx => (i 0).val) hj
  have := (j 0).isLt
  change (j 0).val < 1 at this
  omega
/-- and of the second. -/
theorem storeXB_in (w : Vec F S1024x1024 .bf16) (f : (cc0_stg2_0 : Ref sig .tc).ty.Contents (Elt F)) (i : S2x1024x1024.Idx) (h : (i 0).val ≠ 0) :
    ((fM : Memref sig .tc .vmem S2x1024x1024 .bf16).access fB : View sig .tc _ _ _).write (Elt F) f (shapeCast S1x1024x1024 w shapeCasts_S1024x1024_S1x1024x1024) Finset.univ i = w (fun d => i d.succ) := by
  have e : ((fM : Memref sig .tc .vmem S2x1024x1024 .bf16).access fB : View sig .tc _ _ _).emb (fun | 0 => (0 : Fin 1) | 1 => i 1 | 2 => i 2) = i := by
    have hlt : (i 0).val < 2 := (i 0).isLt
    funext d; apply Fin.ext
    fin_cases d
    · show 1 + 1 * 0 = (i 0).val; omega
    · show 0 + 1 * (i 1).val = (i 1).val; omega
    · show 0 + 1 * (i 2).val = (i 2).val; omega
  conv_lhs => rw [← e]
  refine (View.write_emb_of_mem _ _ (Finset.mem_univ _)).trans ?_
  refine (shapeCast_addUnit_apply ![1024, 1024] w shapeCasts_S1024x1024_S1x1024x1024 _).trans (congrArg w (funext fun d => ?_))
  fin_cases d <;> rfl
theorem storeXB_out (w : Vec F S1x1024x1024 .bf16) (f : (cc0_stg2_0 : Ref sig .tc).ty.Contents (Elt F)) (i : S2x1024x1024.Idx) (h : (i 0).val = 0) :
    ((fM : Memref sig .tc .vmem S2x1024x1024 .bf16).access fB : View sig .tc _ _ _).write (Elt F) f w Finset.univ i = f i := by
  refine View.write_of_not_mem _ _ _ fun hm => ?_
  obtain ⟨j, -, hj⟩ := Finset.mem_map.1 hm
  have h0 : 1 + 1 * (j 0).val = (i 0).val := congrArg (fun i : S2x1024x1024.Idx => (i 0).val) hj
  omega

/-- Storing first the first slab and then the second leaves the two arrays one above the other, -/
theorem storesX_AB : ((fM : Memref sig .tc .vmem S2x1024x1024 .bf16).access fB : View sig .tc _ _ _).write (Elt F)
      (((fM : Memref sig .tc .vmem S2x1024x1024 .bf16).access fA : View sig .tc _ _ _).write (Elt F) f (k0_pay1 a) Finset.univ) (k0_pay2 b) Finset.univ
    = stack (n := 1024) (k := 1024) a b := by
  funext i
  unfold stack k0_pay1 k0_pay2
  by_cases h : (i 0).val = 0
  · rw [if_pos h]; exact (storeXB_out _ _ i h).trans (storeXA_in a _ i h)
  · rw [if_neg h]; exact storeXB_in b _ i h
/-- and so does storing them in the other order. -/
theorem storesX_BA : ((fM : Memref sig .tc .vmem S2x1024x1024 .bf16).access fA : View sig .tc _ _ _).write (Elt F)
      (((fM : Memref sig .tc .vmem S2x1024x1024 .bf16).access fB : View sig .tc _ _ _).write (Elt F) f (k0_pay5 a) Finset.univ) (k0_pay6 b) Finset.univ
    = stack (n := 1024) (k := 1024) b a := by
  funext i
  unfold stack k0_pay5 k0_pay6
  by_cases h : (i 0).val = 0
  · rw [if_pos h]; exact storeXA_in b _ i h
  · rw [if_neg h]; exact (storeXA_out _ _ i h).trans (storeXB_in a _ i h)

/-- A store of the first slab, at an index of it and at one of the other; -/
theorem storeTA_in (w : Vec F S1024x2 .f32) (f : (cc0_stg3_0 : Ref sig .tc).ty.Contents (Elt F)) (i : S2x1024x2.Idx) (h : (i 0).val = 0) :
    ((tM : Memref sig .tc .vmem S2x1024x2 .f32).access tA : View sig .tc _ _ _).write (Elt F) f (shapeCast S1x1024x2 w shapeCasts_S1024x2_S1x1024x2) Finset.univ i = w (fun d => i d.succ) := by
  have e : ((tM : Memref sig .tc .vmem S2x1024x2 .f32).access tA : View sig .tc _ _ _).emb (fun | 0 => (0 : Fin 1) | 1 => i 1 | 2 => i 2) = i := by
    funext d; apply Fin.ext
    fin_cases d
    · show 0 + 1 * 0 = (i 0).val; omega
    · show 0 + 1 * (i 1).val = (i 1).val; omega
    · show 0 + 1 * (i 2).val = (i 2).val; omega
  conv_lhs => rw [← e]
  refine (View.write_emb_of_mem _ _ (Finset.mem_univ _)).trans ?_
  refine (shapeCast_addUnit_apply ![1024, 2] w shapeCasts_S1024x2_S1x1024x2 _).trans (congrArg w (funext fun d => ?_))
  fin_cases d <;> rfl
theorem storeTA_out (w : Vec F S1x1024x2 .f32) (f : (cc0_stg3_0 : Ref sig .tc).ty.Contents (Elt F)) (i : S2x1024x2.Idx) (h : (i 0).val ≠ 0) :
    ((tM : Memref sig .tc .vmem S2x1024x2 .f32).access tA : View sig .tc _ _ _).write (Elt F) f w Finset.univ i = f i := by
  refine View.write_of_not_mem _ _ _ fun hm => ?_
  obtain ⟨j, -, hj⟩ := Finset.mem_map.1 hm
  have h0 : 0 + 1 * (j 0).val = (i 0).val := congrArg (fun i : S2x1024x2.Idx => (i 0).val) hj
  have := (j 0).isLt
  change (j 0).val < 1 at this
  omega
/-- and of the second. -/
theorem storeTB_in (w : Vec F S1024x2 .f32) (f : (cc0_stg3_0 : Ref sig .tc).ty.Contents (Elt F)) (i : S2x1024x2.Idx) (h : (i 0).val ≠ 0) :
    ((tM : Memref sig .tc .vmem S2x1024x2 .f32).access tB : View sig .tc _ _ _).write (Elt F) f (shapeCast S1x1024x2 w shapeCasts_S1024x2_S1x1024x2) Finset.univ i = w (fun d => i d.succ) := by
  have e : ((tM : Memref sig .tc .vmem S2x1024x2 .f32).access tB : View sig .tc _ _ _).emb (fun | 0 => (0 : Fin 1) | 1 => i 1 | 2 => i 2) = i := by
    have hlt : (i 0).val < 2 := (i 0).isLt
    funext d; apply Fin.ext
    fin_cases d
    · show 1 + 1 * 0 = (i 0).val; omega
    · show 0 + 1 * (i 1).val = (i 1).val; omega
    · show 0 + 1 * (i 2).val = (i 2).val; omega
  conv_lhs => rw [← e]
  refine (View.write_emb_of_mem _ _ (Finset.mem_univ _)).trans ?_
  refine (shapeCast_addUnit_apply ![1024, 2] w shapeCasts_S1024x2_S1x1024x2 _).trans (congrArg w (funext fun d => ?_))
  fin_cases d <;> rfl
theorem storeTB_out (w : Vec F S1x1024x2 .f32) (f : (cc0_stg3_0 : Ref sig .tc).ty.Contents (Elt F)) (i : S2x1024x2.Idx) (h : (i 0).val = 0) :
    ((tM : Memref sig .tc .vmem S2x1024x2 .f32).access tB : View sig .tc _ _ _).write (Elt F) f w Finset.univ i = f i := by
  refine View.write_of_not_mem _ _ _ fun hm => ?_
  obtain ⟨j, -, hj⟩ := Finset.mem_map.1 hm
  have h0 : 1 + 1 * (j 0).val = (i 0).val := congrArg (fun i : S2x1024x2.Idx => (i 0).val) hj
  omega

/-- Storing first the first slab and then the second leaves the two arrays one above the other, -/
theorem storesT_AB : ((tM : Memref sig .tc .vmem S2x1024x2 .f32).access tB : View sig .tc _ _ _).write (Elt F)
      (((tM : Memref sig .tc .vmem S2x1024x2 .f32).access tA : View sig .tc _ _ _).write (Elt F) g (k0_pay3 p) Finset.univ) (k0_pay4 q) Finset.univ
    = stack (n := 1024) (k := 2) p q := by
  funext i
  unfold stack k0_pay3 k0_pay4
  by_cases h : (i 0).val = 0
  · rw [if_pos h]; exact (storeTB_out _ _ i h).trans (storeTA_in p _ i h)
  · rw [if_neg h]; exact storeTB_in q _ i h
/-- and so does storing them in the other order. -/
theorem storesT_BA : ((tM : Memref sig .tc .vmem S2x1024x2 .f32).access tA : View sig .tc _ _ _).write (Elt F)
      (((tM : Memref sig .tc .vmem S2x1024x2 .f32).access tB : View sig .tc _ _ _).write (Elt F) g (k0_pay7 p) Finset.univ) (k0_pay8 q) Finset.univ
    = stack (n := 1024) (k := 2) q p := by
  funext i
  unfold stack k0_pay7 k0_pay8
  by_cases h : (i 0).val = 0
  · rw [if_pos h]; exact storeTA_in q _ i h
  · rw [if_neg h]; exact (storeTA_out _ _ i h).trans (storeTB_in p _ i h)

end Stores

theorem cross_eq : (PL m ρ).cross = S₀ := show Finset.univ.filter (fun k => cr k = true) = S₀ by decide

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The device's own three landing buffers are what its signal hands its peer. -/
theorem bar_pay (c : Dev nD) (f₁ : (cc0_scratch1 : Ref sig .tc).ty.Contents (Elt F)) (f₂ : (cc0_scratch2 : Ref sig .tc).ty.Contents (Elt F))
    (f₄ : (cc0_scratch4 : Ref sig .tc).ty.Contents (Elt F)) :
    iprop(pts c cc0_scratch1 f₁ ∗ pts c cc0_scratch2 f₂ ∗ pts c cc0_scratch4 f₄) ⊢ (PL m ρ).pay ((PL m ρ).peer c) 0 := by
  show _ ⊢ iprop((∃ f, pts (peer (peer c)) cc0_scratch1 f) ∗ (∃ f, pts (peer (peer c)) cc0_scratch2 f) ∗ ∃ f, pts (peer (peer c)) cc0_scratch4 f)
  rw [peer_peer]
  iintro ⟨H1, H2, H4⟩
  isplitl [H1]; · iexists f₁; iexact H1
  isplitl [H2]; · iexists f₂; iexact H2
  iexists f₄; iexact H4

/-- The transfer of the half of the router. -/
theorem send_r (K : Dev nD × Fin 7 → ℕ) (c d : Dev nD) (hd : d = peer c)
    {hsc : (rlM : Memref sig (d : Thread nD τ).2.kind .vmem S1024x8 .f32).view.ref.isScScratch = false}
    {hsrc : (rM : Memref sig .tc .vmem S1024x8 .f32).view.WordExact} {hdst : (rlM : Memref sig .tc .vmem S1024x8 .f32).view.WordExact}
    {hsem : DmaTarget.Typed .vmem (.dma rV) (.remote (d : Thread nD τ) (rlM : Memref sig .tc .vmem S1024x8 .f32) (.dma rS) hsc)}
    {α : Type} {Q : α → sProp 𝕄} {k : PUnit → Prog (TpuEff nD τ sig (Elt F) Λ₀ .tc) α}
    (fp : (cc0_scratch1 : Ref sig .tc).ty.Contents (Elt F)) :
    iprop((PL m ρ).records K ∗ (PL m ρ).owes' S₁ c ∗ (PL m ρ).tok c 1 ∗ (PL m ρ).tok c 2 ∗ pts c cc0_stg1_0 (rstg m ρ c) ∗ pts (peer c) cc0_scratch1 fp)
      ⊢ iprop((((PL m ρ).crd c 1 ∗ (PL m ρ).owes' S₂ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rM (.remote (d : Thread nD τ) rlM (.dma rS) hsc) (.dma rV) hsrc hdst hsem) k) Q) := by
  subst hd
  have h := (PL m ρ).wp_send (defs₀ (F := F)) 𝒱₀ K (Φ := Q) c (peer c) rfl 1 2 (sS := rS) (sR := rV) rfl rfl rfl rfl
    (src := rM) (dst := rlM) (hsc := hsc) (hsrc := hsrc) (hdst := hdst) (hsem := hsem) rfl rfl (S := S₁) (S' := S₂) (by decide) (by decide)
    (q := fullShare) (fs := rstg m ρ c) (fd := fp)
    (by rw [View.set_whole]; exact BI.Entails.refl _)
    (by
      rw [View.set_whole, copy_r]
      show pts (peer c) cc0_scratch1 (rstg m ρ c) ⊢ pts (peer c) cc0_scratch1 (rstg m ρ (peer (peer c)))
      rw [peer_peer])
    (kk := k) (by routes)
  rw [View.set_whole, View.set_whole] at h
  exact h

/-- The transfer of the tokens. -/
theorem send_x (K : Dev nD × Fin 7 → ℕ) (c d : Dev nD) (hd : d = peer c)
    {hsc : (xlM : Memref sig (d : Thread nD τ).2.kind .vmem S1024x1024 .bf16).view.ref.isScScratch = false}
    {hsrc : (xsM : Memref sig .tc .vmem S1024x1024 .bf16).view.WordExact} {hdst : (xlM : Memref sig .tc .vmem S1024x1024 .bf16).view.WordExact}
    {hsem : DmaTarget.Typed .vmem (.dma xV) (.remote (d : Thread nD τ) (xlM : Memref sig .tc .vmem S1024x1024 .bf16) (.dma xS) hsc)}
    {α : Type} {Q : α → sProp 𝕄} {k : PUnit → Prog (TpuEff nD τ sig (Elt F) Λ₀ .tc) α}
    (fp : (cc0_scratch2 : Ref sig .tc).ty.Contents (Elt F)) :
    iprop((PL m ρ).records K ∗ (PL m ρ).owes' S₂ c ∗ (PL m ρ).tok c 3 ∗ (PL m ρ).tok c 4 ∗ pts c cc0_scratch0 (tokens m ρ c) ∗ pts (peer c) cc0_scratch2 fp)
      ⊢ iprop((((PL m ρ).crd c 3 ∗ (PL m ρ).owes' S₃ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xsM (.remote (d : Thread nD τ) xlM (.dma xS) hsc) (.dma xV) hsrc hdst hsem) k) Q) := by
  subst hd
  have h := (PL m ρ).wp_send (defs₀ (F := F)) 𝒱₀ K (Φ := Q) c (peer c) rfl 3 4 (sS := xS) (sR := xV) rfl rfl rfl rfl
    (src := xsM) (dst := xlM) (hsc := hsc) (hsrc := hsrc) (hdst := hdst) (hsem := hsem) rfl rfl (S := S₂) (S' := S₃) (by decide) (by decide)
    (q := fullShare) (fs := tokens m ρ c) (fd := fp)
    (by rw [View.set_whole]; exact BI.Entails.refl _)
    (by
      rw [View.set_whole, copy_x]
      show pts (peer c) cc0_scratch2 (tokens m ρ c) ⊢ pts (peer c) cc0_scratch2 (tokens m ρ (peer (peer c)))
      rw [peer_peer])
    (kk := k) (by routes)
  rw [View.set_whole, View.set_whole] at h
  exact h

/-- The transfer of the choices. -/
theorem send_t (K : Dev nD × Fin 7 → ℕ) (c d : Dev nD) (hd : d = peer c)
    {hsc : (tlM : Memref sig (d : Thread nD τ).2.kind .vmem S1024x2 .f32).view.ref.isScScratch = false}
    {hsrc : (tsM : Memref sig .tc .vmem S1024x2 .f32).view.WordExact} {hdst : (tlM : Memref sig .tc .vmem S1024x2 .f32).view.WordExact}
    {hsem : DmaTarget.Typed .vmem (.dma tV) (.remote (d : Thread nD τ) (tlM : Memref sig .tc .vmem S1024x2 .f32) (.dma tS) hsc)}
    {α : Type} {Q : α → sProp 𝕄} {k : PUnit → Prog (TpuEff nD τ sig (Elt F) Λ₀ .tc) α}
    (fp : (cc0_scratch4 : Ref sig .tc).ty.Contents (Elt F)) :
    iprop((PL m ρ).records K ∗ (PL m ρ).owes' S₃ c ∗ (PL m ρ).tok c 5 ∗ (PL m ρ).tok c 6 ∗ pts c cc0_scratch3 (choices m ρ c) ∗ pts (peer c) cc0_scratch4 fp)
      ⊢ iprop((((PL m ρ).crd c 5 ∗ (PL m ρ).owes' ∅ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tsM (.remote (d : Thread nD τ) tlM (.dma tS) hsc) (.dma tV) hsrc hdst hsem) k) Q) := by
  subst hd
  have h := (PL m ρ).wp_send (defs₀ (F := F)) 𝒱₀ K (Φ := Q) c (peer c) rfl 5 6 (sS := tS) (sR := tV) rfl rfl rfl rfl
    (src := tsM) (dst := tlM) (hsc := hsc) (hsrc := hsrc) (hdst := hdst) (hsem := hsem) rfl rfl (S := S₃) (S' := ∅) (by decide) (by decide)
    (q := fullShare) (fs := choices m ρ c) (fd := fp)
    (by rw [View.set_whole]; exact BI.Entails.refl _)
    (by
      rw [View.set_whole, copy_t]
      show pts (peer c) cc0_scratch4 (choices m ρ c) ⊢ pts (peer c) cc0_scratch4 (choices m ρ (peer (peer c)))
      rw [peer_peer])
    (kk := k) (by routes)
  rw [View.set_whole, View.set_whole] at h
  exact h

/-! ### The two guarded regions -/

/-- Whether the device stores its own arrays first, and whether it stores them second, as the program decides. -/
abbrev first (c : Dev nD) : Prop := Scalar.cmpi .ne (Scalar.extui (Scalar.cmpi .eq (axis c) 0#32) : BitVec 32) 0#32 = 1#1
abbrev second (c : Dev nD) : Prop := Scalar.cmpi .ne (Scalar.extui (Scalar.cmpi .eq (axis c) 1#32) : BitVec 32) 0#32 = 1#1

theorem first_iff (c : Dev nD) : first c ↔ (c.val / 4) % 2 = 0 := by revert c; decide
theorem second_iff (c : Dev nD) : second c ↔ ¬ (c.val / 4) % 2 = 0 := by revert c; decide

/-- A device at coordinate zero, having stored its own arrays first, holds the results; -/
theorem results_first (c : Dev nD) (h : (c.val / 4) % 2 = 0) (f : (cc0_stg2_0 : Ref sig .tc).ty.Contents (Elt F)) (g : (cc0_stg3_0 : Ref sig .tc).ty.Contents (Elt F)) :
    ((fM : Memref sig .tc .vmem S2x1024x1024 .bf16).access fB : View sig .tc _ _ _).write (Elt F)
        (((fM : Memref sig .tc .vmem S2x1024x1024 .bf16).access fA : View sig .tc _ _ _).write (Elt F) f (k0_pay1 (tokens m ρ c)) Finset.univ) (k0_pay2 (tokens m ρ (peer c))) Finset.univ = outX m ρ c
    ∧ ((tM : Memref sig .tc .vmem S2x1024x2 .f32).access tB : View sig .tc _ _ _).write (Elt F)
        (((tM : Memref sig .tc .vmem S2x1024x2 .f32).access tA : View sig .tc _ _ _).write (Elt F) g (k0_pay3 (choices m ρ c)) Finset.univ) (k0_pay4 (choices m ρ (peer c))) Finset.univ = outT m ρ c := by
  refine ⟨(storesX_AB _ _ f).trans ?_, (storesT_AB _ _ g).trans ?_⟩
  · unfold outX; rw [if_pos h]
  · unfold outT; rw [if_pos h]
/-- and one at coordinate one, having stored its own second. -/
theorem results_second (c : Dev nD) (h : ¬ (c.val / 4) % 2 = 0) (f : (cc0_stg2_0 : Ref sig .tc).ty.Contents (Elt F)) (g : (cc0_stg3_0 : Ref sig .tc).ty.Contents (Elt F)) :
    ((fM : Memref sig .tc .vmem S2x1024x1024 .bf16).access fA : View sig .tc _ _ _).write (Elt F)
        (((fM : Memref sig .tc .vmem S2x1024x1024 .bf16).access fB : View sig .tc _ _ _).write (Elt F) f (k0_pay5 (tokens m ρ c)) Finset.univ) (k0_pay6 (tokens m ρ (peer c))) Finset.univ = outX m ρ c
    ∧ ((tM : Memref sig .tc .vmem S2x1024x2 .f32).access tA : View sig .tc _ _ _).write (Elt F)
        (((tM : Memref sig .tc .vmem S2x1024x2 .f32).access tB : View sig .tc _ _ _).write (Elt F) g (k0_pay7 (choices m ρ c)) Finset.univ) (k0_pay8 (choices m ρ (peer c))) Finset.univ = outT m ρ c := by
  refine ⟨(storesX_BA _ _ f).trans ?_, (storesT_BA _ _ g).trans ?_⟩
  · unfold outX; rw [if_neg h]
  · unfold outT; rw [if_neg h]

set_option maxHeartbeats 6400000 in
/-- The body, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre Φ₀ start Plan.ghost
  simp only [bigSep_fin7]
  iintro ⟨⟨⟨⟨⟨%K, #HR, ⟨HaB, HaRS, HaRV, HaXS, HaXV, HaTS, HaTV⟩, HtB, HtRS, HtRV, HtXS, HtXV, HtTS, HtTV⟩, ⟨HcB, HcRV, HcXV, HcTV⟩, #Hlev⟩,
      ⟨%f0, Hs0⟩, ⟨%f1, Hs1⟩, ⟨%f2, Hs2⟩, ⟨%f3, Hs3⟩, ⟨%f4, Hs4⟩⟩,
    Ho, ⟨%d0, %g0, %hg0, Hx⟩, ⟨%d1, %g1, %hg1, Hr⟩, ⟨%d2, %g2, %hg2, Hf⟩, ⟨%d3, %g3, %hg3, Ht⟩⟩, Hk⟩
  have hx : g0 = xstg m ρ c := by rw [hg0]; unfold Dat.before; rw [if_pos (fetch0_0 t0_0)]; rfl
  have hr : g1 = rstg m ρ c := by rw [hg1]; unfold Dat.before; rw [if_pos (fetch0_1 t0_0)]; rfl
  subst hx hr
  unfold Dat.owesAt Pipeline.owesWithin
  icases Ho with ⟨%W, %hW, HO⟩
  rw [show (dats m ρ 0 c).owed t0_0.castSucc = (PL m ρ).owe S₀ c from congrArg (fun S => (PL m ρ).owe S c) (cross_eq m ρ)]
  ihave HO := (show owes (c : Thread nD τ) ((PL m ρ).owe S₀ c) W ⊢ (PL m ρ).owes' S₀ c from by unfold Plan.owes'; iintro H; iexists W; iexact H) $$ HO
  -- the handshake
  iapply ((PL m ρ).wp_signal (defs₀ (F := F)) 𝒱₀ K c _ (dev1_eq c) 0 (s := barS) rfl rfl (u := 1) rfl (S := S₀) (S' := S₁) (by decide) (by decide) (by routes))
    $$ [HO HtB Hs1 Hs2 Hs4]
  · isplitr; · iexact HR
    isplitl [HO]; · iexact HO
    isplitl [HtB]; · iexact HtB
    iapply (bar_pay m ρ c f1 f2 f4)
    isplitl [Hs1]; · iexact Hs1
    isplitl [Hs2]; · iexact Hs2
    iexact Hs4
  iintro HO
  iapply ((PL m ρ).wp_wait (defs₀ (F := F)) 𝒱₀ K c 0 (sm := .reg barS) rfl (u := 1) rfl (S := S₁) (show ∀ j ∈ S₁, lvl 0 < lvl j by decide) (wpE_semWait_eq 𝒱₀ (c : Thread nD τ) none Set.univ))
    $$ [HcB HO HaB]
  · isplitr; · iexact HR
    isplitr; · iexact Hlev
    isplitl [HcB]; · iexact HcB
    isplitl [HO]; · iexact HO
    iexact HaB
  iintro ⟨HO, HzB, Hp⟩
  ihave Hp := (show (PL m ρ).pay c 0 ⊢ iprop((∃ f, pts (peer c) cc0_scratch1 f) ∗ (∃ f, pts (peer c) cc0_scratch2 f) ∗ ∃ f, pts (peer c) cc0_scratch4 f) from BI.Entails.refl _) $$ Hp
  icases Hp with ⟨⟨%p1, Hp1⟩, ⟨%p2, Hp2⟩, ⟨%p4, Hp4⟩⟩
  -- the half of the router leaves
  iapply (send_r m ρ K c _ (dev2_eq c) p1) $$ [HO HtRS HtRV Hr Hp1]
  · isplitr; · iexact HR
    isplitl [HO]; · iexact HO
    isplitl [HtRS]; · iexact HtRS
    isplitl [HtRV]; · iexact HtRV
    isplitl [Hr]; · iexact Hr
    iexact Hp1
  iintro ⟨HcRS, HO⟩
  -- the tokens, cast, leave
  iapply (wp_load 𝒱₀ (c : Thread nD τ) none Set.univ (m := xM) (Finset.subset_univ _)) $$ Hx; iintro Hx
  rw [read_x]
  iapply (wp_load 𝒱₀ (c : Thread nD τ) none Set.univ (m := xsM) (Finset.subset_univ _)) $$ Hs0; iintro Hs0
  iapply (wp_store 𝒱₀ (c : Thread nD τ) none Set.univ (m := xsM) (r := r0) (Mk := Finset.univ) (Finset.subset_univ _)) $$ Hs0; iintro Hs0
  rw [write_tokens]
  iapply (send_x m ρ K c _ (dev3_eq c) p2) $$ [HO HtXS HtXV Hs0 Hp2]
  · isplitr; · iexact HR
    isplitl [HO]; · iexact HO
    isplitl [HtXS]; · iexact HtXS
    isplitl [HtXV]; · iexact HtXV
    isplitl [Hs0]; · iexact Hs0
    iexact Hp2
  iintro ⟨HcXS, HO⟩
  -- the half of the router has left
  iapply ((PL m ρ).wp_wait (defs₀ (F := F)) 𝒱₀ K c 1 (sm := .dma rS) rfl (u := (rM : Memref sig .tc .vmem S1024x8 .f32).view.dmaCredit) rfl (S := S₃) (show ∀ j ∈ (S₃ : Finset (Fin 7)), lvl 1 < lvl j by decide) (wpE_waitDma2_eq 𝒱₀ (c : Thread nD τ) none Set.univ))
    $$ [HcRS HO HaRS]
  · isplitr; · iexact HR
    isplitr; · iexact Hlev
    isplitl [HcRS]; · iexact HcRS
    isplitl [HO]; · iexact HO
    iexact HaRS
  iintro ⟨HO, HzRS, Hr⟩
  ihave Hr := (show (PL m ρ).pay c 1 ⊢ pts c cc0_stg1_0 (rstg m ρ c) from BI.Entails.refl _) $$ Hr
  -- the peer's half has landed
  iapply ((PL m ρ).wp_wait (defs₀ (F := F)) 𝒱₀ K c 2 (sm := .dma rV) rfl (u := NR) rfl (S := S₃) (show ∀ j ∈ (S₃ : Finset (Fin 7)), lvl 2 < lvl j by decide) (wpE_waitDma2_eq 𝒱₀ (c : Thread nD τ) none Set.univ))
    $$ [HcRV HO HaRV]
  · isplitr; · iexact HR
    isplitr; · iexact Hlev
    isplitl [HcRV]; · iexact HcRV
    isplitl [HO]; · iexact HO
    iexact HaRV
  iintro ⟨HO, HzRV, Hs1⟩
  ihave Hs1 := (show (PL m ρ).pay c 2 ⊢ pts c cc0_scratch1 (rstg m ρ (peer c)) from BI.Entails.refl _) $$ Hs1
  -- the gates, the choices, and their transfer
  iapply (wp_load 𝒱₀ (c : Thread nD τ) none Set.univ (m := xM) (Finset.subset_univ _)) $$ Hx; iintro Hx
  rw [read_x]
  iapply (wp_load 𝒱₀ (c : Thread nD τ) none Set.univ (m := rM) (Finset.subset_univ _)) $$ Hr; iintro Hr
  rw [read_r]
  iapply (wp_load 𝒱₀ (c : Thread nD τ) none Set.univ (m := rlM) (Finset.subset_univ _)) $$ Hs1; iintro Hs1
  rw [read_rl]
  iapply (wp_load 𝒱₀ (c : Thread nD τ) none Set.univ (m := tsM) (Finset.subset_univ _)) $$ Hs3; iintro Hs3
  iapply (wp_store 𝒱₀ (c : Thread nD τ) none Set.univ (m := tsM) (r := r2) (Mk := Finset.univ) (Finset.subset_univ _)) $$ Hs3; iintro Hs3
  rw [write_choices]
  iapply (send_t m ρ K c _ (dev4_eq c) p4) $$ [HO HtTS HtTV Hs3 Hp4]
  · isplitr; · iexact HR
    isplitl [HO]; · iexact HO
    isplitl [HtTS]; · iexact HtTS
    isplitl [HtTV]; · iexact HtTV
    isplitl [Hs3]; · iexact Hs3
    iexact Hp4
  iintro ⟨HcTS, HO⟩
  -- the four waits left
  iapply ((PL m ρ).wp_wait (defs₀ (F := F)) 𝒱₀ K c 3 (sm := .dma xS) rfl (u := (xsM : Memref sig .tc .vmem S1024x1024 .bf16).view.dmaCredit) rfl (S := ∅) (show ∀ j ∈ (∅ : Finset (Fin 7)), lvl 3 < lvl j by decide) (wpE_waitDma2_eq 𝒱₀ (c : Thread nD τ) none Set.univ))
    $$ [HcXS HO HaXS]
  · isplitr; · iexact HR
    isplitr; · iexact Hlev
    isplitl [HcXS]; · iexact HcXS
    isplitl [HO]; · iexact HO
    iexact HaXS
  iintro ⟨HO, HzXS, Hs0⟩
  ihave Hs0 := (show (PL m ρ).pay c 3 ⊢ pts c cc0_scratch0 (tokens m ρ c) from BI.Entails.refl _) $$ Hs0
  -- the peer's tokens have landed
  iapply ((PL m ρ).wp_wait (defs₀ (F := F)) 𝒱₀ K c 4 (sm := .dma xV) rfl (u := NX) rfl (S := ∅) (show ∀ j ∈ (∅ : Finset (Fin 7)), lvl 4 < lvl j by decide) (wpE_waitDma2_eq 𝒱₀ (c : Thread nD τ) none Set.univ))
    $$ [HcXV HO HaXV]
  · isplitr; · iexact HR
    isplitr; · iexact Hlev
    isplitl [HcXV]; · iexact HcXV
    isplitl [HO]; · iexact HO
    iexact HaXV
  iintro ⟨HO, HzXV, Hs2⟩
  ihave Hs2 := (show (PL m ρ).pay c 4 ⊢ pts c cc0_scratch2 (tokens m ρ (peer c)) from BI.Entails.refl _) $$ Hs2
  -- the choices have left
  iapply ((PL m ρ).wp_wait (defs₀ (F := F)) 𝒱₀ K c 5 (sm := .dma tS) rfl (u := (tsM : Memref sig .tc .vmem S1024x2 .f32).view.dmaCredit) rfl (S := ∅) (show ∀ j ∈ (∅ : Finset (Fin 7)), lvl 5 < lvl j by decide) (wpE_waitDma2_eq 𝒱₀ (c : Thread nD τ) none Set.univ))
    $$ [HcTS HO HaTS]
  · isplitr; · iexact HR
    isplitr; · iexact Hlev
    isplitl [HcTS]; · iexact HcTS
    isplitl [HO]; · iexact HO
    iexact HaTS
  iintro ⟨HO, HzTS, Hs3⟩
  ihave Hs3 := (show (PL m ρ).pay c 5 ⊢ pts c cc0_scratch3 (choices m ρ c) from BI.Entails.refl _) $$ Hs3
  -- the peer's choices have landed
  iapply ((PL m ρ).wp_wait (defs₀ (F := F)) 𝒱₀ K c 6 (sm := .dma tV) rfl (u := NT) rfl (S := ∅) (show ∀ j ∈ (∅ : Finset (Fin 7)), lvl 6 < lvl j by decide) (wpE_waitDma2_eq 𝒱₀ (c : Thread nD τ) none Set.univ))
    $$ [HcTV HO HaTV]
  · isplitr; · iexact HR
    isplitr; · iexact Hlev
    isplitl [HcTV]; · iexact HcTV
    isplitl [HO]; · iexact HO
    iexact HaTV
  iintro ⟨HO, HzTV, Hs4⟩
  ihave Hs4 := (show (PL m ρ).pay c 6 ⊢ pts c cc0_scratch4 (choices m ρ (peer c)) from BI.Entails.refl _) $$ Hs4
  -- the results, in the order of the mesh
  by_cases h : (c.val / 4) % 2 = 0
  · rw [dif_pos (show first c from (first_iff c).2 h)]
    simp only [Prog.lift, Prog.bind_op, Prog.bind_ret, Prog.pure_eq_ret]
    iapply (wp_load 𝒱₀ (c : Thread nD τ) none Set.univ (m := xsM) (Finset.subset_univ _)) $$ Hs0; iintro Hs0
    rw [read_xs]
    iapply (wp_load 𝒱₀ (c : Thread nD τ) none Set.univ (m := fM) (Finset.subset_univ _)) $$ Hf; iintro Hf
    iapply (wp_store 𝒱₀ (c : Thread nD τ) none Set.univ (m := fM) (r := fA) (Mk := Finset.univ) (Finset.subset_univ _)) $$ Hf; iintro Hf
    iapply (wp_load 𝒱₀ (c : Thread nD τ) none Set.univ (m := xlM) (Finset.subset_univ _)) $$ Hs2; iintro Hs2
    rw [read_xl]
    iapply (wp_load 𝒱₀ (c : Thread nD τ) none Set.univ (m := fM) (Finset.subset_univ _)) $$ Hf; iintro Hf
    iapply (wp_store 𝒱₀ (c : Thread nD τ) none Set.univ (m := fM) (r := fB) (Mk := Finset.univ) (Finset.subset_univ _)) $$ Hf; iintro Hf
    iapply (wp_load 𝒱₀ (c : Thread nD τ) none Set.univ (m := tsM) (Finset.subset_univ _)) $$ Hs3; iintro Hs3
    rw [read_ts]
    iapply (wp_load 𝒱₀ (c : Thread nD τ) none Set.univ (m := tM) (Finset.subset_univ _)) $$ Ht; iintro Ht
    iapply (wp_store 𝒱₀ (c : Thread nD τ) none Set.univ (m := tM) (r := tA) (Mk := Finset.univ) (Finset.subset_univ _)) $$ Ht; iintro Ht
    iapply (wp_load 𝒱₀ (c : Thread nD τ) none Set.univ (m := tlM) (Finset.subset_univ _)) $$ Hs4; iintro Hs4
    rw [read_tl]
    iapply (wp_load 𝒱₀ (c : Thread nD τ) none Set.univ (m := tM) (Finset.subset_univ _)) $$ Ht; iintro Ht
    iapply (wp_store 𝒱₀ (c : Thread nD τ) none Set.univ (m := tM) (r := tB) (Mk := Finset.univ) (Finset.subset_univ _)) $$ Ht; iintro Ht
    rw [dif_neg (show ¬ second c from fun h' => (second_iff c).1 h' h)]
    simp only [Prog.bind_ret]
    rw [wp_ret]; imodintro
    iapply Hk
    unfold bodyPost Φ₁ Dat.owesAt Pipeline.owesWithin
    rw [show (dats m ρ 0 c).owed t0_0.succ = 0 from rfl]
    isplitl [Hs0 Hs1 Hs2 Hs3 Hs4 HzB HzRS HzRV HzXS HzXV HzTS HzTV]
    · isplitl [Hs0 Hs1 Hs2 Hs3 Hs4]
      · isplitl [Hs0]; · iexact Hs0
        isplitl [Hs1]; · iexact Hs1
        isplitl [Hs2]; · iexact Hs2
        isplitl [Hs3]; · iexact Hs3
        iexact Hs4
      isplitl [HzB]; · iexact HzB
      isplitl [HzRS]; · iexact HzRS
      isplitl [HzRV]; · iexact HzRV
      isplitl [HzXS]; · iexact HzXS
      isplitl [HzXV]; · iexact HzXV
      isplitl [HzTS]; · iexact HzTS
      iexact HzTV
    isplitl [HO]
    · unfold Plan.owes'
      rw [Plan.owe_empty]
      icases HO with ⟨%W', HO⟩
      iexists W'
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    isplitl [Hf]
    · iexists _; isplitr; · (ipureintro; exact (results_first m ρ c h g2 g3).1)
      iexact Hf
    iexists _; isplitr; · (ipureintro; exact (results_first m ρ c h g2 g3).2)
    iexact Ht
  · rw [dif_neg (show ¬ first c from fun h' => h ((first_iff c).1 h'))]
    simp only [Prog.bind_ret]
    rw [dif_pos (show second c from (second_iff c).2 h)]
    iapply (wp_load 𝒱₀ (c : Thread nD τ) none Set.univ (m := xsM) (Finset.subset_univ _)) $$ Hs0; iintro Hs0
    rw [read_xs]
    iapply (wp_load 𝒱₀ (c : Thread nD τ) none Set.univ (m := fM) (Finset.subset_univ _)) $$ Hf; iintro Hf
    iapply (wp_store 𝒱₀ (c : Thread nD τ) none Set.univ (m := fM) (r := fB) (Mk := Finset.univ) (Finset.subset_univ _)) $$ Hf; iintro Hf
    iapply (wp_load 𝒱₀ (c : Thread nD τ) none Set.univ (m := xlM) (Finset.subset_univ _)) $$ Hs2; iintro Hs2
    rw [read_xl]
    iapply (wp_load 𝒱₀ (c : Thread nD τ) none Set.univ (m := fM) (Finset.subset_univ _)) $$ Hf; iintro Hf
    iapply (wp_store 𝒱₀ (c : Thread nD τ) none Set.univ (m := fM) (r := fA) (Mk := Finset.univ) (Finset.subset_univ _)) $$ Hf; iintro Hf
    iapply (wp_load 𝒱₀ (c : Thread nD τ) none Set.univ (m := tsM) (Finset.subset_univ _)) $$ Hs3; iintro Hs3
    rw [read_ts]
    iapply (wp_load 𝒱₀ (c : Thread nD τ) none Set.univ (m := tM) (Finset.subset_univ _)) $$ Ht; iintro Ht
    iapply (wp_store 𝒱₀ (c : Thread nD τ) none Set.univ (m := tM) (r := tB) (Mk := Finset.univ) (Finset.subset_univ _)) $$ Ht; iintro Ht
    iapply (wp_load 𝒱₀ (c : Thread nD τ) none Set.univ (m := tlM) (Finset.subset_univ _)) $$ Hs4; iintro Hs4
    rw [read_tl]
    iapply (wp_load 𝒱₀ (c : Thread nD τ) none Set.univ (m := tM) (Finset.subset_univ _)) $$ Ht; iintro Ht
    iapply (wp_store 𝒱₀ (c : Thread nD τ) none Set.univ (m := tM) (r := tA) (Mk := Finset.univ) (Finset.subset_univ _)) $$ Ht; iintro Ht
    rw [wp_ret]; imodintro
    iapply Hk
    unfold bodyPost Φ₁ Dat.owesAt Pipeline.owesWithin
    rw [show (dats m ρ 0 c).owed t0_0.succ = 0 from rfl]
    isplitl [Hs0 Hs1 Hs2 Hs3 Hs4 HzB HzRS HzRV HzXS HzXV HzTS HzTV]
    · isplitl [Hs0 Hs1 Hs2 Hs3 Hs4]
      · isplitl [Hs0]; · iexact Hs0
        isplitl [Hs1]; · iexact Hs1
        isplitl [Hs2]; · iexact Hs2
        isplitl [Hs3]; · iexact Hs3
        iexact Hs4
      isplitl [HzB]; · iexact HzB
      isplitl [HzRS]; · iexact HzRS
      isplitl [HzRV]; · iexact HzRV
      isplitl [HzXS]; · iexact HzXS
      isplitl [HzXV]; · iexact HzXV
      isplitl [HzTS]; · iexact HzTS
      iexact HzTV
    isplitl [HO]
    · unfold Plan.owes'
      rw [Plan.owe_empty]
      icases HO with ⟨%W', HO⟩
      iexists W'
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    isplitl [Hf]
    · iexists _; isplitr; · (ipureintro; exact (results_second m ρ c h g2 g3).1)
      iexact Hf
    iexists _; isplitr; · (ipureintro; exact (results_second m ρ c h g2 g3).2)
    iexact Ht

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7) (fun _ => bodyPost m ρ c)
  iintro H
  iapply (sound_body m ρ c fun _ => bodyPost m ρ c)
  isplitl [H]; · iexact H
  iintro H; iexact H

/-! ## The launch -/

/-- The kernel's own semaphores: the departures and arrivals. -/
abbrev osem : Fin 6 → SemLoc sig := fun | 0 => .dma rS | 1 => .dma rV | 2 => .dma xS | 3 => .dma xV | 4 => .dma tS | 5 => .dma tV

theorem ownSemFacts : Pipeline.OwnSemFacts cfg0.spec osem := by decide

theorem share_eq (c : Dev nD) (w : Fin cfg0.W) : (dats m ρ 0 c).share w = fullShare := by unfold Dat.share; split <;> rfl

omit [FloatOps F] in
theorem ownSems0_eq (c : Dev nD) : (Pipeline.ownSems0 (Ix := Unit) (Name := ℕ) (U := UU nD τ sig) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal ((c : Thread nD τ), .reg barS) 0 := by
  unfold unscopedSems0; rw [bigSep_eq_bigSepL_of_eq [SemLoc.reg barS] (by decide) (by decide)]; rfl

/-- The launch's counters at zero are the plan's cells'. -/
theorem sems0 (c : Dev nD) :
    iprop(Pipeline.ownSems0 (Ix := Unit) (Name := ℕ) (U := UU nD τ sig) (Lvl := ℕ) (Val := Elt F) (τ := τ) osem c ∗ unscopedSems0 c)
      ⊢ (bigSep Finset.univ fun k => semVal ((PL m ρ).cell c k) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
theorem assoc_left (A B C : sProp 𝕄) : iprop(A ∗ B ∗ C) ⊢ iprop((A ∗ B) ∗ C) := by
  iintro ⟨H1, H2, H3⟩
  isplitl [H1 H2]
  · isplitl [H1] <;> iassumption
  iexact H3

theorem glob : (bigSep Finset.univ fun c => iprop(Pipeline.ownSems0 (Ix := Unit) (Name := ℕ) (U := UU nD τ sig) (Lvl := ℕ) (Val := Elt F) (τ := τ) osem c ∗ unscopedSems0 c ∗ (PL m ρ).deal c) : sProp 𝕄)
    ⊢ |={Set.univ}=> bigSep Finset.univ (PL m ρ).ghost :=
  (bigSep_mono fun c _ => assoc_left _ _ _).trans ((PL m ρ).glob (sems0 m ρ))

theorem start_intro (c : Dev nD) :
    iprop(Pipeline.unscopedRestP Pipeline.Prefetch.none cfg0.spec c (fun b => m ((c : Thread nD τ).loc b)) ∗ levAts Plan.L (PL m ρ).lv
        ∗ Pipeline.launchCred ((PL m ρ).owe (PL m ρ).cross) c ∗ prngReg c (ρ c) ∗ (PL m ρ).ghost c)
      ⊢ |={Set.univ}=> iprop(start m ρ c ∗ emp) := by
  iintro ⟨-, Hlev, Hcr, -, HG⟩
  ihave Hc := ((PL m ρ).creds c) $$ Hcr
  rw [cross_eq m ρ]
  ihave Hc := (Entails.of_eq (bigSep_eq_bigSepL_of_eq (S := S₀) (Φ := fun k => (PL m ρ).crd c k) [0, 2, 4, 6] (by decide) (by decide))) $$ Hc
  ihave Hc := (show bigSepL [0, 2, 4, 6] (fun k => (PL m ρ).crd c k) ⊢ iprop((PL m ρ).crd c 0 ∗ (PL m ρ).crd c 2 ∗ (PL m ρ).crd c 4 ∗ (PL m ρ).crd c 6) from BI.Entails.refl _) $$ Hc
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨⟨H0, H1, H2, H3, H4⟩, HzB, Hz⟩
  isplitl [HzB]; · iexact HzB
  isplitl [Hz]; · iexact Hz
  isplitl [H0]; · iexists _; iexact H0
  isplitl [H1]; · iexists _; iexact H1
  isplitl [H2]; · iexists _; iexact H2
  isplitl [H3]; · iexists _; iexact H3
  iexists _; iexact H4

/-- At its staging waits a device may owe its peer: staging semaphores are at level 0. -/
theorem waits (c : Dev nD) : (levAts Plan.L (PL m ρ).lv : sProp 𝕄) ⊢ Pipeline.cellsWaits cfgs (dats m ρ) () 0 c :=
  Pipeline.cellsWaits_intro cfgs (dats m ρ) () 0 c fun w s t => by
    have h0 : ∀ k, (PL m ρ).sem k ≠ .dma (((cfgs 0).win w).sem s) := by
      show ∀ k, csem k ≠ .dma ((cfg0.win w).sem s)
      fin_cases w <;> fin_cases s <;> decide
    rcases t with ⟨_ | _, ht⟩
    · exact (PL m ρ).mayWait (S := (PL m ρ).cross) (by rw [(PL m ρ).at_other _ _ h0, cross_eq]; exact (show ∀ k ∈ S₀, 0 < lvl k by decide))
    · show _ ⊢ MayWait _ _ _ 0
      rw [MayWait_zero]; iintro -; iempintro

def u₀ : UU nD τ sig :=
  (initOf (Pipeline.cells cfgs cellOf_inj) (Pipeline.launchToks cfgs cellOf_inj), initOf (PL m ρ).cells (PL m ρ).toks)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the launch terminates; each device's arguments and results are at the computed contents
    and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) (EP nD τ sig (Elt F)) defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := (PL m ρ).owe (PL m ρ).cross) (howed₀ := fun _ => rfl) (howedN := fun _ => rfl)
    (L := Plan.L) (lv := (PL m ρ).lv) (hL := Plan.L_of_ne) (hwaits := waits m ρ)
    (G := (PL m ρ).deal) (G' := (PL m ρ).ghost) (u₀ := u₀ m ρ)
    (hu₀ := by
      unfold u₀
      iintro Hu
      ihave H := (ownU_pair _ _) $$ Hu
      icases H with ⟨HP, HX⟩
      imod ((PL m ρ).fund) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 4) = (s₀ m ρ).mem (win0_0.arr.view.loc (c : Thread nD τ)) :=
  (dats (F := F) m ρ 0 c).arrAt_in (0 : Fin 4) rfl _
theorem finalA_r (c : Dev nD) : finalA m ρ c (1 : Fin 4) = (s₀ m ρ).mem (win0_1.arr.view.loc (c : Thread nD τ)) :=
  (dats (F := F) m ρ 0 c).arrAt_in (1 : Fin 4) rfl _

end Cert.RouteProof

end
-- ==== Proof.RouteRef.lean ====
/-
# The run of the routing exchange's reference

The reference multiplies the tokens by the router, takes the two greatest gates of every token with their experts, weighs
the two by a softmax of their gates, and packs each expert's number with its weight; beside that it rounds the tokens.
Every execution terminates with those two arrays in the results and the arguments unchanged.
-/
module

public import proofs.«01_k».proof.Proof.Gen.RouteRefIdeal
public import Idealize.ShloMosaic.Lib.StableHlo.Run

@[expose] public section

noncomputable section

namespace Cert.RouteProof.Ref

open Cert.RouteRefIdeal Cert.RouteRefIdeal.Gen
open Idealize.ShloMosaic Idealize.ShloMosaic.TcCoe Idealize.ShloMosaic.StableHlo Idealize.SL.Sem

variable {F : FTy → Type} [FloatOps F]

/-- The gates: every token's product with every expert's column of the router. -/
abbrev gates (x : FVec F S2048x1024 .f32) (r : FVec F S1024x16 .f32) : FVec F S2048x16 .f32 :=
  Host.dotGeneral dot_S2048x1024_S1024x16_S2048x16_1_0_0_1_n_n none x r

/-- The two greatest gates of every token, -/
abbrev values (g : FVec F S2048x16 .f32) : FVec F S2048x2 .f32 :=
  (Host.topK S2048x2 1 (FloatOps.cmpfTotal .gt) g sliceFits_S2048x16_S2048x2).1

/-- and the experts they belong to. -/
abbrev experts (g : FVec F S2048x16 .f32) : IVec S2048x2 32 :=
  (Host.topK S2048x2 1 (FloatOps.cmpfTotal .gt) g sliceFits_S2048x16_S2048x2).2

/-- One number of every row, in both of the row's columns. -/
abbrev spread (v : FVec F S2048 .f32) : FVec F S2048x2 .f32 :=
  broadcastInDim S2048x2 ![0, 1] bcast_S2048x1_S2048x2_0_1 (broadcastInDim S2048x1 ![0] bcast_S2048_S2048x1_0 v)

/-- The exponentials of the two gates after the greater is taken off both. -/
abbrev powers (v : FVec F S2048x2 .f32) : FVec F S2048x2 .f32 :=
  Host.exp (subf v (spread (Host.reduce FloatOps.maximumf v (constant S_ .f32 0xFF800000#32) reducesTo_S2048x2_S2048_d1 h_S_)))

/-- The two weights: the exponentials over their sum. -/
abbrev weights (v : FVec F S2048x2 .f32) : FVec F S2048x2 .f32 :=
  Host.divf (powers v) (spread (Host.reduceAdd (powers v) (constant S_ .f32 0x00000000#32) reducesTo_S2048x2_S2048_d1 h_S_))

/-- The experts' numbers, each with its weight, held just below one, added. -/
abbrev packed (g : FVec F S2048x16 .f32) : FVec F S2048x2 .f32 :=
  addf (sitofp .f32 (experts g))
    (minimumf (weights (values g)) (broadcastInDim S2048x2 ![] bcast_S_S2048x2 (constant S_ .f32 0x3F7FF000#32)))

/-- The second result: the packed choices, a device's rows in a slab. -/
abbrev choices (x : FVec F S2048x1024 .f32) (r : FVec F S1024x16 .f32) : FVec F S2x1024x2 .f32 :=
  shapeCast S2x1024x2 (packed (gates x r)) shapeCasts_S2048x2_S2x1024x2

/-- The first result: the rounded tokens, a device's rows in a slab. -/
abbrev tokens (x : FVec F S2048x1024 .f32) : FVec F S2x1024x1024 .bf16 :=
  shapeCast S2x1024x1024 (truncf .bf16 x bitsLt_bf16_f32) shapeCasts_S2048x1024_S2x1024x1024

/-- The operations of the reference's main function. -/
abbrev ops : List (HloOp τ sig (Elt F)) :=
  [binary main_arg0 main_arg1 main_v0 ((fun l r => Host.dotGeneral dot_S2048x1024_S1024x16_S2048x16_1_0_0_1_n_n none l r) : (⟨S2048x1024, .f32⟩ : BufTy).Contents (Elt F) → (⟨S1024x16, .f32⟩ : BufTy).Contents (Elt F) → (⟨S2048x16, .f32⟩ : BufTy).Contents (Elt F)),
    unary main_v0 main_values ((fun x => (Host.topK S2048x2 1 (FloatOps.cmpfTotal .gt) x sliceFits_S2048x16_S2048x2).1) : (⟨S2048x16, .f32⟩ : BufTy).Contents (Elt F) → (⟨S2048x2, .f32⟩ : BufTy).Contents (Elt F)),
    unary main_v0 main_indices ((fun x => (Host.topK S2048x2 1 (FloatOps.cmpfTotal .gt) x sliceFits_S2048x16_S2048x2).2) : (⟨S2048x16, .f32⟩ : BufTy).Contents (Elt F) → (⟨S2048x2, .i32⟩ : BufTy).Contents (Elt F)),
    nullary main_cst (constant S_ .f32 0xFF800000#32),
    binary main_values main_cst main_v1 ((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)),
    unary main_v1 main_v2 (broadcastInDim S2048x1 ![0] bcast_S2048_S2048x1_0 : (⟨S2048, .f32⟩ : BufTy).Contents (Elt F) → (⟨S2048x1, .f32⟩ : BufTy).Contents (Elt F)),
    unary main_v2 main_v3 (broadcastInDim S2048x2 ![0, 1] bcast_S2048x1_S2048x2_0_1 : (⟨S2048x1, .f32⟩ : BufTy).Contents (Elt F) → (⟨S2048x2, .f32⟩ : BufTy).Contents (Elt F)),
    binary main_values main_v3 main_v4 (subf : (⟨S2048x2, .f32⟩ : BufTy).Contents (Elt F) → (⟨S2048x2, .f32⟩ : BufTy).Contents (Elt F) → (⟨S2048x2, .f32⟩ : BufTy).Contents (Elt F)),
    unary main_v4 main_v5 (Host.exp : (⟨S2048x2, .f32⟩ : BufTy).Contents (Elt F) → (⟨S2048x2, .f32⟩ : BufTy).Contents (Elt F)),
    nullary main_cst_0 (constant S_ .f32 0x00000000#32),
    binary main_v5 main_cst_0 main_v6 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    unary main_v7 main_v8 (broadcastInDim S2048x2 ![0, 1] bcast_S2048x1_S2048x2_0_1 : (⟨S2048x1, .f32⟩ : BufTy).Contents (Elt F) → (⟨S2048x2, .f32⟩ : BufTy).Contents (Elt F)),
    binary main_v5 main_v8 main_v9 (Host.divf : (⟨S2048x2, .f32⟩ : BufTy).Contents (Elt F) → (⟨S2048x2, .f32⟩ : BufTy).Contents (Elt F) → (⟨S2048x2, .f32⟩ : BufTy).Contents (Elt F)),
    unary main_indices main_v10 (sitofp .f32 : (⟨S2048x2, .i32⟩ : BufTy).Contents (Elt F) → (⟨S2048x2, .f32⟩ : BufTy).Contents (Elt F)),
    nullary main_cst_1 (constant S_ .f32 0x3F7FF000#32),
    unary main_cst_1 main_v11 (broadcastInDim S2048x2 ![] bcast_S_S2048x2 : (⟨S_, .f32⟩ : BufTy).Contents (Elt F) → (⟨S2048x2, .f32⟩ : BufTy).Contents (Elt F)),
    binary main_v9 main_v11 main_v12 (minimumf : (⟨S2048x2, .f32⟩ : BufTy).Contents (Elt F) → (⟨S2048x2, .f32⟩ : BufTy).Contents (Elt F) → (⟨S2048x2, .f32⟩ : BufTy).Contents (Elt F)),
    binary main_v10 main_v12 main_v13 (addf : (⟨S2048x2, .f32⟩ : BufTy).Contents (Elt F) → (⟨S2048x2, .f32⟩ : BufTy).Contents (Elt F) → (⟨S2048x2, .f32⟩ : BufTy).Contents (Elt F)),
    unary main_arg0 main_v14 ((truncf .bf16 · bitsLt_bf16_f32) : (⟨S2048x1024, .f32⟩ : BufTy).Contents (Elt F) → (⟨S2048x1024, .bf16⟩ : BufTy).Contents (Elt F)),
    reshape main_v14 main_v15 (rfl : (.bf16 : EltTy) = .bf16) shapeCasts_S2048x1024_S2x1024x1024,
    reshape main_v13 main_v16 (rfl : (.f32 : EltTy) = .f32) shapeCasts_S2048x2_S2x1024x2]

theorem main_eq (c : Dev nD) : main (F := F) c = seq ops := rfl

theorem tokens_eq (V : Valuation τ sig (Elt F)) : after ops V (main_v15 : DevRef τ sig) = tokens (V (main_arg0 : DevRef τ sig)) := by
  after_results
  rfl

theorem choices_eq (V : Valuation τ sig (Elt F)) :
    after ops V (main_v16 : DevRef τ sig) = choices (V (main_arg0 : DevRef τ sig)) (V (main_arg1 : DevRef τ sig)) := by
  after_results
  rfl

theorem argument_eq (V : Valuation τ sig (Elt F)) : after ops V (main_arg0 : DevRef τ sig) = V (main_arg0 : DevRef τ sig) := by
  after_results

theorem router_eq (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_tc : (ops : List (HloOp τ sig (Elt F))).Forall fun op => op.bufs ⊆ tcRefs τ sig :=
  ⟨binary_bufs_sub .., unary_bufs_sub .., unary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., binary_bufs_sub .., unary_bufs_sub .., reshape_bufs_sub .., reshape_bufs_sub ..⟩

/-- The reference's run: it terminates with the rounded tokens and the packed choices in its results and its arguments
    unchanged. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v15) = tokens (m ((c.tc : Thread nD τ).loc main_arg0))
        ∧ r.2.mem ((c.tc : Thread nD τ).loc main_v16)
            = choices (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v15).trans (tokens_eq _), (h c main_v16).trans (choices_eq _),
      (h c main_arg0).trans (argument_eq _), (h c main_arg1).trans (router_eq _)⟩)
    (run_seq no_scoped_refs no_scoped_sems defs main (fun _ => ops) main_eq (fun _ => ops_tc) m ρ)

end Cert.RouteProof.Ref

end
-- ==== Proof.RouteRow.lean ====
/-
# One token's choice of experts

The mathematics of one row of gates: which two experts it chooses, the smaller number first where gates tie; that taking
the maximum, the least position that attains it, and the same again past that position finds them; and that a stable sort
by the gates alone, greatest first, puts them in front.
-/
module

public import Idealize.ShloMosaic.PureOps
public import Idealize.ShloMosaic.PureOps.Ideal.Laws
public import Idealize.ShloMosaic.Lib.SortPrefix
public import Idealize.ShloMosaic.Lib.SortNet.Extract
public import Mathlib.Data.Finset.Fold
public import Mathlib.Data.Prod.Lex

@[expose] public section

noncomputable section

namespace Cert.RouteProof

open Idealize.ShloMosaic

/-- `p` comes before `k` in the row: its gate is greater, or the same and its number smaller. -/
def Ahead (g : Fin 16 → EReal) (p k : Fin 16) : Prop := g k < g p ∨ (g k = g p ∧ p < k)

/-- The row's choice is `p`, then `q`. -/
structure Best (g : Fin 16 → EReal) (p q : Fin 16) : Prop where
  ne : p ≠ q
  first : ∀ k, k ≠ p → Ahead g p k
  second : ∀ k, k ≠ p → k ≠ q → Ahead g q k

/-- Among the positions of a nonempty set one comes before all others. -/
theorem exists_ahead (g : Fin 16 → EReal) (s : Finset (Fin 16)) (hs : s.Nonempty) :
    ∃ p ∈ s, ∀ k ∈ s, k ≠ p → Ahead g p k := by
  obtain ⟨p, hp, h⟩ := s.exists_max_image (fun k => toLex (g k, OrderDual.toDual k)) hs
  refine ⟨p, hp, fun k hk hne => ?_⟩
  rcases (Prod.Lex.le_iff ..).1 (h k hk) with h1 | ⟨h1, h2⟩
  · exact Or.inl h1
  · exact Or.inr ⟨h1, lt_of_le_of_ne (OrderDual.toDual_le_toDual.1 h2) (Ne.symm hne)⟩

/-- Every row chooses two. -/
theorem exists_best (g : Fin 16 → EReal) : ∃ p q, Best g p q := by
  obtain ⟨p, -, hp⟩ := exists_ahead g Finset.univ ⟨0, Finset.mem_univ _⟩
  obtain ⟨q, hq, hq'⟩ := exists_ahead g (Finset.univ.erase p)
    (Finset.card_pos.1 (by rw [Finset.card_erase_of_mem (Finset.mem_univ p)]; simp))
  have hqp : q ≠ p := (Finset.mem_erase.1 hq).1
  exact ⟨p, q, hqp.symm, fun k hk => hp k (Finset.mem_univ _) hk,
    fun k h1 h2 => hq' k (Finset.mem_erase.2 ⟨h1, Finset.mem_univ _⟩) h2⟩

theorem Ahead.le {g : Fin 16 → EReal} {p k : Fin 16} (h : Ahead g p k) : g k ≤ g p := by
  rcases h with h | h
  · exact h.le
  · exact h.1.le

/-- The maximum of finitely many numbers, folded from minus infinity, is the one no other exceeds. -/
theorem fold_max {n : Nat} (f : Fin n → EReal) (p : Fin n) (h : ∀ k, f k ≤ f p) : Finset.univ.fold max ⊥ f = f p :=
  le_antisymm ((Finset.fold_max_le _).2 ⟨bot_le, fun k _ => h k⟩) ((Finset.le_fold_max _).2 (Or.inr ⟨p, Finset.mem_univ _, le_rfl⟩))

/-- The least of finitely many signed words, folded from the greatest word, is the one that exceeds no other. -/
theorem fold_min {n : Nat} (f : Fin n → BitVec 32) (p : Fin n) (h : ∀ k, (f p).toInt ≤ (f k).toInt) :
    Finset.univ.fold IntOp.minsi 2147483647#32 f = f p := by
  refine BitVec.eq_of_toInt_eq ?_
  rw [← Finset.fold_hom (op := IntOp.minsi) (op' := min) (m := BitVec.toInt) (b := 2147483647#32) (s := Finset.univ) (f := f)
    (fun x y => SortNet.toInt_minsi x y)]
  refine le_antisymm ((Finset.fold_min_le _).2 (Or.inr ⟨p, Finset.mem_univ _, le_rfl⟩)) ((Finset.le_fold_min _).2 ⟨?_, fun k _ => h k⟩)
  exact (f p).toInt_le

/-- The signed reading of a small number's word. -/
theorem toInt_small (k : Fin 16) : (BitVec.ofNat 32 k.val).toInt = (k.val : ℤ) := by
  revert k; decide

theorem ofNat_inj (k p : Fin 16) : BitVec.ofNat 32 k.val = BitVec.ofNat 32 p.val ↔ k = p := by
  revert k p; decide

/-- The least position at which a row takes a value, the others replaced by a number past all of them: `p`, if the row takes
    it there and at no earlier position. -/
theorem least_position (f : Fin 16 → EReal) (v : EReal) (p : Fin 16) (hp : f p = v) (h : ∀ k, f k = v → p ≤ k) :
    Finset.univ.fold IntOp.minsi 2147483647#32
        (fun k : Fin 16 => Scalar.select (Ideal.cmp .oeq (f k) v) (BitVec.ofNat 32 k.val) 9999#32) = BitVec.ofNat 32 p.val := by
  have e : ∀ k : Fin 16, Scalar.select (Ideal.cmp .oeq (f k) v) (BitVec.ofNat 32 k.val) 9999#32
      = if f k = v then BitVec.ofNat 32 k.val else 9999#32 := fun k => by
    by_cases hk : f k = v <;> simp [Ideal.cmp, Scalar.select, hk]
  simp only [e]
  refine (fold_min _ p fun k => ?_).trans (by rw [if_pos hp])
  rw [if_pos hp, toInt_small]
  by_cases hk : f k = v
  · rw [if_pos hk, toInt_small]; exact_mod_cast h k hk
  · rw [if_neg hk]; have := p.isLt; rw [show (9999#32 : BitVec 32).toInt = 9999 from by decide]; omega

/-- The row with one position's gate replaced by minus infinity. -/
def without (g : Fin 16 → EReal) (p k : Fin 16) : EReal := if k = p then ⊥ else g k

section Choice

variable {g : Fin 16 → EReal} {p q : Fin 16} (h : Best g p q)
include h

theorem Best.le_first (k : Fin 16) : g k ≤ g p := by
  by_cases e : k = p
  · rw [e]
  · exact (h.first k e).le

theorem Best.first_least (k : Fin 16) (hk : g k = g p) : p ≤ k := by
  by_cases e : k = p
  · exact e.ge
  · rcases h.first k e with h' | h'
    · exact absurd hk h'.ne
    · exact h'.2.le

theorem Best.without_second : without g p q = g q := if_neg (Ne.symm h.ne)

theorem Best.le_second (k : Fin 16) : without g p k ≤ without g p q := by
  rw [h.without_second]
  unfold without
  split
  · exact bot_le
  · rename_i e
    by_cases e' : k = q
    · rw [e']
    · exact (h.second k e e').le

theorem Best.second_least (hq : g q ≠ ⊥) (k : Fin 16) (hk : without g p k = g q) : q ≤ k := by
  unfold without at hk
  split at hk
  · exact absurd hk.symm hq
  · rename_i e
    by_cases e' : k = q
    · exact e'.ge
    · rcases h.second k e e' with h' | h'
      · exact absurd hk h'.ne
      · exact h'.2.le

end Choice

/-! ## The sort -/

/-- Two relations that agree whenever the first argument is the later one sort an increasing list alike. -/
theorem stableSort_later {n : Nat} (R R' : Fin n → Fin n → Bool) (hR : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => hR a b (hl.1 b ((perm_stableSort R' l).mem_iff.1 hb))

theorem sortedFrom_later {n : Nat} (R R' : Fin n → Fin n → Bool) (hR : ∀ a b, a < b → R b a = R' b a) :
    sortedFrom R = sortedFrom R' := by
  funext k
  unfold sortedFrom
  rw [List.get_of_eq (show sortPositions n R = sortPositions n R' from stableSort_later R R' hR _ (List.pairwise_lt_finRange n))]
  rfl

/-- The comparison of gates, greatest first, -/
abbrev greater (a b : EReal) : Bool := Ideal.cmp .ogt a b == 1#1

theorem greater_iff (a b : EReal) : greater a b = true ↔ b < a := by
  by_cases e : b < a <;> simp [greater, Ideal.cmp, e]

/-- and the same with ties broken by the position. -/
abbrev before (g : Fin 16 → EReal) (k k' : Fin 16) : Bool :=
  greater (g k) (g k') || (decide (g k = g k') && decide (k < k'))

theorem before_iff (g : Fin 16 → EReal) (k k' : Fin 16) : before g k k' = true ↔ Ahead g k k' := by
  simp only [before, Bool.or_eq_true, Bool.and_eq_true, decide_eq_true_eq, greater_iff, Ahead]
  exact or_congr Iff.rfl (and_congr eq_comm Iff.rfl)

theorem before_total (g : Fin 16 → EReal) : StrictTotalBefore (before g) :=
  StrictTotalBefore.of_key_then_position greater g (fun a => by simp [greater, Ideal.cmp])
    (fun a b c hab hbc => (greater_iff _ _).2 (((greater_iff _ _).1 hbc).trans ((greater_iff _ _).1 hab)))
    (fun a b => by
      rcases lt_trichotomy a b with e | e | e
      · exact Or.inr (Or.inr ((greater_iff _ _).2 e))
      · exact Or.inr (Or.inl e)
      · exact Or.inl ((greater_iff _ _).2 e))

/-- The stable sort by the gates alone is the sort by the gates and then the positions. -/
theorem sortedFrom_greater (g : Fin 16 → EReal) : sortedFrom (fun k k' => greater (g k) (g k')) = sortedFrom (before g) :=
  sortedFrom_later _ _ fun a b hab => by simp [before, hab.le]

/-- The first two positions of the sort are the row's choice. -/
theorem sorted_best {g : Fin 16 → EReal} {p q : Fin 16} (h : Best g p q) :
    sortedFrom (fun k k' => greater (g k) (g k')) (0 : Fin 16) = p ∧ sortedFrom (fun k k' => greater (g k) (g k')) 1 = q := by
  rw [sortedFrom_greater]
  have hB := before_total g
  have ha : ∀ {a b : Fin 16}, Ahead g a b → before g b a = false := fun {a b} h => hB.asymm a b ((before_iff g a b).2 h)
  have hinj : Function.Injective ![p, q] := by
    intro i j e
    match i, j with
    | 0, 0 | 1, 1 => rfl
    | 0, 1 => exact absurd e h.ne
    | 1, 0 => exact absurd e h.ne.symm
  have hord : ∀ i j : Fin 2, i < j → before g (![p, q] j) (![p, q] i) = false := by
    intro i j e
    have hi : i = 0 := by omega
    have hj : j = 1 := by omega
    subst hi hj
    exact ha (h.first q h.ne.symm)
  have hdom : ∀ (i : Fin 2) (k : Fin 16), (∀ j, ![p, q] j ≠ k) → before g k (![p, q] i) = false := by
    intro i k hk
    match i with
    | 0 => exact ha (h.first k (hk 0).symm)
    | 1 => exact ha (h.second k (hk 0).symm (hk 1).symm)
  have key := hB.sortedFrom_eq_of_prefix (by decide) ![p, q] hinj hord hdom
  generalize sortedFrom (before g) = s at key
  exact ⟨key 0, key 1⟩

/-! ## The packed numbers -/

/-- The greatest weight that is packed. -/
abbrev cap : EReal := Ideal.ofBits .f32 0x3F7FF000#32

/-- An expert's number with a weight. -/
def pack (p : Fin 16) (w : EReal) : EReal := ((p.val : ℝ) : EReal) + min w cap

/-- The two numbers of a row whose choice is `p`, then `q`. -/
def packed (g : Fin 16 → EReal) (p q : Fin 16) : Fin 2 → EReal :=
  ![pack p (Ideal.div 1 (1 + Ideal.exp (g q - g p))), pack q (Ideal.div (Ideal.exp (g q - g p)) (1 + Ideal.exp (g q - g p)))]

end Cert.RouteProof

end
-- ==== Proof.RouteKernel.lean ====
/-
# The kernel's choices, row by row

The kernel finds a row's two experts by two rounds of a maximum and the least position that attains it. Over the extended
reals, where the second gate is not minus infinity, the two numbers it packs for a row are those of the row's choice.
-/
module

public import proofs.«01_k».proof.Proof.Gen.RouteIdeal
public import proofs.«01_k».proof.Proof.Gen.RouteIdeal.Skeleton
public import proofs.«01_k».proof.Proof.RouteRow
public import Idealize.ShloMosaic.Lib.Pipeline.Value
public import Idealize.ShloMosaic.Lib.ValueIdxCore
public import Idealize.ShloMosaic.Lib.ValueLayoutCasts
public import Idealize.ShloMosaic.Lib.IdealHost

@[expose] public section

noncomputable section

namespace Cert.RouteProof

open Cert.RouteIdeal Cert.RouteIdeal.Gen
open Idealize.ShloMosaic Idealize.ShloMosaic.ValueIdx

section Generic

variable {F : FTy → Type} [FloatOps F]

/-- The numbers of the experts, along every row. -/
abbrev numbers : IVec S1024x16 32 := iota .tc S1024x16 32 [1] iota_S1024x16_d1_w32

/-- One column of numbers, in all sixteen. -/
abbrev spread {α : Type} (v : S1024x1.Idx → α) : S1024x16.Idx → α := broadcastTo S1024x16 v broadcasts_S1024x1_S1024x16

/-- The greatest entry of every row. -/
def greatest (v : FVec F S1024x16 .f32) : FVec F S1024x1 .f32 :=
  shapeCast S1024x1 (multiReduction .maximumf [1] S1024 v 0xFF800000#32 reduces_S1024x16_S1024 (.inl rfl) rfl) shapeCasts_S1024_S1024x1

/-- The least position of every row at which it takes the given value. -/
def position (v : FVec F S1024x16 .f32) (x : FVec F S1024x1 .f32) : IVec S1024x1 32 :=
  shapeCast S1024x1 (multiReductionI .minsi [1] S1024 (select (cmpf .oeq v (spread x)) numbers (broadcast S1024x16 9999#32))
    2147483647#32 reduces_S1024x16_S1024 rfl) shapeCasts_S1024_S1024x1

/-- The rows with the entries at the given positions replaced by minus infinity. -/
def masked (v : FVec F S1024x16 .f32) (k : IVec S1024x1 32) : FVec F S1024x16 .f32 :=
  select (cmpi .eq numbers (spread k)) (broadcast S1024x16 (Scalar.ofBits .f32 0xFF800000#32)) v

/-- A column of positions, each with a weight held just below one. -/
abbrev code (k : IVec S1024x1 32) (w : FVec F S1024x1 .f32) : FVec F S1024x1 .f32 :=
  addf (sitofp .f32 k) (minimumf w (broadcast S1024x1 (Scalar.ofBits .f32 0x3F7FF000#32)))

/-- The second greatest entries past the greatest, as powers of e, and one plus that. -/
abbrev power (v : FVec F S1024x16 .f32) : FVec F S1024x1 .f32 :=
  exp (subf (greatest (masked v (position v (greatest v)))) (greatest v))
abbrev unit : FVec F S1024x1 .f32 := broadcast S1024x1 (Scalar.ofBits .f32 0x3F800000#32)

/-- The two halves of the gates in the order of the devices. -/
abbrev joined (y : BitVec 32) (own other : FVec F S1024x8 .f32) : FVec F S1024x16 .f32 :=
  Scalar.select (Scalar.cmpi .eq y 0#32)
    (concatenate S1024x16 1 [⟨S1024x8, own⟩, ⟨S1024x8, other⟩] concatenates_S1024x8_S1024x8_S1024x16_d1)
    (concatenate S1024x16 1 [⟨S1024x8, other⟩, ⟨S1024x8, own⟩] concatenates_S1024x8_S1024x8_S1024x16_d1)

/-- What the kernel packs, of the gates. -/
def picked (g : FVec F S1024x16 .f32) : FVec F S1024x2 .f32 :=
  concatenate S1024x2 1
    [⟨S1024x1, code (position g (greatest g)) (divf unit (addf unit (power g)))⟩,
      ⟨S1024x1, code (position (masked g (position g (greatest g))) (greatest (masked g (position g (greatest g)))))
        (divf (power g) (addf unit (power g)))⟩] concatenates_S1024x1_S1024x1_S1024x2_d1

theorem pay14_eq (y : BitVec 32) (own other : FVec F S1024x8 .f32) : k0_pay14 y own other = picked (joined y own other) := rfl

end Generic

/-! ## The parts of a row -/

/-- A row of gates. -/
abbrev row (v : FVec Ideal S1024x16 .f32) (r : Fin 1024) : Fin 16 → EReal := fun e => v (ix2 r e)

theorem lift_row (r : Fin 1024) (k : Fin 16) : reduces_S1024x16_S1024.lift (ix1 r) k = ix2 r k := by
  funext a
  apply Fin.ext
  match a with
  | ⟨0, _⟩ => rfl
  | ⟨1, _⟩ => rfl

theorem spread_apply {α : Type} (v : S1024x1.Idx → α) (r : Fin 1024) (k : Fin 16) : spread v (ix2 r k) = v (ix2 r 0) :=
  broadcastTo_apply v _ _ _ fun a => by
    match a with
    | ⟨0, _⟩ => rfl
    | ⟨1, _⟩ => rfl

theorem numbers_apply (r : Fin 1024) (k : Fin 16) : numbers (ix2 r k) = BitVec.ofNat 32 k.val := iota_single_apply ..

theorem lowest : (Ideal.ofBits .f32 0xFF800000#32 : EReal) = ⊥ := by simp [Ideal.ofBits, Ideal.ieee]

/-- A row's greatest entry is the one no other exceeds. -/
theorem greatest_apply (v : FVec Ideal S1024x16 .f32) (r : Fin 1024) (p : Fin 16) (h : ∀ k, row v r k ≤ row v r p) :
    greatest v (ix2 r 0) = row v r p := by
  unfold greatest
  refine (shapeCast_a_a1_apply _ _ r 0).trans ((Ideal.multiReduction_maximumf_single v _ _ _ _ (ix1 r)).trans ?_)
  rw [show (v ∘ reduces_S1024x16_S1024.lift (ix1 r)) = row v r from funext fun k => congrArg v (lift_row r k)]
  rw [show (FloatOps.ofBits (F := Ideal) .f32 0xFF800000#32) = (⊥ : EReal) from lowest]
  exact fold_max _ p h

/-- A row's position of a value is the least at which the row takes it. -/
theorem position_apply (v : FVec Ideal S1024x16 .f32) (x : FVec Ideal S1024x1 .f32) (r : Fin 1024) (p : Fin 16)
    (hp : row v r p = x (ix2 r 0)) (h : ∀ k, row v r k = x (ix2 r 0) → p ≤ k) :
    position v x (ix2 r 0) = BitVec.ofNat 32 p.val := by
  unfold position
  refine (shapeCast_a_a1_apply _ _ r 0).trans ((multiReductionI_eq_fold .minsi _ _ _ _ (ix1 r)).trans ?_)
  refine (reduces_S1024x16_S1024.fold_filter_drop_single IntOp.minsi _ _ (ix1 r)).trans ?_
  have e : ∀ k : Fin 16, select (cmpf .oeq v (spread x)) numbers (broadcast S1024x16 9999#32) (reduces_S1024x16_S1024.lift (ix1 r) k)
      = Scalar.select (Ideal.cmp .oeq (row v r k) (x (ix2 r 0))) (BitVec.ofNat 32 k.val) 9999#32 := fun k => by
    refine (congrArg _ (lift_row r k)).trans ?_
    show Scalar.select (FloatOps.cmpf .oeq (v (ix2 r k)) (spread x (ix2 r k))) (numbers (ix2 r k)) 9999#32 = _
    rw [spread_apply, numbers_apply]
    rfl
  exact (congrArg (Finset.fold IntOp.minsi 2147483647#32 · Finset.univ) (funext e)).trans (least_position (row v r) (x (ix2 r 0)) p hp h)

/-- A masked row. -/
theorem masked_apply (v : FVec Ideal S1024x16 .f32) (k : IVec S1024x1 32) (r : Fin 1024) (p : Fin 16)
    (hk : k (ix2 r 0) = BitVec.ofNat 32 p.val) : row (masked v k) r = without (row v r) p := by
  funext e
  show Scalar.select (IntOp.cmpi .eq (numbers (ix2 r e)) (spread k (ix2 r e))) (Ideal.ofBits .f32 0xFF800000#32 : EReal) (v (ix2 r e)) = _
  rw [spread_apply, hk, numbers_apply, lowest]
  show Scalar.select (IntOp.cmpi .eq (BitVec.ofNat 32 e.val) (BitVec.ofNat 32 p.val)) (⊥ : EReal) (v (ix2 r e)) = if e = p then ⊥ else v (ix2 r e)
  by_cases h : e = p
  · subst h; simp [Scalar.select, IntOp.cmpi]
  · have h' : ¬ BitVec.ofNat 32 e.val = BitVec.ofNat 32 p.val := fun e' => h ((ofNat_inj e p).1 e')
    simp [Scalar.select, IntOp.cmpi, h, beq_eq_false_iff_ne.2 h']

theorem code_apply (k : IVec S1024x1 32) (w : FVec Ideal S1024x1 .f32) (r : Fin 1024) (p : Fin 16) (x : EReal)
    (hk : k (ix2 r 0) = BitVec.ofNat 32 p.val) (hw : w (ix2 r 0) = x) : code k w (ix2 r 0) = pack p x := by
  show ((((k (ix2 r 0)).toInt : ℝ) : EReal) + min (w (ix2 r 0)) cap) = _
  rw [hk, hw, toInt_small]
  simp [pack]

theorem exp_sub_apply (a b : FVec Ideal S1024x1 .f32) (i : S1024x1.Idx) {x y : EReal} (ha : a i = x) (hb : b i = y) :
    exp (subf a b) i = Ideal.exp (x - y) := by
  subst ha hb; rfl

theorem div_add_apply (a b c : FVec Ideal S1024x1 .f32) (i : S1024x1.Idx) {x y z : EReal} (ha : a i = x) (hb : b i = y) (hc : c i = z) :
    divf a (addf b c) i = Ideal.div x (y + z) := by
  subst ha hb hc; rfl

theorem pair_left {α : Type} (a b : S1024x1.Idx → α) (r : Fin 1024) :
    concatenate S1024x2 1 [⟨S1024x1, a⟩, ⟨S1024x1, b⟩] concatenates_S1024x1_S1024x1_S1024x2_d1 (ix2 r 0) = a (ix2 r 0) :=
  concatenate_pair_apply_left (t := S1024x2) 1 a b _ (ix2 r (0 : Fin 2)) rfl (ix2 r (0 : Fin 1)) fun c => by
    match c with
    | ⟨0, _⟩ => rfl
    | ⟨1, _⟩ => rfl

theorem pair_right {α : Type} (a b : S1024x1.Idx → α) (r : Fin 1024) :
    concatenate S1024x2 1 [⟨S1024x1, a⟩, ⟨S1024x1, b⟩] concatenates_S1024x1_S1024x1_S1024x2_d1 (ix2 r 1) = b (ix2 r 0) :=
  concatenate_pair_apply_right (t := S1024x2) 1 a b _ (ix2 r (1 : Fin 2)) rfl rfl (ix2 r (0 : Fin 1)) (fun c hc => by
    match c with
    | ⟨0, _⟩ => rfl
    | ⟨1, _⟩ => exact absurd rfl hc) rfl

/-- The two numbers the kernel packs for a row. -/
theorem picked_apply (v : FVec Ideal S1024x16 .f32) (r : Fin 1024) (p q : Fin 16) (h : Best (row v r) p q)
    (hq : row v r q ≠ ⊥) (i : Fin 2) : picked v (ix2 r i) = packed (row v r) p q i := by
  have e1 : greatest v (ix2 r 0) = row v r p := greatest_apply v r p h.le_first
  have e2 : position v (greatest v) (ix2 r 0) = BitVec.ofNat 32 p.val :=
    position_apply v _ r p e1.symm fun k hk => h.first_least k (hk.trans e1)
  have e3 : row (masked v (position v (greatest v))) r = without (row v r) p := masked_apply v _ r p e2
  have e4 : greatest (masked v (position v (greatest v))) (ix2 r 0) = row v r q :=
    (greatest_apply _ r q (by rw [e3]; exact h.le_second)).trans (by rw [e3, h.without_second])
  have e5 : position (masked v (position v (greatest v))) (greatest (masked v (position v (greatest v)))) (ix2 r 0) = BitVec.ofNat 32 q.val :=
    position_apply _ _ r q (by rw [e3, e4, h.without_second]) fun k hk => h.second_least hq k (by rw [← e3, hk, e4])
  have e6 : power v (ix2 r 0) = Ideal.exp (row v r q - row v r p) := exp_sub_apply _ _ _ e4 e1
  have e7 : (unit (F := Ideal)) (ix2 r 0) = (1 : EReal) := Ideal.ofBits_one_f32
  unfold picked
  match i with
  | 0 =>
    refine (pair_left _ _ r).trans ?_
    exact code_apply _ _ r p _ e2 (div_add_apply _ _ _ _ e7 e7 e6)
  | 1 =>
    refine (pair_right _ _ r).trans ?_
    exact code_apply _ _ r q _ e5 (div_add_apply _ _ _ _ e6 e7 e6)

end Cert.RouteProof

end
-- ==== Proof.RouteReference.lean ====
/-
# The reference's choices, row by row

The reference sorts every row's gates, greatest first, and keeps the first two with their positions. Over the extended
reals, where the first gate is a real number, the two numbers it packs for a row are those of the row's choice.
-/
module

public import proofs.«01_k».proof.Proof.RouteRef
public import proofs.«01_k».proof.Proof.RouteRow
public import Idealize.ShloMosaic.Lib.Pipeline.Value
public import Idealize.ShloMosaic.Lib.ValueIdxCore
public import Idealize.ShloMosaic.Lib.IdealHost

@[expose] public section

noncomputable section

namespace Cert.RouteProof.Ref

open Cert.RouteRefIdeal Cert.RouteRefIdeal.Gen
open Idealize.ShloMosaic Idealize.ShloMosaic.ValueIdx

/-- A row of gates. -/
abbrev row (g : FVec Ideal S2048x16 .f32) (r : Fin 2048) : Fin 16 → EReal := fun e => g (ix2 r e)

theorem along_eq (r : Fin 2048) (e k : Fin 16) : (ix2 r e : S2048x16.Idx).along 1 k = ix2 r k := by
  funext a
  match a with
  | ⟨0, _⟩ => rfl
  | ⟨1, _⟩ => rfl

/-- The position a row's sort puts at `e`. -/
abbrev source (g : FVec Ideal S2048x16 .f32) (r : Fin 2048) (e : Fin 16) : Fin 16 :=
  sortedFrom (fun k k' => greater (row g r k) (row g r k')) e

theorem source_eq (g : FVec Ideal S2048x16 .f32) (r : Fin 2048) (e : Fin 16) :
    sortedFrom (fun k k' : Fin 16 => (FloatOps.cmpfTotal (F := Ideal) (φ := .f32) .gt (g ((ix2 r e : S2048x16.Idx).along 1 k))
      (g ((ix2 r e : S2048x16.Idx).along 1 k'))) == 1#1) e = source g r e := by
  refine congrArg (sortedFrom · e) (funext fun k => funext fun k' => ?_)
  rw [along_eq, along_eq]
  rfl

theorem sort_fst (g : FVec Ideal S2048x16 .f32) (y : IVec S2048x16 32) (r : Fin 2048) (e : Fin 16) :
    (Host.sort2 S2048x16 1 (fun a b => FloatOps.cmpfTotal (F := Ideal) (φ := .f32) .gt a.1 b.1) g y).1 (ix2 r e) = g (ix2 r (source g r e)) := by
  unfold Host.sort2
  rw [dif_pos (by decide)]
  exact congrArg g ((congrArg ((ix2 r e : S2048x16.Idx).along 1) (source_eq g r e)).trans (along_eq r e _))

theorem sort_snd (g : FVec Ideal S2048x16 .f32) (y : IVec S2048x16 32) (r : Fin 2048) (e : Fin 16) :
    (Host.sort2 S2048x16 1 (fun a b => FloatOps.cmpfTotal (F := Ideal) (φ := .f32) .gt a.1 b.1) g y).2 (ix2 r e) = y (ix2 r (source g r e)) := by
  unfold Host.sort2
  rw [dif_pos (by decide)]
  exact congrArg y ((congrArg ((ix2 r e : S2048x16.Idx).along 1) (source_eq g r e)).trans (along_eq r e _))

theorem slice_apply {α : Type} (x : S2048x16.Idx → α) (r : Fin 2048) (i : Fin 2) :
    extractStridedSlice S2048x2 (fun _ => 0) x sliceFits_S2048x16_S2048x2 (ix2 r i) = x (ix2 r (i.castLE (by decide))) :=
  extractStridedSlice_apply _ x _ _ _ fun a => by
    match a with
    | ⟨0, _⟩ => exact (Nat.zero_add _).symm
    | ⟨1, _⟩ => exact (Nat.zero_add _).symm

/-- The numbers of the experts, along every row. -/
abbrev positions : IVec S2048x16 32 := fun i => if h : 1 < S2048x16.rank then iotaInDim S2048x16 32 ⟨1, h⟩ i else 0#32

theorem positions_apply (r : Fin 2048) (e : Fin 16) : positions (ix2 r e) = BitVec.ofNat 32 e.val := dif_pos (by decide)

/-- The gate the reference keeps in a row's column `i`, and its expert. -/
theorem values_apply (g : FVec Ideal S2048x16 .f32) (r : Fin 2048) (i : Fin 2) :
    values g (ix2 r i) = row g r (source g r (i.castLE (by decide))) :=
  (slice_apply _ r i).trans (sort_fst g positions r _)

theorem experts_apply (g : FVec Ideal S2048x16 .f32) (r : Fin 2048) (i : Fin 2) :
    experts g (ix2 r i) = BitVec.ofNat 32 (source g r (i.castLE (by decide))).val :=
  (slice_apply _ r i).trans ((sort_snd g positions r _).trans (positions_apply r _))

theorem spread_apply (v : FVec Ideal S2048 .f32) (r : Fin 2048) (i : Fin 2) : spread v (ix2 r i) = v (ix1 r) := by
  unfold spread broadcastInDim
  refine congrArg v (funext fun a => Fin.ext ?_)
  match a with
  | ⟨0, _⟩ => rfl

theorem reduces : S2048x2.Reduces [1] S2048 := by decide

theorem lift_row (r : Fin 2048) (k : Fin 2) : reduces.lift (ix1 r) k = ix2 r k := by
  funext a
  apply Fin.ext
  match a with
  | ⟨0, _⟩ => rfl
  | ⟨1, _⟩ => rfl

theorem lowest : (Ideal.ofBits .f32 0xFF800000#32 : EReal) = ⊥ := by simp [Ideal.ofBits, Ideal.ieee]

/-- The greater of a row's two entries. -/
theorem max_apply (v : FVec Ideal S2048x2 .f32) (r : Fin 2048) (h : (v (ix2 r 1) : EReal) ≤ v (ix2 r 0)) :
    Host.reduce FloatOps.maximumf v (constant S_ .f32 0xFF800000#32) reducesTo_S2048x2_S2048_d1 h_S_ (ix1 r) = v (ix2 r 0) := by
  refine (Host.reduce_eq_fold_single (FloatOps.maximumf (F := Ideal) (φ := .f32)) v _ reducesTo_S2048x2_S2048_d1 reduces h_S_ (ix1 r)).trans ?_
  have e : ∀ k : Fin 2, v (reduces.lift (ix1 r) k) = v (ix2 r k) := fun k => congrArg v (lift_row r k)
  refine (congrArg (Finset.fold max (Ideal.ofBits .f32 0xFF800000#32) · Finset.univ) (funext e)).trans ?_
  rw [lowest]
  refine fold_max (fun k : Fin 2 => (v (ix2 r k) : EReal)) 0 fun k => ?_
  match k with
  | 0 => exact le_rfl
  | 1 => exact h

/-- The sum of a row's two entries. -/
theorem sum_apply (v : FVec Ideal S2048x2 .f32) (r : Fin 2048) :
    Host.reduceAdd v (constant S_ .f32 0x00000000#32) reducesTo_S2048x2_S2048_d1 h_S_ (ix1 r) = (v (ix2 r 0) + v (ix2 r 1) : EReal) := by
  show Ideal.hostReduceAdd reducesTo_S2048x2_S2048_d1 v (Ideal.ofBits .f32 0x00000000#32) (ix1 r) = _
  rw [Ideal.hostReduceAdd_single reducesTo_S2048x2_S2048_d1 reduces]
  have e : ∀ k : Fin 2, v (reduces.lift (ix1 r) k) = v (ix2 r k) := fun k => congrArg v (lift_row r k)
  refine (congrArg (Ideal.ofBits .f32 0x00000000#32 + Finset.sum Finset.univ ·) (funext e)).trans ?_
  rw [Ideal.ofBits_zero_f32, zero_add]
  exact Fin.sum_univ_two (fun k => (v (ix2 r k) : EReal))

theorem powers_apply (v : FVec Ideal S2048x2 .f32) (r : Fin 2048) (h : (v (ix2 r 1) : EReal) ≤ v (ix2 r 0)) (i : Fin 2) :
    powers v (ix2 r i) = Ideal.exp ((v (ix2 r i) : EReal) - v (ix2 r 0)) := by
  show Ideal.exp ((v (ix2 r i) : EReal) - spread (Host.reduce FloatOps.maximumf v _ reducesTo_S2048x2_S2048_d1 h_S_) (ix2 r i)) = _
  rw [spread_apply, max_apply v r h]

theorem weights_apply (v : FVec Ideal S2048x2 .f32) (r : Fin 2048) (i : Fin 2) :
    weights v (ix2 r i) = Ideal.div (powers v (ix2 r i)) ((powers v (ix2 r 0) : EReal) + powers v (ix2 r 1)) := by
  show Ideal.div (powers v (ix2 r i)) (spread (Host.reduceAdd (powers v) _ reducesTo_S2048x2_S2048_d1 h_S_) (ix2 r i)) = _
  rw [spread_apply, sum_apply]

/-- The two numbers the reference packs for a row. -/
theorem packed_apply (g : FVec Ideal S2048x16 .f32) (r : Fin 2048) (p q : Fin 16) (h : Best (row g r) p q)
    (ht : row g r p ≠ ⊤) (hb : row g r p ≠ ⊥) (i : Fin 2) : packed g (ix2 r i) = RouteProof.packed (row g r) p q i := by
  have hs := sorted_best h
  have e0 : values g (ix2 r 0) = row g r p := (values_apply g r 0).trans (congrArg (row g r) hs.1)
  have e1 : values g (ix2 r 1) = row g r q := (values_apply g r 1).trans (congrArg (row g r) hs.2)
  have hle : (values g (ix2 r 1) : EReal) ≤ values g (ix2 r 0) := by rw [e0, e1]; exact h.le_first q
  have p0 : powers (values g) (ix2 r 0) = (1 : EReal) := by
    rw [powers_apply _ r hle, e0, EReal.sub_self ht hb]
    exact (congrArg _ EReal.coe_zero.symm).trans (by show ((Real.exp 0 : ℝ) : EReal) = 1; rw [Real.exp_zero]; rfl)
  have p1 : powers (values g) (ix2 r 1) = Ideal.exp (row g r q - row g r p) := by rw [powers_apply _ r hle, e0, e1]
  show ((((experts g (ix2 r i)).toInt : ℝ) : EReal) + min (weights (values g) (ix2 r i)) cap) = _
  rw [weights_apply, p0, p1, experts_apply, toInt_small]
  match i with
  | 0 =>
    rw [show source g r (Fin.castLE (by decide) (0 : Fin 2)) = p from hs.1, p0]
    simp [RouteProof.packed, pack]
  | 1 =>
    rw [show source g r (Fin.castLE (by decide) (1 : Fin 2)) = q from hs.2, p1]
    simp [RouteProof.packed, pack]

end Cert.RouteProof.Ref

end
-- ==== Proof.RouteGates.lean ====
/-
# The gates of both sides

Over the extended reals a product of matrices is the sum of products, on the kernel's side from a device's tokens and one
half of the router, on the reference's from all of both; and of finite entries it is finite.
-/
module

public import proofs.«01_k».proof.Proof.RouteKernel
public import proofs.«01_k».proof.Proof.RouteReference
public import Idealize.ShloMosaic.Lib.Pointwise.Contract

@[expose] public section

noncomputable section

namespace Cert.RouteProof

open Cert.RouteIdeal Cert.RouteIdeal.Gen
open Idealize.ShloMosaic hiding ix1 ix2 ix3
open Idealize.ShloMosaic.ValueIdx

theorem product_apply (a : FVec Ideal S1024x1024 .f32) (b : FVec Ideal S1024x8 .f32) (r : Fin 1024) (e : Fin 8) :
    matmul dot_S1024x1024_S1024x8_S1024x8_1_0_0_1_n_n (some .fp32) a b (constant S1024x8 .f32 0x00000000#32) (ix2 r e)
      = ∑ k : Fin 1024, (a (ix2 r k) * b (ix2 k e) : EReal) := by
  refine (Ideal.matmul_constant_zero_apply dot_S1024x1024_S1024x8_S1024x8_1_0_0_1_n_n _ a b (ix2 r e)).trans ?_
  refine (dot_S1024x1024_S1024x8_S1024x8_1_0_0_1_n_n.sum_contr₁ (a := 1) rfl (K := 1024) rfl _).trans ?_
  refine Finset.sum_congr rfl fun k _ => congrArg₂ (fun x y : EReal => x * y) (congrArg a ?_) (congrArg b ?_) <;>
  · funext c
    apply Fin.ext
    match c with
    | ⟨0, _⟩ => rfl
    | ⟨1, _⟩ => rfl

/-- The gates of a device's tokens at the experts of one half of the router: its own, -/
theorem pay12_apply (a : FVec Ideal S1024x1024 .f32) (b : FVec Ideal S1024x8 .f32) (r : Fin 1024) (e : Fin 8) :
    k0_pay12 a b (ix2 r e) = ∑ k : Fin 1024, (a (ix2 r k) * b (ix2 k e) : EReal) := by
  unfold k0_pay12 k0_pay11
  simp only [shapeCast_self]
  exact product_apply a b r e

/-- and the peer's. -/
theorem pay13_apply (a : FVec Ideal S1024x1024 .f32) (b : FVec Ideal S1024x8 .f32) (r : Fin 1024) (e : Fin 8) :
    k0_pay13 a b (ix2 r e) = ∑ k : Fin 1024, (a (ix2 r k) * b (ix2 k e) : EReal) := by
  unfold k0_pay13 k0_pay11
  simp only [shapeCast_self]
  exact product_apply a b r e

theorem gates_apply (x : FVec Ideal Cert.RouteRefIdeal.S2048x1024 .f32) (w : FVec Ideal Cert.RouteRefIdeal.S1024x16 .f32)
    (r : Fin 2048) (e : Fin 16) : Ref.gates x w (ix2 r e) = ∑ k : Fin 1024, (x (ix2 r k) * w (ix2 k e) : EReal) := by
  refine (Ideal.dotGeneral_apply Cert.RouteRefIdeal.dot_S2048x1024_S1024x16_S2048x16_1_0_0_1_n_n _ _ x w (ix2 r e)).trans ?_
  refine (Cert.RouteRefIdeal.dot_S2048x1024_S1024x16_S2048x16_1_0_0_1_n_n.sum_contr₁ (a := 1) rfl (K := 1024) rfl _).trans ?_
  refine Finset.sum_congr rfl fun k _ => congrArg₂ (fun x y : EReal => x * y) (congrArg x ?_) (congrArg w ?_) <;>
  · funext c
    apply Fin.ext
    match c with
    | ⟨0, _⟩ => rfl
    | ⟨1, _⟩ => rfl

/-- Two halves side by side. -/
theorem join_apply (own other : FVec Ideal S1024x8 .f32) (r : Fin 1024) (e : Fin 16) :
    (concatenate S1024x16 1 [⟨S1024x8, own⟩, ⟨S1024x8, other⟩] concatenates_S1024x8_S1024x8_S1024x16_d1 : FVec Ideal S1024x16 .f32)
        (ix2 r e)
      = if h : e.val < 8 then own (ix2 r ⟨e.val, h⟩) else other (ix2 r ⟨e.val - 8, by have := e.isLt; omega⟩) := by
  by_cases h : e.val < 8
  · rw [dif_pos h]
    exact concatenate_pair_apply_left (t := S1024x16) 1 own other _ (ix2 r e) rfl (ix2 r (⟨e.val, h⟩ : Fin 8)) fun c => by
      match c with
      | ⟨0, _⟩ => rfl
      | ⟨1, _⟩ => rfl
  · rw [dif_neg h]
    exact concatenate_pair_apply_right (t := S1024x16) 1 own other _ (ix2 r e) rfl rfl
      (ix2 r (⟨e.val - 8, by have := e.isLt; omega⟩ : Fin 8))
      (fun c hc => by
        match c with
        | ⟨0, _⟩ => rfl
        | ⟨1, _⟩ => exact absurd rfl hc) (show e.val - 8 + 8 = e.val by omega)

/-- The two halves joined, at a device whose coordinate is zero: its own half first. -/
theorem joined_own_first (own other : FVec Ideal S1024x8 .f32) (r : Fin 1024) (e : Fin 16) :
    joined 0#32 own other (ix2 r e)
      = if h : e.val < 8 then own (ix2 r ⟨e.val, h⟩) else other (ix2 r ⟨e.val - 8, by have := e.isLt; omega⟩) :=
  join_apply own other r e

/-- At a device whose coordinate is one: the other half first. -/
theorem joined_other_first (own other : FVec Ideal S1024x8 .f32) (r : Fin 1024) (e : Fin 16) :
    joined 1#32 own other (ix2 r e)
      = if h : e.val < 8 then other (ix2 r ⟨e.val, h⟩) else own (ix2 r ⟨e.val - 8, by have := e.isLt; omega⟩) :=
  join_apply other own r e

/-- A number that is neither infinity. -/
abbrev Finite (x : EReal) : Prop := x ≠ ⊤ ∧ x ≠ ⊥

/-- Sums of products of finite numbers are finite. -/
theorem finite_sum {n : Nat} (a b : Fin n → EReal) (ha : ∀ k, Finite (a k)) (hb : ∀ k, Finite (b k)) :
    Finite (∑ k, a k * b k) := by
  have e : ∀ k, a k * b k = (((a k).toReal * (b k).toReal : ℝ) : EReal) := fun k => by
    rw [EReal.coe_mul, EReal.coe_toReal (ha k).1 (ha k).2, EReal.coe_toReal (hb k).1 (hb k).2]
  have s : ∀ (t : Finset (Fin n)), ∃ y : ℝ, ∑ k ∈ t, a k * b k = (y : EReal) := fun t => by
    induction t using Finset.induction_on with
    | empty => exact ⟨0, rfl⟩
    | insert k t hk ih =>
      obtain ⟨y, hy⟩ := ih
      exact ⟨(a k).toReal * (b k).toReal + y, by rw [Finset.sum_insert hk, hy, e k, ← EReal.coe_add]⟩
  obtain ⟨y, hy⟩ := s Finset.univ
  rw [hy]
  exact ⟨EReal.coe_ne_top y, EReal.coe_ne_bot y⟩

end Cert.RouteProof

end
-- ==== Proof.RouteClaims.lean ====
/-
# The claims about the routing exchange

The kernel, its idealized text and the reference run and leave every semaphore at zero; and over the extended reals, from
finite arguments, both results of every device are the reference's: the tokens of both devices of a pair, and for each
token its two best experts, each packed with its weight.
-/
module

public import proofs.«01_k».proof.Defs
public import proofs.«01_k».proof.Proof.Gen.Route
public import proofs.«01_k».proof.Proof.Gen.RouteIdeal
public import proofs.«01_k».proof.Proof.Gen.RouteRefIdeal
public import proofs.«01_k».proof.Proof.Gen.Pre_finite_RouteIdeal
public import proofs.«01_k».proof.Proof.Gen.Pre_finite_RouteRefIdeal
public import proofs.«01_k».proof.Proof.RouteRun
public import proofs.«01_k».proof.Proof.RouteRef
public import proofs.«01_k».proof.Proof.RouteGates
public import Idealize.ShloMosaic.Lib.Pipeline.Value
public import Idealize.ShloMosaic.Lib.Layout

@[expose] public section

noncomputable section

namespace Cert.RouteProof

open Cert.RouteIdeal Cert.RouteIdeal.Gen

open Idealize.ShloMosaic hiding ix1 ix2 ix3 eq_ix2 eq_ix3
open Idealize.ShloMosaic.ValueIdx
open Idealize.ShloMosaic.TcCoe
open Idealize.SL.Sem

section Generic

variable {F : FTy → Type} [FloatOps F]
variable (m : (ℓ : Loc nD τ sig) → Buf (Elt F) ℓ) (ρ : Dev nD → PrngReg)

/-- A result array's one block is the whole array, so after the run it holds what the body left: the tokens, -/
theorem finalA_tokens (c : Dev nD) : finalA m ρ c (2 : Fin 4) = outX m ρ c := by
  have h : (win0_2.blk (0 : Fin 1)).view.read (Elt F) (finalA m ρ c (2 : Fin 4)) = outX m ρ c := by
    unfold finalA
    rw [show cfg0.N = ((0 : Fin 1) : Fin cfg0.N).val + 1 from rfl, (dats m ρ 0 c).arrAt_succ (2 : Fin 4) (0 : Fin 1)]
    rw [show (cfg0.win (2 : Fin 4)).flush (0 : Fin 1) = true from by decide, if_pos rfl]
    exact View.read_write_univ _ _
  have hz' : (fun a => (win0_2.index (0 : Fin 1)) a * main_v1_0.ty.shape.size a) = fun _ => 0 := funext fun a => Nat.zero_mul _
  exact (Memref.read_access_unit_zero (Elt F) main_v1_0 hz' (fun a => by fin_cases a <;> decide) _).symm.trans h

/-- and the choices. -/
theorem finalA_choices (c : Dev nD) : finalA m ρ c (3 : Fin 4) = outT m ρ c := by
  have h : (win0_3.blk (0 : Fin 1)).view.read (Elt F) (finalA m ρ c (3 : Fin 4)) = outT m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz' : (fun a => (win0_3.index (0 : Fin 1)) a * main_v1_1.ty.shape.size a) = fun _ => 0 := funext fun a => Nat.zero_mul _
  exact (Memref.read_access_unit_zero (Elt F) main_v1_1 hz' (fun a => by fin_cases a <;> decide) _).symm.trans h

/-- The staged arguments are the argument arrays: the tokens -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => Nat.zero_mul _) (fun a => by fin_cases a <;> decide) _

/-- and the router. -/
theorem rstg_eq (c : Dev nD) : rstg m ρ c = m ((c : Thread nD τ).loc main_arg1) :=
  Memref.read_access_unit_zero (Elt F) main_arg1 (off := fun a => (win0_1.index (0 : Fin 1)) a * main_arg1.ty.shape.size a)
    (funext fun a => Nat.zero_mul _) (fun a => by fin_cases a <;> decide) _

end Generic

section Value

open Cert.RouteRefIdeal (S2048x1024)

variable (m : (ℓ : Loc nD τ sig) → Buf (Elt Ideal) ℓ) (ρ : Dev nD → PrngReg)

/-! ## The blocks -/

/-- A device's coordinate on the mesh's second axis. -/
abbrev half (c : Dev nD) : Nat := (c.val / 4) % 2

theorem half_lt (c : Dev nD) : half c < 2 := Nat.mod_lt _ (by decide)

/-- The coordinate is the block the device holds. -/
theorem block_val (c : Dev nD) : Layout.meshLin [2, 2, 4] c.val [1] = half c := by
  revert c; decide

theorem peer_val (c : Dev nD) : half (peer c) = 1 - half c := by
  revert c; decide

theorem axis_zero (c : Dev nD) : half c = 0 → axis c = 0#32 := by
  revert c; decide

theorem axis_one (c : Dev nD) : half c = 1 → axis c = 1#32 := by
  revert c; decide

/-- A device's tokens and its half of the router. -/
abbrev xOf (c : Dev nD) : FVec Ideal S1024x1024 .f32 := m ((c : Thread nD τ).loc main_arg0)
abbrev wOf (c : Dev nD) : FVec Ideal S1024x8 .f32 := m ((c : Thread nD τ).loc main_arg1)

/-- The arguments of the devices are the blocks of the reference's. -/
def Blocks (x : FVec Ideal S2048x1024 .f32) (w : FVec Ideal S1024x16 .f32) : Prop :=
  ∀ c : Dev nD,
    m ((c : Thread nD τ).loc main_arg0) = Layout.blockN ⟨2, ![1024, 1024]⟩ ⟨2, ![2048, 1024]⟩ (Layout.meshBlock [2, 2, 4] ![[1], []] c) x
    ∧ m ((c : Thread nD τ).loc main_arg1) = Layout.blockN ⟨2, ![1024, 8]⟩ ⟨2, ![1024, 16]⟩ (Layout.meshBlock [2, 2, 4] ![[], [1]] c) w

/-- The token of the reference that is a device's. -/
abbrev at_ (s : Nat) (hs : s < 2) (r : Fin 1024) : Fin 2048 := ⟨s * 1024 + r.val, by have := r.isLt; omega⟩

/-- An entry of a device's tokens is the entry of all tokens as many blocks of rows down. -/
theorem x_entry {x : FVec Ideal S2048x1024 .f32} {w : FVec Ideal S1024x16 .f32} (h : Blocks m x w) (c : Dev nD) (r : Fin 1024)
    (l : Fin 1024) : xOf m c (ix2 r l) = x (ix2 (at_ (half c) (half_lt c) r) l) := by
  rw [xOf, (h c).1, Layout.blockN_apply]
  refine congrArg x (funext fun a => Fin.ext ?_)
  rw [Layout.TilesN.idx_val]
  fin_cases a
  · exact congrArg (· * 1024 + r.val) (block_val c)
  · exact (congrArg (· + l.val) (Nat.zero_mul 1024)).trans (Nat.zero_add _)

/-- An entry of a device's half of the router is the entry of all of it as many blocks of columns on. -/
theorem w_entry {x : FVec Ideal S2048x1024 .f32} {w : FVec Ideal S1024x16 .f32} (h : Blocks m x w) (c : Dev nD) (k : Fin 1024)
    (e : Fin 8) : wOf m c (ix2 k e) = w (ix2 k (⟨half c * 8 + e.val, by have := e.isLt; have := half_lt c; omega⟩ : Fin 16)) := by
  rw [wOf, (h c).2, Layout.blockN_apply]
  refine congrArg w (funext fun a => Fin.ext ?_)
  rw [Layout.TilesN.idx_val]
  fin_cases a
  · exact (congrArg (· + k.val) (Nat.zero_mul 1024)).trans (Nat.zero_add _)
  · exact congrArg (· * 8 + e.val) (block_val c)

/-! ## The gates -/

/-- The gates of a device's tokens at all sixteen experts. -/
abbrev gatesOf (c : Dev nD) : FVec Ideal S1024x16 .f32 :=
  joined (axis c) (k0_pay12 (xOf m c) (wOf m c)) (k0_pay13 (xOf m c) (wOf m (peer c)))

/-- A gate from one half of the router is the reference's gate at the expert as many columns on. -/
theorem gate_entry {x : FVec Ideal S2048x1024 .f32} {w : FVec Ideal S1024x16 .f32} (h : Blocks m x w) (c d : Dev nD) (r : Fin 1024)
    (e : Fin 8) (e' : Fin 16) (he : e'.val = half d * 8 + e.val) :
    (∑ k : Fin 1024, (xOf m c (ix2 r k) * wOf m d (ix2 k e) : EReal)) = Ref.gates x w (ix2 (at_ (half c) (half_lt c) r) e') := by
  rw [gates_apply]
  refine Finset.sum_congr rfl fun k _ => congrArg₂ (fun x y : EReal => x * y) (x_entry m h c r k) ((w_entry m h d k e).trans ?_)
  exact congrArg w (congrArg (ix2 k) (Fin.ext he.symm))

/-- The row of a device's token is the reference's row of that token. -/
theorem row_eq {x : FVec Ideal S2048x1024 .f32} {w : FVec Ideal S1024x16 .f32} (h : Blocks m x w) (c : Dev nD) (r : Fin 1024) :
    row (gatesOf m c) r = Ref.row (Ref.gates x w) (at_ (half c) (half_lt c) r) := by
  funext e
  have hp := peer_val c
  have he := e.isLt
  show gatesOf m c (ix2 r e) = _
  unfold gatesOf
  rcases (show half c = 0 ∨ half c = 1 by have := half_lt c; omega) with hy | hy
  · rw [axis_zero c hy]
    refine (joined_own_first _ _ r e).trans ?_
    split_ifs with h8
    · exact (pay12_apply _ _ r _).trans (gate_entry m h c c r _ e (by rw [hy]; simp))
    · exact (pay13_apply _ _ r _).trans (gate_entry m h c (peer c) r _ e (by rw [hp, hy]; simp only; omega))
  · rw [axis_one c hy]
    refine (joined_other_first _ _ r e).trans ?_
    split_ifs with h8
    · exact (pay13_apply _ _ r _).trans (gate_entry m h c (peer c) r _ e (by rw [hp, hy]; simp))
    · exact (pay12_apply _ _ r _).trans (gate_entry m h c c r _ e (by rw [hy]; simp only; omega))

/-! ## Finite arguments -/

/-- A number whose absolute value is below infinity is finite. -/
theorem finite_of_lt (x : EReal) (h : Ideal.cmp .olt (max x (-x)) (Ideal.ofBits .f32 0x7F800000#32) = 1#1) : Finite x := by
  have htop : Ideal.ofBits .f32 0x7F800000#32 = ⊤ := by simp [Ideal.ofBits, Ideal.ieee]
  rw [htop] at h
  constructor <;> rintro rfl <;> simp [Ideal.cmp] at h

theorem x_finite (hpre : Cert.Pre_RouteIdeal_finite_RouteIdeal m) (c : Dev nD) (i : S1024x1024.Idx) : Finite (xOf m c i) :=
  finite_of_lt _ (congrFun (hpre c).1 i)

theorem w_finite (hpre : Cert.Pre_RouteIdeal_finite_RouteIdeal m) (c : Dev nD) (i : S1024x8.Idx) : Finite (wOf m c i) :=
  finite_of_lt _ (congrFun (hpre c).2 i)

/-- From finite arguments every gate is finite. -/
theorem row_finite (hpre : Cert.Pre_RouteIdeal_finite_RouteIdeal m) (c : Dev nD) (r : Fin 1024) (e : Fin 16) :
    Finite (row (gatesOf m c) r e) := by
  have own : ∀ d : Dev nD, ∀ e : Fin 8, Finite (∑ k : Fin 1024, (xOf m c (ix2 r k) * wOf m d (ix2 k e) : EReal)) := fun d e =>
    finite_sum _ _ (fun k => x_finite m hpre c _) fun k => w_finite m hpre d _
  show Finite (gatesOf m c (ix2 r e))
  unfold gatesOf
  rcases (show half c = 0 ∨ half c = 1 by have := half_lt c; omega) with hy | hy
  · rw [axis_zero c hy, joined_own_first]
    split_ifs with h8
    · rw [pay12_apply]; exact own c _
    · rw [pay13_apply]; exact own (peer c) _
  · rw [axis_one c hy, joined_other_first]
    split_ifs with h8
    · rw [pay13_apply]; exact own (peer c) _
    · rw [pay12_apply]; exact own c _

/-! ## What a device sends -/

/-- A device's rounded tokens, -/
theorem tokens_apply {x : FVec Ideal S2048x1024 .f32} {w : FVec Ideal S1024x16 .f32} (h : Blocks m x w) (c : Dev nD) (r : Fin 1024)
    (l : Fin 1024) : tokens m ρ c (ix2 r l)
      = (truncf .bf16 x Cert.RouteRefIdeal.Gen.bitsLt_bf16_f32 : FVec Ideal S2048x1024 .bf16) (ix2 (at_ (half c) (half_lt c) r) l) := by
  rw [tokens, xstg_eq]
  unfold k0_pay10 k0_pay9
  simp only [shapeCast_self]
  exact x_entry m h c r l

/-- and its packed choices, are the reference's of the same tokens. -/
theorem choices_apply {x : FVec Ideal S2048x1024 .f32} {w : FVec Ideal S1024x16 .f32} (h : Blocks m x w)
    (hpre : Cert.Pre_RouteIdeal_finite_RouteIdeal m) (c : Dev nD) (r : Fin 1024) (i : Fin 2) :
    choices m ρ c (ix2 r i) = Ref.packed (Ref.gates x w) (ix2 (at_ (half c) (half_lt c) r) i) := by
  have e : choices m ρ c = picked (gatesOf m c) := by
    rw [choices, xstg_eq, rstg_eq, rstg_eq, pay14_eq]
    unfold k0_pay15
    exact shapeCast_self _ _
  obtain ⟨p, q, hb⟩ := exists_best (row (gatesOf m c) r)
  have f := row_finite m hpre c r
  have hr := row_eq m h c r
  rw [e, picked_apply _ r p q hb (f q).2 i]
  rw [hr] at hb f ⊢
  exact (Ref.packed_apply _ _ p q hb (f p).1 (f p).2 i).symm

/-! ## The results -/

/-- Two stacked arrays read at a position of the first, -/
theorem stack_zero {n k : ℕ} {α : Type} (a b : (⟨2, ![n, k]⟩ : Shape).Idx → α) (s : Fin 2) (r : Fin n) (l : Fin k)
    (hs : s.val = 0) : stack a b (ix3 s r l) = a (ix2 r l) := by
  refine (if_pos hs).trans (congrArg a (funext fun d => ?_))
  match d with
  | ⟨0, _⟩ => rfl
  | ⟨1, _⟩ => rfl

/-- and of the second. -/
theorem stack_one {n k : ℕ} {α : Type} (a b : (⟨2, ![n, k]⟩ : Shape).Idx → α) (s : Fin 2) (r : Fin n) (l : Fin k)
    (hs : s.val = 1) : stack a b (ix3 s r l) = b (ix2 r l) := by
  refine (if_neg (show ¬ s.val = 0 by omega)).trans (congrArg b (funext fun d => ?_))
  match d with
  | ⟨0, _⟩ => rfl
  | ⟨1, _⟩ => rfl

/-- What holds of each device's array at its own rows holds of the stack at all rows. -/
theorem stack_eq {k : ℕ} {α : Type} (a : Dev nD → (⟨2, ![1024, k]⟩ : Shape).Idx → α) (f : Fin 2048 → Fin k → α)
    (h : ∀ c r l, a c (ix2 r l) = f (at_ (half c) (half_lt c) r) l) (c : Dev nD) (s : Fin 2) (r : Fin 1024) (l : Fin k) :
    (if (c.val / 4) % 2 = 0 then stack (a c) (a (peer c)) else stack (a (peer c)) (a c)) (ix3 s r l)
      = f (at_ s.val s.isLt r) l := by
  have hp := peer_val c
  have hc := half_lt c
  have hs := s.isLt
  have key : ∀ d : Dev nD, half d = s.val → a d (ix2 r l) = f (at_ s.val s.isLt r) l := fun d hd => by
    rw [h]; exact congrArg (fun t => f t l) (Fin.ext (by simp only [at_, hd]))
  by_cases hy : (c.val / 4) % 2 = 0
  · have hy' : half c = 0 := hy
    rw [if_pos hy]
    rcases (show s.val = 0 ∨ s.val = 1 by omega) with h0 | h0
    · rw [stack_zero _ _ _ _ _ h0]; exact key c (by omega)
    · rw [stack_one _ _ _ _ _ h0]; exact key (peer c) (by omega)
  · have hy' : half c = 1 := by have : ¬ half c = 0 := hy; omega
    rw [if_neg hy]
    rcases (show s.val = 0 ∨ s.val = 1 by omega) with h0 | h0
    · rw [stack_zero _ _ _ _ _ h0]; exact key (peer c) (by omega)
    · rw [stack_one _ _ _ _ _ h0]; exact key c (by omega)

/-- A stack of two blocks of rows is the array of all rows, reshaped. -/
theorem unstack {k : ℕ} {α : Type} (v : (⟨2, ![2048, k]⟩ : Shape).Idx → α)
    (h : (⟨2, ![2048, k]⟩ : Shape).ShapeCasts ⟨3, ![2, 1024, k]⟩) (s : Fin 2) (r : Fin 1024) (l : Fin k) :
    shapeCast ⟨3, ![2, 1024, k]⟩ v h (ix3 s r l) = v (ix2 (at_ s.val s.isLt r) l) := by
  refine shapeCast_apply v h _ _ ?_
  rw [Shape.rowMajor_val_two, Shape.rowMajor_val_three]
  rfl

/-- Every device's tokens are the reference's, -/
theorem outX_eq {x : FVec Ideal S2048x1024 .f32} {w : FVec Ideal S1024x16 .f32} (h : Blocks m x w) (c : Dev nD) :
    outX m ρ c = Ref.tokens x := by
  funext i
  rw [eq_ix3 i]
  refine Eq.trans ?_ (unstack (k := 1024) _ _ (i 0) (i 1) (i 2)).symm
  have e := stack_eq (k := 1024) (fun c => tokens m ρ c)
    (fun t l => (truncf .bf16 x Cert.RouteRefIdeal.Gen.bitsLt_bf16_f32 : FVec Ideal S2048x1024 .bf16) (ix2 t l))
    (fun c r l => tokens_apply m ρ h c r l) c (i 0) (i 1) (i 2)
  unfold outX
  exact e

/-- and so are its choices. -/
theorem outT_eq {x : FVec Ideal S2048x1024 .f32} {w : FVec Ideal S1024x16 .f32} (h : Blocks m x w)
    (hpre : Cert.Pre_RouteIdeal_finite_RouteIdeal m) (c : Dev nD) : outT m ρ c = Ref.choices x w := by
  funext i
  rw [eq_ix3 i]
  refine Eq.trans ?_ (unstack (k := 2) _ _ (i 0) (i 1) (i 2)).symm
  have e := stack_eq (k := 2) (fun c => choices m ρ c) (fun t l => Ref.packed (Ref.gates x w) (ix2 t l))
    (fun c r l => choices_apply m ρ h hpre c r l) c (i 0) (i 1) (i 2)
  unfold outT
  exact e

end Value

/-! ## The claims -/

/-- The kernel and its idealized text are the same program over the bit floats, -/
theorem bodies_eq : Cert.Route.defs₀ (F := Bits) = defs₀ (F := Bits) := by
  unfold Cert.Route.defs₀ defs₀
  refine congrArg Defs.onTc (funext fun d => funext fun l => ?_)
  match d, l with
  | 0, (t, s) => rfl
  | ⟨_ + 1, h⟩, _ => exact absurd h (Nat.not_lt.2 (Nat.le_add_left _ _))

theorem tables_eq : Cert.Route.defs (F := Bits) = defs (F := Bits) :=
  congrArg (Pipeline.defs (pcfgs (F := Bits))) bodies_eq

/-- so what runs of the one runs of the other: the kernel runs and ends quiescent, its arguments unchanged. -/
theorem frame_kernel : Cert.quiescent_Route := by
  intro m ρ _
  rw [tables_eq]
  have h := (θ_run (defs (F := Bits)) _ _).mono
    (fun _ h => (⟨fun c => ⟨(h.1 c (0 : Fin 4)).trans (finalA_x m ρ c), (h.1 c (1 : Fin 4)).trans (finalA_r m ρ c)⟩, h.2⟩ :
      (∀ c : Dev nD, _ = _ ∧ _ = _) ∧ _)) (run_main (F := Bits) m ρ)
  exact h

/-- The idealized text runs and ends quiescent, its arguments unchanged, -/
theorem frame_ideal : Cert.quiescent_RouteIdeal := fun m ρ _ =>
  (θ_run defs _ _).mono
    (fun _ h => ⟨fun c => ⟨(h.1 c (0 : Fin 4)).trans (finalA_x m ρ c), (h.1 c (1 : Fin 4)).trans (finalA_r m ρ c)⟩, h.2⟩)
    (run_main (F := Ideal) m ρ)

/-- from finite arguments in particular. -/
theorem frame_ideal_finite : Cert.quiescent_RouteIdeal_pre_finite_RouteIdeal := fun m ρ _ => frame_ideal m ρ trivial

/-- The reference runs and ends quiescent, its arguments unchanged, -/
theorem frame_ref : Cert.quiescent_RouteRefIdeal := fun m ρ _ =>
  (θ_run Cert.RouteRefIdeal.defs _ _).mono
    (fun r h => ⟨fun c => (h c).2.2, Idealize.ShloMosaic.sem_eq_zero_of_no_sems (by decide) r.2⟩) (Ref.run_ref (F := Ideal) m ρ)

/-- from finite arguments in particular. -/
theorem frame_ref_finite : Cert.quiescent_RouteRefIdeal_pre_finite_RouteRefIdeal := fun m ρ _ => frame_ref m ρ trivial

/-- Over the extended reals, from finite arguments, both results of every device are the reference's. -/
theorem algebraic : Cert.algebraic_RouteIdeal_RouteRefIdeal_pre_finite_RouteIdeal := by
  intro m ρ m' ρ' hpre hp
  refine ⟨Ref.tokens (F := Ideal) (m' (((0 : Dev Cert.RouteRefIdeal.nD).tc : Thread _ Cert.RouteRefIdeal.τ).loc Cert.RouteRefIdeal.main_arg0)),
    Ref.choices (F := Ideal) (m' (((0 : Dev Cert.RouteRefIdeal.nD).tc : Thread _ Cert.RouteRefIdeal.τ).loc Cert.RouteRefIdeal.main_arg0))
      (m' (((0 : Dev Cert.RouteRefIdeal.nD).tc : Thread _ Cert.RouteRefIdeal.τ).loc Cert.RouteRefIdeal.main_arg1)), ?_, ?_⟩
  · exact (θ_run defs _ _).mono
      (fun _ h c => ⟨((h.1 c (2 : Fin 4)).trans (finalA_tokens m ρ c)).trans (outX_eq m ρ hp c),
        ((h.1 c (3 : Fin 4)).trans (finalA_choices m ρ c)).trans (outT_eq m ρ hp hpre c),
        (h.1 c (0 : Fin 4)).trans (finalA_x m ρ c), (h.1 c (1 : Fin 4)).trans (finalA_r m ρ c)⟩)
      (run_main (F := Ideal) m ρ)
  · exact (θ_run Cert.RouteRefIdeal.defs _ _).mono (fun _ h => h 0) (Ref.run_ref (F := Ideal) m' ρ')

end Cert.RouteProof

end
-- ==== Proof.FfnRef.lean ====
/-
# The run of the experts' reference

The reference reads every packed choice as a token's number and a weight, marks the choices of an expert's segment that
name a token, adds their weights to the token's share of the expert, passes every token through every expert, and adds the
experts' outputs weighed by the shares. Every execution terminates with that sum in the result and the arguments unchanged.
-/
module

public import proofs.«01_k».proof.Proof.Gen.FfnRefIdeal
public import Idealize.ShloMosaic.Lib.StableHlo.Run

@[expose] public section

noncomputable section

namespace Cert.FfnProof.Ref

open Cert.FfnRefIdeal Cert.FfnRefIdeal.Gen
open Idealize.ShloMosaic Idealize.ShloMosaic.TcCoe Idealize.ShloMosaic.StableHlo Idealize.SL.Sem

variable {F : FTy → Type} [FloatOps F]

/-- The packed choices in a row, and the numbers of the tokens they name, as floats. -/
abbrev row (p : FVec F S1x4544 .f32) : FVec F S4544 .f32 := shapeCast S4544 p shapeCasts_S1x4544_S4544
abbrev numbers (p : FVec F S1x4544 .f32) : FVec F S4544 .f32 := Host.floor (row p)

/-- The starts and the counts of the segments. -/
abbrev startsOf (s : IVec S2x8 32) : IVec S8 32 := shapeCast S8 (extractStridedSlice S1x8 ![0, 0] s slices_S2x8_S1x8_0_0) shapeCasts_S1x8_S8
abbrev countsOf (s : IVec S2x8 32) : IVec S8 32 := shapeCast S8 (extractStridedSlice S1x8 ![1, 0] s slices_S2x8_S1x8_1_0) shapeCasts_S1x8_S8

/-- The positions, for every expert, and one word of every expert, at every position. -/
abbrev positions : IVec S8x4544 32 :=
  broadcastInDim S8x4544 ![0, 1] bcast_S1x4544_S8x4544_0_1 (broadcastInDim S1x4544 ![1] bcast_S4544_S1x4544_1 (iotaInDim S4544 32 0))
abbrev everywhere (v : IVec S8 32) : IVec S8x4544 32 :=
  broadcastInDim S8x4544 ![0, 1] bcast_S8x1_S8x4544_0_1 (broadcastInDim S8x1 ![0] bcast_S8_S8x1_0 v)

/-- Which positions lie inside an expert's segment, -/
abbrev inside (s : IVec S2x8 32) : IVec S8x4544 1 :=
  andi (cmpi .sge positions (everywhere (startsOf s))) (cmpi .slt positions (everywhere (addi (startsOf s) (countsOf s))))

/-- and which hold a choice of a token. -/
abbrev here (p : FVec F S1x4544 .f32) : IVec S2048x4544 1 :=
  cmpi .eq (broadcastInDim S2048x4544 ![0, 1] bcast_S1x4544_S2048x4544_0_1 (broadcastInDim S1x4544 ![1] bcast_S4544_S1x4544_1 (fptosi 32 (numbers p))))
    (broadcastInDim S2048x4544 ![0, 1] bcast_S2048x1_S2048x4544_0_1 (broadcastInDim S2048x1 ![0] bcast_S2048_S2048x1_0 (iotaInDim S2048 32 0)))

/-- The marked choices. -/
abbrev marked (p : FVec F S1x4544 .f32) (s : IVec S2x8 32) : IVec S8x2048x4544 1 :=
  andi (broadcastInDim S8x2048x4544 ![0, 1, 2] bcast_S8x1x4544_S8x2048x4544_0_1_2 (broadcastInDim S8x1x4544 ![0, 2] bcast_S8x4544_S8x1x4544_0_2 (inside s)))
    (broadcastInDim S8x2048x4544 ![0, 1, 2] bcast_S1x2048x4544_S8x2048x4544_0_1_2 (broadcastInDim S1x2048x4544 ![1, 2] bcast_S2048x4544_S1x2048x4544_1_2 (here p)))

/-- Every token's share of every expert: the marked weights added. -/
abbrev shares (p : FVec F S1x4544 .f32) (s : IVec S2x8 32) : FVec F S8x2048 .f32 :=
  Host.reduceAdd (select (marked p s) (broadcastInDim S8x2048x4544 ![2] bcast_S4544_S8x2048x4544_2 (subf (row p) (numbers p)))
    (broadcastInDim S8x2048x4544 ![] bcast_S_S8x2048x4544 (constant (F := F) S_ .f32 0x00000000#32))) (constant S_ .f32 0x00000000#32)
    reducesTo_S8x2048x4544_S8x2048_d2 h_S_

/-- Every token through every expert: the hidden units, none below zero, and the outputs. -/
abbrev units (x : FVec F S2048x1024 .bf16) (w1 : FVec F S8x1024x4096 .f32) : FVec F S8x2048x4096 .f32 :=
  maximumf (transpose S8x2048x4096 [0, 2, 1] (Host.dotGeneral dot_S8x1024x4096_S2048x1024_S8x4096x2048_1_1_02_0_n_n none w1 (extf .f32 x bitsLt_bf16_f32))
    transposes_S8x4096x2048_S8x2048x4096_0_2_1) (broadcastInDim S8x2048x4096 ![] bcast_S_S8x2048x4096 (constant S_ .f32 0x00000000#32))
abbrev outputs (x : FVec F S2048x1024 .bf16) (w1 : FVec F S8x1024x4096 .f32) (w2 : FVec F S8x4096x1024 .f32) : FVec F S8x2048x1024 .f32 :=
  Host.dotGeneral dot_S8x2048x4096_S8x4096x1024_S8x2048x1024_2_1_1_2_0_0 none (units x w1) w2

/-- The result: the outputs weighed by the shares, added over the experts. -/
abbrev result (x : FVec F S2048x1024 .bf16) (p : FVec F S1x4544 .f32) (s : IVec S2x8 32) (w1 : FVec F S8x1024x4096 .f32) (w2 : FVec F S8x4096x1024 .f32) :
    FVec F S2048x1024 .f32 :=
  Host.reduceAdd (mulf (outputs x w1 w2) (broadcastInDim S8x2048x1024 ![0, 1, 2] bcast_S8x2048x1_S8x2048x1024_0_1_2
    (broadcastInDim S8x2048x1 ![0, 1] bcast_S8x2048_S8x2048x1_0_1 (shares p s)))) (constant S_ .f32 0x00000000#32) reducesTo_S8x2048x1024_S2048x1024_d0 h_S_

/-- The operations of the reference's main function. -/
abbrev ops : List (HloOp τ sig (Elt F)) :=
  [reshape main_arg1 main_v0 (rfl : (.f32 : EltTy) = .f32) shapeCasts_S1x4544_S4544,
    unary main_v0 main_v1 (Host.floor : (⟨S4544, .f32⟩ : BufTy).Contents (Elt F) → (⟨S4544, .f32⟩ : BufTy).Contents (Elt F)),
    reshape main_arg1 main_v2 (rfl : (.f32 : EltTy) = .f32) shapeCasts_S1x4544_S4544,
    binary main_v2 main_v1 main_v3 (subf : (⟨S4544, .f32⟩ : BufTy).Contents (Elt F) → (⟨S4544, .f32⟩ : BufTy).Contents (Elt F) → (⟨S4544, .f32⟩ : BufTy).Contents (Elt F)),
    nullary main_v4 (iotaInDim S4544 32 0),
    unary main_arg2 main_v5 ((extractStridedSlice S1x8 ![0, 0] · slices_S2x8_S1x8_0_0) : (⟨S2x8, .i32⟩ : BufTy).Contents (Elt F) → (⟨S1x8, .i32⟩ : BufTy).Contents (Elt F)),
    reshape main_v5 main_v6 (rfl : (.i32 : EltTy) = .i32) shapeCasts_S1x8_S8,
    unary main_v6 main_v7 (broadcastInDim S8x1 ![0] bcast_S8_S8x1_0 : (⟨S8, .i32⟩ : BufTy).Contents (Elt F) → (⟨S8x1, .i32⟩ : BufTy).Contents (Elt F)),
    unary main_v4 main_v8 (broadcastInDim S1x4544 ![1] bcast_S4544_S1x4544_1 : (⟨S4544, .i32⟩ : BufTy).Contents (Elt F) → (⟨S1x4544, .i32⟩ : BufTy).Contents (Elt F)),
    unary main_v8 main_v9 (broadcastInDim S8x4544 ![0, 1] bcast_S1x4544_S8x4544_0_1 : (⟨S1x4544, .i32⟩ : BufTy).Contents (Elt F) → (⟨S8x4544, .i32⟩ : BufTy).Contents (Elt F)),
    unary main_v7 main_v10 (broadcastInDim S8x4544 ![0, 1] bcast_S8x1_S8x4544_0_1 : (⟨S8x1, .i32⟩ : BufTy).Contents (Elt F) → (⟨S8x4544, .i32⟩ : BufTy).Contents (Elt F)),
    binary main_v9 main_v10 main_v11 (cmpi .sge : (⟨S8x4544, .i32⟩ : BufTy).Contents (Elt F) → (⟨S8x4544, .i32⟩ : BufTy).Contents (Elt F) → (⟨S8x4544, .i1⟩ : BufTy).Contents (Elt F)),
    unary main_arg2 main_v12 ((extractStridedSlice S1x8 ![0, 0] · slices_S2x8_S1x8_0_0) : (⟨S2x8, .i32⟩ : BufTy).Contents (Elt F) → (⟨S1x8, .i32⟩ : BufTy).Contents (Elt F)),
    reshape main_v12 main_v13 (rfl : (.i32 : EltTy) = .i32) shapeCasts_S1x8_S8,
    unary main_arg2 main_v14 ((extractStridedSlice S1x8 ![1, 0] · slices_S2x8_S1x8_1_0) : (⟨S2x8, .i32⟩ : BufTy).Contents (Elt F) → (⟨S1x8, .i32⟩ : BufTy).Contents (Elt F)),
    reshape main_v14 main_v15 (rfl : (.i32 : EltTy) = .i32) shapeCasts_S1x8_S8,
    binary main_v13 main_v15 main_v16 (addi : (⟨S8, .i32⟩ : BufTy).Contents (Elt F) → (⟨S8, .i32⟩ : BufTy).Contents (Elt F) → (⟨S8, .i32⟩ : BufTy).Contents (Elt F)),
    unary main_v16 main_v17 (broadcastInDim S8x1 ![0] bcast_S8_S8x1_0 : (⟨S8, .i32⟩ : BufTy).Contents (Elt F) → (⟨S8x1, .i32⟩ : BufTy).Contents (Elt F)),
    unary main_v4 main_v18 (broadcastInDim S1x4544 ![1] bcast_S4544_S1x4544_1 : (⟨S4544, .i32⟩ : BufTy).Contents (Elt F) → (⟨S1x4544, .i32⟩ : BufTy).Contents (Elt F)),
    unary main_v18 main_v19 (broadcastInDim S8x4544 ![0, 1] bcast_S1x4544_S8x4544_0_1 : (⟨S1x4544, .i32⟩ : BufTy).Contents (Elt F) → (⟨S8x4544, .i32⟩ : BufTy).Contents (Elt F)),
    unary main_v17 main_v20 (broadcastInDim S8x4544 ![0, 1] bcast_S8x1_S8x4544_0_1 : (⟨S8x1, .i32⟩ : BufTy).Contents (Elt F) → (⟨S8x4544, .i32⟩ : BufTy).Contents (Elt F)),
    binary main_v19 main_v20 main_v21 (cmpi .slt : (⟨S8x4544, .i32⟩ : BufTy).Contents (Elt F) → (⟨S8x4544, .i32⟩ : BufTy).Contents (Elt F) → (⟨S8x4544, .i1⟩ : BufTy).Contents (Elt F)),
    binary main_v11 main_v21 main_v22 (andi : (⟨S8x4544, .i1⟩ : BufTy).Contents (Elt F) → (⟨S8x4544, .i1⟩ : BufTy).Contents (Elt F) → (⟨S8x4544, .i1⟩ : BufTy).Contents (Elt F)),
    unary main_v1 main_v23 (fptosi 32 : (⟨S4544, .f32⟩ : BufTy).Contents (Elt F) → (⟨S4544, .i32⟩ : BufTy).Contents (Elt F)),
    unary main_v23 main_v24 (broadcastInDim S1x4544 ![1] bcast_S4544_S1x4544_1 : (⟨S4544, .i32⟩ : BufTy).Contents (Elt F) → (⟨S1x4544, .i32⟩ : BufTy).Contents (Elt F)),
    nullary main_v25 (iotaInDim S2048 32 0),
    unary main_v25 main_v26 (broadcastInDim S2048x1 ![0] bcast_S2048_S2048x1_0 : (⟨S2048, .i32⟩ : BufTy).Contents (Elt F) → (⟨S2048x1, .i32⟩ : BufTy).Contents (Elt F)),
    unary main_v24 main_v27 (broadcastInDim S2048x4544 ![0, 1] bcast_S1x4544_S2048x4544_0_1 : (⟨S1x4544, .i32⟩ : BufTy).Contents (Elt F) → (⟨S2048x4544, .i32⟩ : BufTy).Contents (Elt F)),
    unary main_v26 main_v28 (broadcastInDim S2048x4544 ![0, 1] bcast_S2048x1_S2048x4544_0_1 : (⟨S2048x1, .i32⟩ : BufTy).Contents (Elt F) → (⟨S2048x4544, .i32⟩ : BufTy).Contents (Elt F)),
    binary main_v27 main_v28 main_v29 (cmpi .eq : (⟨S2048x4544, .i32⟩ : BufTy).Contents (Elt F) → (⟨S2048x4544, .i32⟩ : BufTy).Contents (Elt F) → (⟨S2048x4544, .i1⟩ : BufTy).Contents (Elt F)),
    unary main_v22 main_v30 (broadcastInDim S8x1x4544 ![0, 2] bcast_S8x4544_S8x1x4544_0_2 : (⟨S8x4544, .i1⟩ : BufTy).Contents (Elt F) → (⟨S8x1x4544, .i1⟩ : BufTy).Contents (Elt F)),
    unary main_v29 main_v31 (broadcastInDim S1x2048x4544 ![1, 2] bcast_S2048x4544_S1x2048x4544_1_2 : (⟨S2048x4544, .i1⟩ : BufTy).Contents (Elt F) → (⟨S1x2048x4544, .i1⟩ : BufTy).Contents (Elt F)),
    unary main_v30 main_v32 (broadcastInDim S8x2048x4544 ![0, 1, 2] bcast_S8x1x4544_S8x2048x4544_0_1_2 : (⟨S8x1x4544, .i1⟩ : BufTy).Contents (Elt F) → (⟨S8x2048x4544, .i1⟩ : BufTy).Contents (Elt F)),
    unary main_v31 main_v33 (broadcastInDim S8x2048x4544 ![0, 1, 2] bcast_S1x2048x4544_S8x2048x4544_0_1_2 : (⟨S1x2048x4544, .i1⟩ : BufTy).Contents (Elt F) → (⟨S8x2048x4544, .i1⟩ : BufTy).Contents (Elt F)),
    binary main_v32 main_v33 main_v34 (andi : (⟨S8x2048x4544, .i1⟩ : BufTy).Contents (Elt F) → (⟨S8x2048x4544, .i1⟩ : BufTy).Contents (Elt F) → (⟨S8x2048x4544, .i1⟩ : BufTy).Contents (Elt F)),
    nullary main_cst (constant S_ .f32 0x00000000#32),
    unary main_cst main_call0_v0 (id : (⟨S_, .f32⟩ : BufTy).Contents (Elt F) → (⟨S_, .f32⟩ : BufTy).Contents (Elt F)),
    unary main_v3 main_call0_v1 (broadcastInDim S8x2048x4544 ![2] bcast_S4544_S8x2048x4544_2 : (⟨S4544, .f32⟩ : BufTy).Contents (Elt F) → (⟨S8x2048x4544, .f32⟩ : BufTy).Contents (Elt F)),
    unary main_call0_v0 main_call0_v2 (broadcastInDim S8x2048x4544 ![] bcast_S_S8x2048x4544 : (⟨S_, .f32⟩ : BufTy).Contents (Elt F) → (⟨S8x2048x4544, .f32⟩ : BufTy).Contents (Elt F)),
    ternary main_v34 main_call0_v1 main_call0_v2 main_v35 (select : (⟨S8x2048x4544, .i1⟩ : BufTy).Contents (Elt F) → (⟨S8x2048x4544, .f32⟩ : BufTy).Contents (Elt F) → (⟨S8x2048x4544, .f32⟩ : BufTy).Contents (Elt F) → (⟨S8x2048x4544, .f32⟩ : BufTy).Contents (Elt F)),
    nullary main_cst_0 (constant S_ .f32 0x00000000#32),
    binary main_v35 main_cst_0 main_v36 ((fun x v => Host.reduceAdd x v reducesTo_S8x2048x4544_S8x2048_d2 h_S_) : (⟨S8x2048x4544, .f32⟩ : BufTy).Contents (Elt F) → (⟨S_, .f32⟩ : BufTy).Contents (Elt F) → (⟨S8x2048, .f32⟩ : BufTy).Contents (Elt F)),
    unary main_arg0 main_v37 ((extf .f32 · bitsLt_bf16_f32) : (⟨S2048x1024, .bf16⟩ : BufTy).Contents (Elt F) → (⟨S2048x1024, .f32⟩ : BufTy).Contents (Elt F)),
    binary main_arg3 main_v37 main_v38 ((fun l r => Host.dotGeneral dot_S8x1024x4096_S2048x1024_S8x4096x2048_1_1_02_0_n_n none l r) : (⟨S8x1024x4096, .f32⟩ : BufTy).Contents (Elt F) → (⟨S2048x1024, .f32⟩ : BufTy).Contents (Elt F) → (⟨S8x4096x2048, .f32⟩ : BufTy).Contents (Elt F)),
    unary main_v38 main_v39 ((transpose S8x2048x4096 [0, 2, 1] · transposes_S8x4096x2048_S8x2048x4096_0_2_1) : (⟨S8x4096x2048, .f32⟩ : BufTy).Contents (Elt F) → (⟨S8x2048x4096, .f32⟩ : BufTy).Contents (Elt F)),
    nullary main_cst_1 (constant S_ .f32 0x00000000#32),
    unary main_cst_1 main_v40 (broadcastInDim S8x2048x4096 ![] bcast_S_S8x2048x4096 : (⟨S_, .f32⟩ : BufTy).Contents (Elt F) → (⟨S8x2048x4096, .f32⟩ : BufTy).Contents (Elt F)),
    binary main_v39 main_v40 main_v41 (maximumf : (⟨S8x2048x4096, .f32⟩ : BufTy).Contents (Elt F) → (⟨S8x2048x4096, .f32⟩ : BufTy).Contents (Elt F) → (⟨S8x2048x4096, .f32⟩ : BufTy).Contents (Elt F)),
    binary main_v41 main_arg4 main_v42 ((fun l r => Host.dotGeneral dot_S8x2048x4096_S8x4096x1024_S8x2048x1024_2_1_1_2_0_0 none l r) : (⟨S8x2048x4096, .f32⟩ : BufTy).Contents (Elt F) → (⟨S8x4096x1024, .f32⟩ : BufTy).Contents (Elt F) → (⟨S8x2048x1024, .f32⟩ : BufTy).Contents (Elt F)),
    unary main_v36 main_v43 (broadcastInDim S8x2048x1 ![0, 1] bcast_S8x2048_S8x2048x1_0_1 : (⟨S8x2048, .f32⟩ : BufTy).Contents (Elt F) → (⟨S8x2048x1, .f32⟩ : BufTy).Contents (Elt F)),
    unary main_v43 main_v44 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v42 main_v44 main_v45 (mulf : (⟨S8x2048x1024, .f32⟩ : BufTy).Contents (Elt F) → (⟨S8x2048x1024, .f32⟩ : BufTy).Contents (Elt F) → (⟨S8x2048x1024, .f32⟩ : BufTy).Contents (Elt F)),
    nullary main_cst_2 (constant S_ .f32 0x00000000#32),
    binary main_v45 main_cst_2 main_v46 ((fun x v => Host.reduceAdd x v reducesTo_S8x2048x1024_S2048x1024_d0 h_S_) : (⟨S8x2048x1024, .f32⟩ : BufTy).Contents (Elt F) → (⟨S_, .f32⟩ : BufTy).Contents (Elt F) → (⟨S2048x1024, .f32⟩ : BufTy).Contents (Elt F))]

theorem main_eq (c : Dev nD) : main (F := F) c = seq ops := rfl

theorem result_eq (V : Valuation τ sig (Elt F)) : after ops V (main_v46 : DevRef τ sig)
    = result (V (main_arg0 : DevRef τ sig)) (V (main_arg1 : DevRef τ sig)) (V (main_arg2 : DevRef τ sig)) (V (main_arg3 : DevRef τ sig)) (V (main_arg4 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_tc : (ops : List (HloOp τ sig (Elt F))).Forall fun op => op.bufs ⊆ tcRefs τ sig :=
  ⟨reshape_bufs_sub .., unary_bufs_sub .., reshape_bufs_sub .., binary_bufs_sub .., nullary_bufs_sub .., unary_bufs_sub .., reshape_bufs_sub .., unary_bufs_sub .., unary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., unary_bufs_sub .., unary_bufs_sub .., nullary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., binary_bufs_sub .., unary_bufs_sub .., nullary_bufs_sub .., unary_bufs_sub .., binary_bufs_sub .., binary_bufs_sub .., unary_bufs_sub .., unary_bufs_sub .., binary_bufs_sub .., nullary_bufs_sub .., binary_bufs_sub ..⟩

/-- The reference's run: it terminates with the weighed outputs' sum in its result and its arguments unchanged. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v46) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c main_v46).trans (result_eq _), (h c main_arg0).trans (arg0_eq _), (h c main_arg1).trans (arg1_eq _), (h c main_arg2).trans (arg2_eq _), (h c main_arg3).trans (arg3_eq _), (h c main_arg4).trans (arg4_eq _)⟩)
    (run_seq no_scoped_refs no_scoped_sems defs main (fun _ => ops) main_eq (fun _ => ops_tc) m ρ)

end Cert.FfnProof.Ref

end
-- ==== Proof.FfnRun.lean ====
/-
# The runs of the experts' body

The experts' kernel walks a grid of sixteen points: expert after expert, each expert's hidden dimension in two halves. At
an expert's first half it gathers the tokens of its segment and clears its accumulator; at both halves it adds that half's
share of the network to the accumulator; at the second half it weighs the accumulated rows and adds them to the result.
The body is run here once per kind of point — the first, a later expert's first half, a second half — over any float
values, and what it leaves in the buffers it writes is found by the run.
-/
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Ffn
public import proofs.«01_k».proof.Proof.Gen.FfnRefIdeal
public import proofs.«01_k».proof.Proof.Gen.Pre_starts_inside
public import proofs.«01_k».proof.Proof.Gen.Pre_segments_fit

@[expose] public section

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents' type, and the buffer held whole at contents `f`. -/
abbrev Bf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Bf (F := F) c M) : sProp 𝕄 :=
  M.view.loc (c : Thread nD τ) ↦{fullShare} f

/-- The two words of the segments' array the body reads at a point: where the expert's segment starts, and its length. -/
abbrev startAt (c : Dev nD) (i : grid0.Coords) (M4 : Memref sig .tc .smem S2x8 .i32) (f4 : Bf (F := F) c M4) : S1x1.Idx → BitVec 32 :=
  M4.view.readAt (Elt F) (Rect.unit (s := S2x8) (k0_off1 i) S1x1.size (k0_off1_inb i)).toLoadRect f4
abbrev countAt (c : Dev nD) (i : grid0.Coords) (M4 : Memref sig .tc .smem S2x8 .i32) (f4 : Bf (F := F) c M4) : S1x1.Idx → BitVec 32 :=
  M4.view.readAt (Elt F) (Rect.unit (s := S2x8) (k0_off2 i) S1x1.size (k0_off2_inb i)).toLoadRect f4

set_option maxHeartbeats 16000000 in
/-- The first point: the result is cleared, the first expert's tokens gathered, its accumulator cleared and the first half added. -/
noncomputable def runFirst (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : k0_cond1 i = 1#1) (hc2 : k0_cond2 i = 1#1) (hc3 : ¬ k0_cond3 i = 1#1) :
    { W : Bf (F := F) c M7 × Bf (F := F) c M8 × Bf (F := F) c M9 //
      ∀ (f7 : Bf (F := F) c M7) (f8 : Bf (F := F) c M8) (f9 : Bf (F := F) c M9) (E : Set ℕ) (Q : PUnit → sProp 𝕄),
        iprop(held c M2 f2 ∗ held c M3 f3 ∗ held c M4 f4 ∗ held c M5 f5 ∗ held c M6 f6 ∗ held c M7 f7 ∗ held c M8 f8 ∗ held c M9 f9
          ∗ (iprop(held c M2 f2 ∗ held c M3 f3 ∗ held c M4 f4 ∗ held c M5 f5 ∗ held c M6 f6 ∗ held c M7 W.1 ∗ held c M8 W.2.1 ∗ held c M9 W.2.2) -∗ Q ⟨⟩))
        ⊢ wp frame (wpE (defs₀ (F := F)) Variants.none c none) E
            (cc0_body i M2 h2 M3 h3 M4 h4 M5 h5 M6 h6 M7 h7 M8 h8 M9 h9) Q } := by
  refine ⟨⟨?_, ?_, ?_⟩, fun f7 f8 f9 E Q => ?run⟩
  case run =>
    simp only [cc0_body_eq_skeleton]; unfold cc0_body_skel
    simp only [k0_part1_eq_skeleton]; unfold k0_part1_skel
    iintro ⟨H2, H3, H4, H5, H6, H7, H8, H9, Hk⟩
    sl_exec! (disch := exact hg _)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 16000000 in
/-- A later expert's first half: its tokens gathered, its accumulator cleared and the first half added; the result untouched. -/
noncomputable def runGather (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : ¬ k0_cond1 i = 1#1) (hc2 : k0_cond2 i = 1#1) (hc3 : ¬ k0_cond3 i = 1#1) :
    { W : Bf (F := F) c M8 × Bf (F := F) c M9 //
      ∀ (f7 : Bf (F := F) c M7) (f8 : Bf (F := F) c M8) (f9 : Bf (F := F) c M9) (E : Set ℕ) (Q : PUnit → sProp 𝕄),
        iprop(held c M2 f2 ∗ held c M3 f3 ∗ held c M4 f4 ∗ held c M5 f5 ∗ held c M6 f6 ∗ held c M7 f7 ∗ held c M8 f8 ∗ held c M9 f9
          ∗ (iprop(held c M2 f2 ∗ held c M3 f3 ∗ held c M4 f4 ∗ held c M5 f5 ∗ held c M6 f6 ∗ held c M7 f7 ∗ held c M8 W.1 ∗ held c M9 W.2) -∗ Q ⟨⟩))
        ⊢ wp frame (wpE (defs₀ (F := F)) Variants.none c none) E
            (cc0_body i M2 h2 M3 h3 M4 h4 M5 h5 M6 h6 M7 h7 M8 h8 M9 h9) Q } := by
  refine ⟨⟨?_, ?_⟩, fun f7 f8 f9 E Q => ?run⟩
  case run =>
    simp only [cc0_body_eq_skeleton]; unfold cc0_body_skel
    simp only [k0_part1_eq_skeleton]; unfold k0_part1_skel
    iintro ⟨H2, H3, H4, H5, H6, H7, H8, H9, Hk⟩
    sl_exec! (disch := exact hg _)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 16000000 in
/-- An expert's second half: the second half added to the accumulator, its rows weighed and added to the result. -/
noncomputable def runScatter (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (hg : ∀ j, k0_chk1 i (startAt c i M4 f4 j))
    (hc1 : ¬ k0_cond1 i = 1#1) (hc2 : ¬ k0_cond2 i = 1#1) (hc3 : k0_cond3 i = 1#1) :
    { W : Bf (F := F) c M7 × Bf (F := F) c M9 //
      ∀ (E : Set ℕ) (Q : PUnit → sProp 𝕄),
        iprop(held c M2 f2 ∗ held c M3 f3 ∗ held c M4 f4 ∗ held c M5 f5 ∗ held c M6 f6 ∗ held c M7 f7 ∗ held c M8 f8 ∗ held c M9 f9
          ∗ (iprop(held c M2 f2 ∗ held c M3 f3 ∗ held c M4 f4 ∗ held c M5 f5 ∗ held c M6 f6 ∗ held c M7 W.1 ∗ held c M8 f8 ∗ held c M9 W.2) -∗ Q ⟨⟩))
        ⊢ wp frame (wpE (defs₀ (F := F)) Variants.none c none) E
            (cc0_body i M2 h2 M3 h3 M4 h4 M5 h5 M6 h6 M7 h7 M8 h8 M9 h9) Q } := by
  refine ⟨⟨?_, ?_⟩, fun E Q => ?run⟩
  case run =>
    simp only [cc0_body_eq_skeleton]; unfold cc0_body_skel
    simp only [k0_part1_eq_skeleton]; unfold k0_part1_skel
    iintro ⟨H2, H3, H4, H5, H6, H7, H8, H9, Hk⟩
    sl_exec! (disch := exact hg _)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.FfnProof

end
-- ==== Proof.FfnPoint.lean ====
/-
# What the experts' body computes at a point

The contents each kind of point leaves in the buffers it writes, as functions of what the buffers held: the gathered
tokens, the accumulator and the result.
-/
module

public import proofs.«01_k».proof.Proof.FfnRun
public import Idealize.ShloMosaic.Lib.Pipeline.Value

@[expose] public section

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a whole store, made last, leaves is what was stored; and a load of the whole reads the contents. -/
theorem read_last {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ fun y => ⟨_, List.mem_cons_self .., by subst h; exact (Rect.mem_set_unit (inb := inb)).mpr fun a => ⟨Nat.zero_le _, (Nat.zero_add (S.size a)).symm ▸ (y a).isLt⟩⟩]
  exact View.canon_cons_unit_zero h inb w L
theorem load_whole {sp : Space} {S : Shape} {e : EltTy} (v : View sig .tc sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)
/-- A load of the whole after a whole store reads what was stored. -/
theorem load_stored {sp : Space} {S : Shape} {e : EltTy} (v : View sig .tc sp S e) {off : Fin S.rank → Nat} (h : off = fun _ => 0)
    (inb : ∀ a, off a + S.size a ≤ S.size a) (w : S.Idx → Elt F e) :
    v.readCov [(⟨Rect.unit off S.size inb, w⟩ : View.Piece (Elt F) S e)] (Rect.unit off S.size inb).toLoadRect = w := View.readCov_unit_zero v h inb w

/-- Reading a whole buffer from its corner. -/
theorem corner2 : (![0, 0] : Fin 2 → Nat) = fun _ => 0 := funext fun a => match a with | ⟨0, _⟩ => rfl | ⟨1, _⟩ => rfl
theorem corner3 : (![0, 0, 0] : Fin 3 → Nat) = fun _ => 0 := funext fun a => match a with | ⟨0, _⟩ => rfl | ⟨1, _⟩ => rfl | ⟨2, _⟩ => rfl

/-- Where the expert's segment starts and how long it is, as the body reads them out of the segments' buffer. -/
abbrev startOf (c : Dev nD) (i : grid0.Coords) (M4 : Memref sig .tc .smem S2x8 .i32) (f4 : Bf (F := F) c M4) : BitVec 32 :=
  startAt c i M4 f4 (Shape.Idx.first (by decide))
abbrev countOf (c : Dev nD) (i : grid0.Coords) (M4 : Memref sig .tc .smem S2x8 .i32) (f4 : Bf (F := F) c M4) : BitVec 32 :=
  countAt c i M4 f4 (Shape.Idx.first (by decide))

/-- The start rounded down to a multiple of 128, and by how much the window loaded there is then rolled. -/
def alignedOf (v : BitVec 32) : BitVec 32 :=
  Scalar.muli (Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)) 128#32
def modulusOf : BitVec 32 := Scalar.select (Scalar.cmpi .eq 448#32 0#32) 1#32 448#32
def rollOf (v : BitVec 32) : BitVec 32 :=
  Scalar.select
    (Scalar.andi (Scalar.xori (Scalar.cmpi .slt (Scalar.remsi (Scalar.subi 448#32 (Scalar.subi v (alignedOf v))) modulusOf) 0#32) (Scalar.cmpi .slt modulusOf 0#32))
      (Scalar.cmpi .ne (Scalar.remsi (Scalar.subi 448#32 (Scalar.subi v (alignedOf v))) modulusOf) 0#32))
    (Scalar.addi (Scalar.remsi (Scalar.subi 448#32 (Scalar.subi v (alignedOf v))) modulusOf) modulusOf)
    (Scalar.remsi (Scalar.subi 448#32 (Scalar.subi v (alignedOf v))) modulusOf)
/-- The lanes' numbers. -/
def lanes : IVec S1x320 32 := iota .tc S1x320 32 [1] iota_S1x320_d1_w32

/-- The window of the packed choices a first half and a second half load. -/
abbrev windowG (c : Dev nD) (i : grid0.Coords) (M3 : Memref sig .tc .vmem S1x4544 .f32) (f3 : Bf (F := F) c M3) (v : BitVec 32)
    (hv : k0_chk1 i v) (hc : k0_cond2 i = 1#1) : Vec F S1x448 .f32 :=
  M3.view.readAt (Elt F) (Rect.unit (s := S1x4544) (k0_off3 v) S1x448.size (k0_off3_inb i v hv hc)).toLoadRect f3
abbrev windowS (c : Dev nD) (i : grid0.Coords) (M3 : Memref sig .tc .vmem S1x4544 .f32) (f3 : Bf (F := F) c M3) (v : BitVec 32)
    (hv : k0_chk1 i v) (hc : k0_cond3 i = 1#1) : Vec F S1x448 .f32 :=
  M3.view.readAt (Elt F) (Rect.unit (s := S1x4544) (k0_off4 v) S1x448.size (k0_off4_inb i v hv hc)).toLoadRect f3

set_option maxHeartbeats 1600000 in
/-- The result's buffer after the first point: zeros. -/
theorem first_out (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : k0_cond1 i = 1#1) (hc2 : k0_cond2 i = 1#1) (hc3 : ¬ k0_cond3 i = 1#1) :
    M7.view.read (Elt F) (runFirst c i M2 h2 M3 h3 M4 h4 M5 h5 M6 h6 M7 h7 M8 h8 M9 h9 f2 f3 f4 f5 f6 hg hc1 hc2 hc3).1.1
      = k0_pay1 (F := F) := by
  unfold runFirst
  dsimp only
  refine (read_last M7.view _ corner2 _ _ _).trans ?_
  show k0_pay1 (F := F) = _
  rfl

set_option maxHeartbeats 1600000 in
/-- The gathered tokens at the first point. -/
theorem first_xe (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : k0_cond1 i = 1#1) (hc2 : k0_cond2 i = 1#1) (hc3 : ¬ k0_cond3 i = 1#1) :
    M8.view.read (Elt F) (runFirst c i M2 h2 M3 h3 M4 h4 M5 h5 M6 h6 M7 h7 M8 h8 M9 h9 f2 f3 f4 f5 f6 hg hc1 hc2 hc3).1.2.1
      = k0_pay2 (countOf c i M4 f4) (rollOf (startOf c i M4 f4)) lanes (windowG c i M3 f3 (startOf c i M4 f4) (hg _) hc2) (M2.view.read (Elt F) f2) := by
  unfold runFirst
  dsimp only
  refine (read_last M8.view _ corner2 _ _ _).trans ?_
  show k0_pay2 (countOf c i M4 f4) (rollOf (startOf c i M4 f4)) lanes (windowG c i M3 f3 (startOf c i M4 f4) (hg _) hc2) (M2.view.readAt (Elt F) (Rect.unit (s := S2048x1024) ![0, 0] S2048x1024.size inb_S2048x1024_S2048x1024_0_0).toLoadRect f2) = _
  rw [load_whole (S := S2048x1024) M2.view _ corner2]

set_option maxHeartbeats 1600000 in
/-- The accumulator after the first point. -/
theorem first_acc (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : k0_cond1 i = 1#1) (hc2 : k0_cond2 i = 1#1) (hc3 : ¬ k0_cond3 i = 1#1) :
    M9.view.read (Elt F) (runFirst c i M2 h2 M3 h3 M4 h4 M5 h5 M6 h6 M7 h7 M8 h8 M9 h9 f2 f3 f4 f5 f6 hg hc1 hc2 hc3).1.2.2
      = k0_pay4 (M5.view.read (Elt F) f5) (M6.view.read (Elt F) f6) (k0_pay2 (countOf c i M4 f4) (rollOf (startOf c i M4 f4)) lanes (windowG c i M3 f3 (startOf c i M4 f4) (hg _) hc2) (M2.view.read (Elt F) f2)) (k0_pay3 (F := F)) := by
  unfold runFirst
  dsimp only
  refine (read_last M9.view _ corner2 _ _ _).trans ?_
  show k0_pay4 (M5.view.readAt (Elt F) (Rect.unit (s := S1x1024x2048) ![0, 0, 0] S1x1024x2048.size inb_S1x1024x2048_S1x1024x2048_0_0_0).toLoadRect f5) (M6.view.readAt (Elt F) (Rect.unit (s := S1x2048x1024) ![0, 0, 0] S1x2048x1024.size inb_S1x2048x1024_S1x2048x1024_0_0_0).toLoadRect f6) (M8.view.readCov [(⟨Rect.unit (s := S320x1024) ![0, 0] S320x1024.size inb_S320x1024_S320x1024_0_0, k0_pay2 (countOf c i M4 f4) (rollOf (startOf c i M4 f4)) lanes (windowG c i M3 f3 (startOf c i M4 f4) (hg _) hc2) (M2.view.readAt (Elt F) (Rect.unit (s := S2048x1024) ![0, 0] S2048x1024.size inb_S2048x1024_S2048x1024_0_0).toLoadRect f2)⟩ : View.Piece (Elt F) S320x1024 _)] (Rect.unit (s := S320x1024) ![0, 0] S320x1024.size inb_S320x1024_S320x1024_0_0).toLoadRect) (M9.view.readCov [(⟨Rect.unit (s := S320x1024) ![0, 0] S320x1024.size inb_S320x1024_S320x1024_0_0, (k0_pay3 (F := F))⟩ : View.Piece (Elt F) S320x1024 _)] (Rect.unit (s := S320x1024) ![0, 0] S320x1024.size inb_S320x1024_S320x1024_0_0).toLoadRect) = _
  rw [load_whole (S := S2048x1024) M2.view _ corner2, load_whole (S := S1x1024x2048) M5.view _ corner3, load_whole (S := S1x2048x1024) M6.view _ corner3, load_stored (S := S320x1024) M8.view corner2, load_stored (S := S320x1024) M9.view corner2]

set_option maxHeartbeats 1600000 in
/-- The gathered tokens at a later expert's first half. -/
theorem gather_xe (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : ¬ k0_cond1 i = 1#1) (hc2 : k0_cond2 i = 1#1) (hc3 : ¬ k0_cond3 i = 1#1) :
    M8.view.read (Elt F) (runGather c i M2 h2 M3 h3 M4 h4 M5 h5 M6 h6 M7 h7 M8 h8 M9 h9 f2 f3 f4 f5 f6 hg hc1 hc2 hc3).1.1
      = k0_pay2 (countOf c i M4 f4) (rollOf (startOf c i M4 f4)) lanes (windowG c i M3 f3 (startOf c i M4 f4) (hg _) hc2) (M2.view.read (Elt F) f2) := by
  unfold runGather
  dsimp only
  refine (read_last M8.view _ corner2 _ _ _).trans ?_
  show k0_pay2 (countOf c i M4 f4) (rollOf (startOf c i M4 f4)) lanes (windowG c i M3 f3 (startOf c i M4 f4) (hg _) hc2) (M2.view.readAt (Elt F) (Rect.unit (s := S2048x1024) ![0, 0] S2048x1024.size inb_S2048x1024_S2048x1024_0_0).toLoadRect f2) = _
  rw [load_whole (S := S2048x1024) M2.view _ corner2]

set_option maxHeartbeats 1600000 in
/-- The accumulator after a later expert's first half. -/
theorem gather_acc (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6)
    (hg : ∀ j, k0_chk1 i (startAt c i M4 f4 j))
    (hc1 : ¬ k0_cond1 i = 1#1) (hc2 : k0_cond2 i = 1#1) (hc3 : ¬ k0_cond3 i = 1#1) :
    M9.view.read (Elt F) (runGather c i M2 h2 M3 h3 M4 h4 M5 h5 M6 h6 M7 h7 M8 h8 M9 h9 f2 f3 f4 f5 f6 hg hc1 hc2 hc3).1.2
      = k0_pay4 (M5.view.read (Elt F) f5) (M6.view.read (Elt F) f6) (k0_pay2 (countOf c i M4 f4) (rollOf (startOf c i M4 f4)) lanes (windowG c i M3 f3 (startOf c i M4 f4) (hg _) hc2) (M2.view.read (Elt F) f2)) (k0_pay3 (F := F)) := by
  unfold runGather
  dsimp only
  refine (read_last M9.view _ corner2 _ _ _).trans ?_
  show k0_pay4 (M5.view.readAt (Elt F) (Rect.unit (s := S1x1024x2048) ![0, 0, 0] S1x1024x2048.size inb_S1x1024x2048_S1x1024x2048_0_0_0).toLoadRect f5) (M6.view.readAt (Elt F) (Rect.unit (s := S1x2048x1024) ![0, 0, 0] S1x2048x1024.size inb_S1x2048x1024_S1x2048x1024_0_0_0).toLoadRect f6) (M8.view.readCov [(⟨Rect.unit (s := S320x1024) ![0, 0] S320x1024.size inb_S320x1024_S320x1024_0_0, k0_pay2 (countOf c i M4 f4) (rollOf (startOf c i M4 f4)) lanes (windowG c i M3 f3 (startOf c i M4 f4) (hg _) hc2) (M2.view.readAt (Elt F) (Rect.unit (s := S2048x1024) ![0, 0] S2048x1024.size inb_S2048x1024_S2048x1024_0_0).toLoadRect f2)⟩ : View.Piece (Elt F) S320x1024 _)] (Rect.unit (s := S320x1024) ![0, 0] S320x1024.size inb_S320x1024_S320x1024_0_0).toLoadRect) (M9.view.readCov [(⟨Rect.unit (s := S320x1024) ![0, 0] S320x1024.size inb_S320x1024_S320x1024_0_0, (k0_pay3 (F := F))⟩ : View.Piece (Elt F) S320x1024 _)] (Rect.unit (s := S320x1024) ![0, 0] S320x1024.size inb_S320x1024_S320x1024_0_0).toLoadRect) = _
  rw [load_whole (S := S2048x1024) M2.view _ corner2, load_whole (S := S1x1024x2048) M5.view _ corner3, load_whole (S := S1x2048x1024) M6.view _ corner3, load_stored (S := S320x1024) M8.view corner2, load_stored (S := S320x1024) M9.view corner2]

set_option maxHeartbeats 1600000 in
/-- The accumulator after a second half. -/
theorem scatter_acc (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (hg : ∀ j, k0_chk1 i (startAt c i M4 f4 j))
    (hc1 : ¬ k0_cond1 i = 1#1) (hc2 : ¬ k0_cond2 i = 1#1) (hc3 : k0_cond3 i = 1#1) :
    M9.view.read (Elt F) (runScatter c i M2 h2 M3 h3 M4 h4 M5 h5 M6 h6 M7 h7 M8 h8 M9 h9 f2 f3 f4 f5 f6 f7 f8 f9 hg hc1 hc2 hc3).1.2
      = k0_pay4 (M5.view.read (Elt F) f5) (M6.view.read (Elt F) f6) (M8.view.read (Elt F) f8) (M9.view.read (Elt F) f9) := by
  unfold runScatter
  dsimp only
  refine (read_last M9.view _ corner2 _ _ _).trans ?_
  show k0_pay4 (M5.view.readAt (Elt F) (Rect.unit (s := S1x1024x2048) ![0, 0, 0] S1x1024x2048.size inb_S1x1024x2048_S1x1024x2048_0_0_0).toLoadRect f5) (M6.view.readAt (Elt F) (Rect.unit (s := S1x2048x1024) ![0, 0, 0] S1x2048x1024.size inb_S1x2048x1024_S1x2048x1024_0_0_0).toLoadRect f6) (M8.view.readAt (Elt F) (Rect.unit (s := S320x1024) ![0, 0] S320x1024.size inb_S320x1024_S320x1024_0_0).toLoadRect f8) (M9.view.readAt (Elt F) (Rect.unit (s := S320x1024) ![0, 0] S320x1024.size inb_S320x1024_S320x1024_0_0).toLoadRect f9) = _
  rw [load_whole (S := S1x1024x2048) M5.view _ corner3, load_whole (S := S1x2048x1024) M6.view _ corner3, load_whole (S := S320x1024) M8.view _ corner2, load_whole (S := S320x1024) M9.view _ corner2]

set_option maxHeartbeats 1600000 in
/-- The result's buffer after a second half: the expert's weighed rows added. -/
theorem scatter_out (c : Dev nD) (i : grid0.Coords)
    (M2 : Memref sig .tc .vmem S2048x1024 .bf16) (h2 : M2.IsWhole)
    (M3 : Memref sig .tc .vmem S1x4544 .f32) (h3 : M3.IsWhole)
    (M4 : Memref sig .tc .smem S2x8 .i32) (h4 : M4.IsWhole)
    (M5 : Memref sig .tc .vmem S1x1024x2048 .f32) (h5 : M5.IsWhole)
    (M6 : Memref sig .tc .vmem S1x2048x1024 .f32) (h6 : M6.IsWhole)
    (M7 : Memref sig .tc .vmem S2048x1024 .f32) (h7 : M7.IsWhole)
    (M8 : Memref sig .tc .vmem S320x1024 .bf16) (h8 : M8.IsWhole)
    (M9 : Memref sig .tc .vmem S320x1024 .f32) (h9 : M9.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (hg : ∀ j, k0_chk1 i (startAt c i M4 f4 j))
    (hc1 : ¬ k0_cond1 i = 1#1) (hc2 : ¬ k0_cond2 i = 1#1) (hc3 : k0_cond3 i = 1#1) :
    M7.view.read (Elt F) (runScatter c i M2 h2 M3 h3 M4 h4 M5 h5 M6 h6 M7 h7 M8 h8 M9 h9 f2 f3 f4 f5 f6 f7 f8 f9 hg hc1 hc2 hc3).1.1
      = k0_pay5 (countOf c i M4 f4) (rollOf (startOf c i M4 f4)) lanes (windowS c i M3 f3 (startOf c i M4 f4) (hg _) hc3) (k0_pay4 (M5.view.read (Elt F) f5) (M6.view.read (Elt F) f6) (M8.view.read (Elt F) f8) (M9.view.read (Elt F) f9)) (M7.view.read (Elt F) f7) := by
  unfold runScatter
  dsimp only
  refine (read_last M7.view _ corner2 _ _ _).trans ?_
  show k0_pay5 (countOf c i M4 f4) (rollOf (startOf c i M4 f4)) lanes (windowS c i M3 f3 (startOf c i M4 f4) (hg _) hc3) (M9.view.readCov [(⟨Rect.unit (s := S320x1024) ![0, 0] S320x1024.size inb_S320x1024_S320x1024_0_0, k0_pay4 (M5.view.readAt (Elt F) (Rect.unit (s := S1x1024x2048) ![0, 0, 0] S1x1024x2048.size inb_S1x1024x2048_S1x1024x2048_0_0_0).toLoadRect f5) (M6.view.readAt (Elt F) (Rect.unit (s := S1x2048x1024) ![0, 0, 0] S1x2048x1024.size inb_S1x2048x1024_S1x2048x1024_0_0_0).toLoadRect f6) (M8.view.readAt (Elt F) (Rect.unit (s := S320x1024) ![0, 0] S320x1024.size inb_S320x1024_S320x1024_0_0).toLoadRect f8) (M9.view.readAt (Elt F) (Rect.unit (s := S320x1024) ![0, 0] S320x1024.size inb_S320x1024_S320x1024_0_0).toLoadRect f9)⟩ : View.Piece (Elt F) S320x1024 _)] (Rect.unit (s := S320x1024) ![0, 0] S320x1024.size inb_S320x1024_S320x1024_0_0).toLoadRect) (M7.view.readAt (Elt F) (Rect.unit (s := S2048x1024) ![0, 0] S2048x1024.size inb_S2048x1024_S2048x1024_0_0).toLoadRect f7) = _
  rw [load_whole (S := S1x1024x2048) M5.view _ corner3, load_whole (S := S1x2048x1024) M6.view _ corner3, load_whole (S := S2048x1024) M7.view _ corner2, load_whole (S := S320x1024) M8.view _ corner2, load_whole (S := S320x1024) M9.view _ corner2, load_stored (S := S320x1024) M9.view corner2]

end Cert.FfnProof

end
-- ==== Proof.FfnLaunch.lean ====
/-
# The launch of the experts' kernel

The sixteen points in turn: what the two scratch buffers and the result's buffer hold after each, by recursion on the
point, the body's obligation at each point, and the launch — it terminates, every semaphore counter ends at zero, the
arguments are unchanged and the result array holds what the last point left. Over any float values, for segments whose
starts lie inside the packed choices.
-/
module

public import proofs.«01_k».proof.Proof.FfnPoint
public import Idealize.ShloMosaic.Lib.Pipeline.Value
public import Idealize.ShloMosaic.Lib.Pipeline.TableIdle

@[expose] public section

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the two words -/

abbrev xB (c : Dev nD) (t : Fin cfg0.N) : Vec F S2048x1024 .bf16 := iblk m c 0 t
abbrev pB (c : Dev nD) (t : Fin cfg0.N) : Vec F S1x4544 .f32 := iblk m c 1 t
abbrev sB (c : Dev nD) (t : Fin cfg0.N) : Vec F S2x8 .i32 := iblk m c 2 t
abbrev w1B (c : Dev nD) (t : Fin cfg0.N) : Vec F S1x1024x2048 .f32 := iblk m c 3 t
abbrev w2B (c : Dev nD) (t : Fin cfg0.N) : Vec F S1x2048x1024 .f32 := iblk m c 4 t

/-- The words of the segments' array read at a point. -/
abbrev starts (seg : Vec F S2x8 .i32) (i : grid0.Coords) : S1x1.Idx → BitVec 32 :=
  View.ld (Val := Elt F) seg (Rect.unit (s := S2x8) (k0_off1 i) S1x1.size (k0_off1_inb i))
abbrev counts (seg : Vec F S2x8 .i32) (i : grid0.Coords) : S1x1.Idx → BitVec 32 :=
  View.ld (Val := Elt F) seg (Rect.unit (s := S2x8) (k0_off2 i) S1x1.size (k0_off2_inb i))
abbrev startV (c : Dev nD) (t : Fin cfg0.N) : BitVec 32 := starts (sB m c t) (grid0.coords t) (Shape.Idx.first (by decide))
abbrev countV (c : Dev nD) (t : Fin cfg0.N) : BitVec 32 := counts (sB m c t) (grid0.coords t) (Shape.Idx.first (by decide))

/-- What the body assumes of the start it reads, at either half. -/
def WordOK (v : BitVec 32) : Prop :=
  128 ∣ (k0_mult1 v).toNat ∧ (∀ a, k0_off3 v a + S1x448.size a ≤ S1x4544.size a) ∧ (∀ a, k0_off4 v a + S1x448.size a ≤ S1x4544.size a)
/-- Every start read is in order. -/
def StartsOK : Prop := ∀ (c : Dev nD) (t : Fin cfg0.N) j, WordOK (starts (sB m c t) (grid0.coords t) j)

theorem WordOK.chk {v : BitVec 32} (h : WordOK v) (i : grid0.Coords) : k0_chk1 i v := ⟨h.1, fun _ => h.2.1, fun _ => h.2.2⟩

variable (hp : StartsOK m)

/-! ## What the buffers hold after each point -/

/-- The window of packed choices, the gathered tokens, a half's addition to the accumulator, the weighed rows' addition. -/
abbrev winV (c : Dev nD) (t : Fin cfg0.N) : Vec F S1x448 .f32 :=
  View.ld (Val := Elt F) (pB m c t) (Rect.unit (s := S1x4544) (k0_off3 (startV m c t)) S1x448.size (hp c t _).2.1)
abbrev xeV (c : Dev nD) (t : Fin cfg0.N) : Vec F S320x1024 .bf16 :=
  k0_pay2 (countV m c t) (rollOf (startV m c t)) lanes (winV m hp c t) (xB m c t)
abbrev accV (c : Dev nD) (t : Fin cfg0.N) (xe : Vec F S320x1024 .bf16) (acc : Vec F S320x1024 .f32) : Vec F S320x1024 .f32 :=
  k0_pay4 (w1B m c t) (w2B m c t) xe acc
abbrev outV (c : Dev nD) (t : Fin cfg0.N) (acc : Vec F S320x1024 .f32) (out : Vec F S2048x1024 .f32) : Vec F S2048x1024 .f32 :=
  k0_pay5 (countV m c t) (rollOf (startV m c t)) lanes (winV m hp c t) acc out

/-- The gathered tokens, the accumulator and the result. -/
structure St (F : FTy → Type) [FloatOps F] where
  xe : Vec F S320x1024 .bf16
  acc : Vec F S320x1024 .f32
  out : Vec F S2048x1024 .f32

theorem lt16 (t : Fin cfg0.N) : t.val < 16 := lt_of_lt_of_eq t.isLt N_0
/-- Point `n`. -/
def pt (n : ℕ) : Fin cfg0.N := ⟨n % 16, by rw [show cfg0.N = 16 from N_0]; omega⟩
theorem pt_val (t : Fin cfg0.N) : pt t.val = t := Fin.ext (Nat.mod_eq_of_lt (lt16 t))

/-- After point `n`. -/
def st (c : Dev nD) : ℕ → St F
  | 0 => ⟨xeV m hp c (pt 0), accV m c (pt 0) (xeV m hp c (pt 0)) k0_pay3, k0_pay1⟩
  | n + 1 =>
    if n % 2 = 1 then ⟨xeV m hp c (pt (n + 1)), accV m c (pt (n + 1)) (xeV m hp c (pt (n + 1))) k0_pay3, (st c n).out⟩
    else ⟨(st c n).xe, accV m c (pt (n + 1)) (st c n).xe (st c n).acc,
      outV m hp c (pt (n + 1)) (accV m c (pt (n + 1)) (st c n).xe (st c n).acc) (st c n).out⟩

theorem st_zero (c : Dev nD) : st m hp c 0 = ⟨xeV m hp c (pt 0), accV m c (pt 0) (xeV m hp c (pt 0)) k0_pay3, k0_pay1⟩ := rfl
theorem st_gather (c : Dev nD) (n : ℕ) (h : n % 2 = 1) : st m hp c (n + 1)
    = ⟨xeV m hp c (pt (n + 1)), accV m c (pt (n + 1)) (xeV m hp c (pt (n + 1))) k0_pay3, (st m hp c n).out⟩ := by
  rw [st, if_pos h]
theorem st_scatter (c : Dev nD) (n : ℕ) (h : ¬ n % 2 = 1) : st m hp c (n + 1)
    = ⟨(st m hp c n).xe, accV m c (pt (n + 1)) (st m hp c n).xe (st m hp c n).acc,
      outV m hp c (pt (n + 1)) (accV m c (pt (n + 1)) (st m hp c n).xe (st m hp c n).acc) (st m hp c n).out⟩ := by
  rw [st, if_neg h]

/-! ## The proof data -/

abbrev m8 : Memref sig .tc .vmem S320x1024 .bf16 := Memref.whole cc0_scratch0
abbrev m9 : Memref sig .tc .vmem S320x1024 .f32 := Memref.whole cc0_scratch1

/-- The scratch buffers before point `n`: anything at first, then what the last point left. -/
def scr (c : Dev nD) : ℕ → sProp 𝕄
  | 0 => iprop((∃ f, held (F := F) c m8 f) ∗ ∃ f, held (F := F) c m9 f)
  | n + 1 => iprop((∃ f, ⌜m8.view.read (Elt F) f = (st m hp c n).xe⌝ ∗ held (F := F) c m8 f)
      ∗ ∃ f, ⌜m9.view.read (Elt F) f = (st m hp c n).acc⌝ ∗ held (F := F) c m9 f)

theorem scr_any (c : Dev nD) (n : ℕ) : scr m hp c n ⊢ (iprop((∃ f, held (F := F) c m8 f) ∗ ∃ f, held (F := F) c m9 f) : sProp 𝕄) := by
  cases n with
  | zero => exact .rfl
  | succ n =>
    unfold scr; iintro ⟨⟨%f, -, H⟩, ⟨%g, -, G⟩⟩
    isplitl [H]; · iexists f; iexact H
    iexists g; iexact G

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m hp c t.val).out
  Φ t := iprop(scr m hp c t.val ∗ ∃ r, prngReg c r)
  q _ := fullShare
  owed _ := 0

theorem after_w0 (c : Dev nD) (t : Fin cfg0.N) : (dats m hp 0 c).after 0 t = iblk m c 0 t := by dsimp only [dats]
theorem after_w1 (c : Dev nD) (t : Fin cfg0.N) : (dats m hp 0 c).after 1 t = iblk m c 1 t := by dsimp only [dats]
theorem after_w2 (c : Dev nD) (t : Fin cfg0.N) : (dats m hp 0 c).after 2 t = iblk m c 2 t := by dsimp only [dats]
theorem after_w3 (c : Dev nD) (t : Fin cfg0.N) : (dats m hp 0 c).after 3 t = iblk m c 3 t := by dsimp only [dats]
theorem after_w4 (c : Dev nD) (t : Fin cfg0.N) : (dats m hp 0 c).after 4 t = iblk m c 4 t := by dsimp only [dats]
theorem after_w5 (c : Dev nD) (t : Fin cfg0.N) : (dats m hp 0 c).after 5 t = (st m hp c t.val).out := by dsimp only [dats]
theorem before_w0 (c : Dev nD) (t : Fin cfg0.N) (d) : (dats m hp 0 c).before 0 t d = iblk m c 0 t := before0_0_of m _ rfl (after_w0 m hp c) t d
theorem before_w1 (c : Dev nD) (t : Fin cfg0.N) (d) : (dats m hp 0 c).before 1 t d = iblk m c 1 t := before0_1_of m _ rfl (after_w1 m hp c) t d
theorem before_w2 (c : Dev nD) (t : Fin cfg0.N) (d) : (dats m hp 0 c).before 2 t d = iblk m c 2 t := before0_2_of m _ rfl (after_w2 m hp c) t d
theorem before_w3 (c : Dev nD) (t : Fin cfg0.N) (d) : (dats m hp 0 c).before 3 t d = iblk m c 3 t := before0_3_of m _ rfl (after_w3 m hp c) t d
theorem before_w4 (c : Dev nD) (t : Fin cfg0.N) (d) : (dats m hp 0 c).before 4 t d = iblk m c 4 t := before0_4_of m _ rfl (after_w4 m hp c) t d

/-- Which point is of which kind. -/
theorem cond1_iff : ∀ t : Fin grid0.N, k0_cond1 (grid0.coords t) = 1#1 ↔ t.val = 0 := by decide
theorem cond2_iff : ∀ t : Fin grid0.N, k0_cond2 (grid0.coords t) = 1#1 ↔ t.val % 2 = 0 := by decide
theorem cond3_iff : ∀ t : Fin grid0.N, k0_cond3 (grid0.coords t) = 1#1 ↔ t.val % 2 = 1 := by decide
theorem idle_iff : ∀ t : Fin grid0.N, cfg0.idle 5 (grid0.coords t) = (t.val % 2 == 0 && t.val != 0) := by decide

theorem fresh_tab : ∀ t : Fin grid0.N, (t.val + 1 == 0 || t.val + 1 == 16)
    = (decide (t.val % 16 = 15) || t.val % 2 == 0 && t.val != 0 && (t.val == 0 || t.val == 16)) := by decide

theorem fresh5 (n : ℕ) (h : n ≤ cfg0.N) : cfg0.fresh 5 n = (n == 0 || n == 16) :=
  Cfg.fresh_tab cfg0 5 (fun n => n == 0 || n == 16) rfl (fun t => by
    rw [show cfg0.idle 5 (cfg0.grid.coords t) = (t.val % 2 == 0 && t.val != 0) from idle_iff t,
      show (cfg0.win 5).flush t = decide (t.val % 16 = 15) from Bool.eq_iff_iff.mpr (by rw [flush0_5]; simp)]
    exact fresh_tab t) n h

theorem before_w5 (c : Dev nD) (t : Fin cfg0.N) (d) (h : t.val ≠ 0) : (dats m hp 0 c).before 5 t d = (st m hp c (t.val - 1)).out := by
  have hN := lt16 t
  rw [(dats m hp 0 c).before_out_traj 5 rfl (fun _ _ => rfl) (fun t ht hi _ => by
    rw [show cfg0.idle 5 (cfg0.grid.coords t) = (t.val % 2 == 0 && t.val != 0) from idle_iff t] at hi
    simp at hi
    obtain ⟨n, hn⟩ : ∃ n, t.val = n + 1 := ⟨t.val - 1, by omega⟩
    rw [after_w5, after_w5]
    dsimp only
    rw [hn, st_gather m hp c n (by omega)]; rfl) t.val t rfl d,
    fresh5 _ (le_of_lt t.isLt), if_neg (by simp; omega), after_w5]

/-! ## The body obligation -/

theorem defs_tc : (defs₀ (F := F)) .tc cfg0.body
    = fun a => cc0_body (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5))
        (Memref.whole cc0_scratch0) (Memref.isWhole_whole _) (Memref.whole cc0_scratch1) (Memref.isWhole_whole _) := rfl
theorem prog_eq (t : Fin cfg0.N) : (defs₀ (F := F)) .tc cfg0.body (cfg0.bodyArgs t (cfg0.slots t)) = bodyAt0 t :=
  (congrFun defs_tc _).trans rfl

/-- A whole buffer owned at contents is the buffer held at something that reads as them. -/
theorem owns_held (c : Dev nD) {sp : Space} {S : Shape} {e : EltTy} {M : Memref sig .tc sp S e} (h : M.IsWhole) (X : S.Idx → Elt F e) :
    (owns (Ix := Unit) (Name := ℕ) (U := UR sig nD τ) (Lvl := ℕ) (c : Thread nD τ) M fullShare X : sProp 𝕄) = iprop(∃ f, ⌜M.view.read (Elt F) f = X⌝ ∗ held (F := F) c M f) := by
  obtain ⟨b, hsp, hsh, he, h⟩ := h
  subst hsp hsh he
  cases h
  unfold owns held
  simp only [Memref.view_whole, View.set_whole]

/-- The start a point reads is in order, whatever the buffer's contents, so long as they read as the block. -/
theorem chk (hp : StartsOK m) (c : Dev nD) (t : Fin cfg0.N) (f : Bf (F := F) c (st0_2 t)) (hf : (st0_2 t).view.read (Elt F) f = iblk m c 2 t) (j) :
    k0_chk1 (grid0.coords t) (startAt c (grid0.coords t) (st0_2 t) f j) := by
  have e : startAt c (grid0.coords t) (st0_2 t) f j = starts (sB m c t) (grid0.coords t) j :=
    congrFun (congrArg (fun X => View.ld (Val := Elt F) X (Rect.unit (s := S2x8) (k0_off1 (grid0.coords t)) S1x1.size (k0_off1_inb (grid0.coords t)))) hf) j
  rw [e]; exact (hp c t j).chk _

/-- The windows' buffers the body only reads. -/
abbrev ins (c : Dev nD) (t : Fin cfg0.N) : sProp 𝕄 :=
  iprop(owns c (st0_0 t) fullShare (iblk m c 0 t) ∗ owns c (st0_1 t) fullShare (iblk m c 1 t) ∗ owns c (st0_2 t) fullShare (iblk m c 2 t)
    ∗ owns c (st0_3 t) fullShare (iblk m c 3 t) ∗ owns c (st0_4 t) fullShare (iblk m c 4 t))

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hm8 : m8.IsWhole := Memref.isWhole_whole _
abbrev hm9 : m9.IsWhole := Memref.isWhole_whole _

/-- The window a point loads reads as the block's window. -/
theorem win_eq (hp : StartsOK m) (c : Dev nD) (t : Fin cfg0.N) (g : Bf (F := F) c (st0_1 t)) (f : Bf (F := F) c (st0_2 t))
    (hg : (st0_1 t).view.read (Elt F) g = iblk m c 1 t) (hf : (st0_2 t).view.read (Elt F) f = iblk m c 2 t)
    (hv : k0_chk1 (grid0.coords t) (startOf c (grid0.coords t) (st0_2 t) f)) :
    (∀ hc, windowG c (grid0.coords t) (st0_1 t) g (startOf c (grid0.coords t) (st0_2 t) f) hv hc = winV m hp c t)
    ∧ (∀ hc, windowS c (grid0.coords t) (st0_1 t) g (startOf c (grid0.coords t) (st0_2 t) f) hv hc = winV m hp c t) := by
  have e : startOf c (grid0.coords t) (st0_2 t) f = startV m c t := congrFun (congrArg (fun X => View.ld (Val := Elt F) X _) hf) _
  revert hv; rw [e]; intro hv
  exact ⟨fun hc => congrArg (fun X => View.ld (Val := Elt F) X _) hg, fun hc => congrArg (fun X => View.ld (Val := Elt F) X _) hg⟩
theorem start_eq (c : Dev nD) (t : Fin cfg0.N) (f : Bf (F := F) c (st0_2 t)) (hf : (st0_2 t).view.read (Elt F) f = iblk m c 2 t) :
    startOf c (grid0.coords t) (st0_2 t) f = startV m c t := congrFun (congrArg (fun X => View.ld (Val := Elt F) X _) hf) _
theorem count_eq (c : Dev nD) (t : Fin cfg0.N) (f : Bf (F := F) c (st0_2 t)) (hf : (st0_2 t).view.read (Elt F) f = iblk m c 2 t) :
    countOf c (grid0.coords t) (st0_2 t) f = countV m c t := congrFun (congrArg (fun X => View.ld (Val := Elt F) X _) hf) _

/-- The first point. -/
theorem body_first (c : Dev nD) (t : Fin cfg0.N) (ht : t.val = 0) (E : Set ℕ) (Q : PUnit → sProp 𝕄) :
    iprop(ins m c t ∗ (∃ X, owns c (st0_5 t) fullShare X) ∗ scr m hp c t.val
      ∗ (iprop(ins m c t ∗ owns c (st0_5 t) fullShare (st m hp c t.val).out ∗ scr m hp c (t.val + 1)) -∗ Q ⟨⟩))
      ⊢ wp frame (wpE (defs₀ (F := F)) Variants.none (c : Thread nD τ) none) E (bodyAt0 t) Q := by
  simp only [ins, owns_held c (hs0 t), owns_held c (hs1 t), owns_held c (hs2 t), owns_held c (hs3 t), owns_held c (hs4 t), owns_held c (hs5 t)]
  have hc1 : k0_cond1 (grid0.coords t) = 1#1 := by rw [cond1_iff]; omega
  have hc2 : k0_cond2 (grid0.coords t) = 1#1 := by rw [cond2_iff]; omega
  have hc3 : ¬ k0_cond3 (grid0.coords t) = 1#1 := by rw [cond3_iff]; omega
  have hs : scr m hp c t.val = iprop((∃ f, held (F := F) c m8 f) ∗ ∃ f, held (F := F) c m9 f) := by rw [ht]; rfl
  have h0 : t = pt 0 := (pt_val t).symm.trans (by rw [ht])
  rw [hs]
  iintro ⟨⟨⟨%f0, %e0, H0⟩, ⟨%f1, %e1, H1⟩, ⟨%f2, %e2, H2⟩, ⟨%f3, %e3, H3⟩, ⟨%f4, %e4, H4⟩⟩, ⟨%X, %f5, -, H5⟩, ⟨⟨%f8, H8⟩, ⟨%f9, H9⟩⟩, Hk⟩
  have hg := chk m hp c t f2 e2
  iapply ((runFirst c (grid0.coords t) (st0_0 t) (hs0 t) (st0_1 t) (hs1 t) (st0_2 t) (hs2 t) (st0_3 t) (hs3 t) (st0_4 t) (hs4 t) (st0_5 t) (hs5 t) m8 hm8 m9 hm9 f0 f1 f2 f3 f4 hg hc1 hc2 hc3).2 f5 f8 f9 E Q)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0 H1 H2 H3 H4]
  · isplitl [H0]; (· iexists f0; isplitr; (· ipureintro; exact e0); iexact H0)
    isplitl [H1]; (· iexists f1; isplitr; (· ipureintro; exact e1); iexact H1)
    isplitl [H2]; (· iexists f2; isplitr; (· ipureintro; exact e2); iexact H2)
    isplitl [H3]; (· iexists f3; isplitr; (· ipureintro; exact e3); iexact H3)
    iexists f4; isplitr; (· ipureintro; exact e4); iexact H4
  isplitl [H5]
  · iexists _; isplitr; swap; (· iexact H5); ipureintro
    rw [first_out, ht, st_zero]
  unfold scr
  isplitl [H8]
  · iexists _; isplitr; swap; (· iexact H8); ipureintro
    rw [first_xe, e0, (win_eq m hp c t f1 f2 e1 e2 _).1 hc2, start_eq m c t f2 e2, count_eq m c t f2 e2, ht, st_zero, ← h0]
  · iexists _; isplitr; swap; (· iexact H9); ipureintro
    rw [first_acc, e0, e3, e4, (win_eq m hp c t f1 f2 e1 e2 _).1 hc2, start_eq m c t f2 e2, count_eq m c t f2 e2, ht, st_zero, ← h0]

/-- A first half after the first point: the result's buffer is left as found. -/
theorem body_gather (c : Dev nD) (t : Fin cfg0.N) (ht : t.val % 2 = 0) (h0 : t.val ≠ 0) (X : S2048x1024.Idx → Elt F .f32) (E : Set ℕ) (Q : PUnit → sProp 𝕄) :
    iprop(ins m c t ∗ owns c (st0_5 t) fullShare X ∗ scr m hp c t.val
      ∗ (iprop(ins m c t ∗ owns c (st0_5 t) fullShare X ∗ scr m hp c (t.val + 1)) -∗ Q ⟨⟩))
      ⊢ wp frame (wpE (defs₀ (F := F)) Variants.none (c : Thread nD τ) none) E (bodyAt0 t) Q := by
  simp only [ins, owns_held c (hs0 t), owns_held c (hs1 t), owns_held c (hs2 t), owns_held c (hs3 t), owns_held c (hs4 t), owns_held c (hs5 t)]
  have hc1 : ¬ k0_cond1 (grid0.coords t) = 1#1 := by rw [cond1_iff]; omega
  have hc2 : k0_cond2 (grid0.coords t) = 1#1 := by rw [cond2_iff]; omega
  have hc3 : ¬ k0_cond3 (grid0.coords t) = 1#1 := by rw [cond3_iff]; omega
  obtain ⟨n, hn⟩ : ∃ n, t.val = n + 1 := ⟨t.val - 1, by omega⟩
  have ht' : t = pt (n + 1) := (pt_val t).symm.trans (by rw [hn])
  have hs : scr m hp c t.val = iprop((∃ f, ⌜m8.view.read (Elt F) f = (st m hp c n).xe⌝ ∗ held (F := F) c m8 f)
      ∗ ∃ f, ⌜m9.view.read (Elt F) f = (st m hp c n).acc⌝ ∗ held (F := F) c m9 f) := by rw [hn]; rfl
  rw [hs]
  iintro ⟨⟨⟨%f0, %e0, H0⟩, ⟨%f1, %e1, H1⟩, ⟨%f2, %e2, H2⟩, ⟨%f3, %e3, H3⟩, ⟨%f4, %e4, H4⟩⟩, ⟨%f5, %e5, H5⟩, ⟨⟨%f8, %e8, H8⟩, ⟨%f9, %e9, H9⟩⟩, Hk⟩
  have hg := chk m hp c t f2 e2
  iapply ((runGather c (grid0.coords t) (st0_0 t) (hs0 t) (st0_1 t) (hs1 t) (st0_2 t) (hs2 t) (st0_3 t) (hs3 t) (st0_4 t) (hs4 t) (st0_5 t) (hs5 t) m8 hm8 m9 hm9 f0 f1 f2 f3 f4 hg hc1 hc2 hc3).2 f5 f8 f9 E Q)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0 H1 H2 H3 H4]
  · isplitl [H0]; (· iexists f0; isplitr; (· ipureintro; exact e0); iexact H0)
    isplitl [H1]; (· iexists f1; isplitr; (· ipureintro; exact e1); iexact H1)
    isplitl [H2]; (· iexists f2; isplitr; (· ipureintro; exact e2); iexact H2)
    isplitl [H3]; (· iexists f3; isplitr; (· ipureintro; exact e3); iexact H3)
    iexists f4; isplitr; (· ipureintro; exact e4); iexact H4
  isplitl [H5]
  · iexists f5; isplitr; swap; (· iexact H5); ipureintro; exact e5
  unfold scr
  isplitl [H8]
  · iexists _; isplitr; swap; (· iexact H8); ipureintro
    rw [gather_xe, e0, (win_eq m hp c t f1 f2 e1 e2 _).1 hc2, start_eq m c t f2 e2, count_eq m c t f2 e2, hn, st_gather m hp c n (by omega), ← ht']
  · iexists _; isplitr; swap; (· iexact H9); ipureintro
    rw [gather_acc, e0, e3, e4, (win_eq m hp c t f1 f2 e1 e2 _).1 hc2, start_eq m c t f2 e2, count_eq m c t f2 e2, hn, st_gather m hp c n (by omega), ← ht']

/-- A second half. -/
theorem body_scatter (c : Dev nD) (t : Fin cfg0.N) (ht : t.val % 2 = 1) (E : Set ℕ) (Q : PUnit → sProp 𝕄) :
    iprop(ins m c t ∗ owns c (st0_5 t) fullShare (st m hp c (t.val - 1)).out ∗ scr m hp c t.val
      ∗ (iprop(ins m c t ∗ owns c (st0_5 t) fullShare (st m hp c t.val).out ∗ scr m hp c (t.val + 1)) -∗ Q ⟨⟩))
      ⊢ wp frame (wpE (defs₀ (F := F)) Variants.none (c : Thread nD τ) none) E (bodyAt0 t) Q := by
  simp only [ins, owns_held c (hs0 t), owns_held c (hs1 t), owns_held c (hs2 t), owns_held c (hs3 t), owns_held c (hs4 t), owns_held c (hs5 t)]
  have hc1 : ¬ k0_cond1 (grid0.coords t) = 1#1 := by rw [cond1_iff]; omega
  have hc2 : ¬ k0_cond2 (grid0.coords t) = 1#1 := by rw [cond2_iff]; omega
  have hc3 : k0_cond3 (grid0.coords t) = 1#1 := by rw [cond3_iff]; omega
  obtain ⟨n, hn⟩ : ∃ n, t.val = n + 1 := ⟨t.val - 1, by omega⟩
  have ht' : t = pt (n + 1) := (pt_val t).symm.trans (by rw [hn])
  have hs : scr m hp c t.val = iprop((∃ f, ⌜m8.view.read (Elt F) f = (st m hp c n).xe⌝ ∗ held (F := F) c m8 f)
      ∗ ∃ f, ⌜m9.view.read (Elt F) f = (st m hp c n).acc⌝ ∗ held (F := F) c m9 f) := by rw [hn]; rfl
  rw [hs]
  iintro ⟨⟨⟨%f0, %e0, H0⟩, ⟨%f1, %e1, H1⟩, ⟨%f2, %e2, H2⟩, ⟨%f3, %e3, H3⟩, ⟨%f4, %e4, H4⟩⟩, ⟨%f5, %e5, H5⟩, ⟨⟨%f8, %e8, H8⟩, ⟨%f9, %e9, H9⟩⟩, Hk⟩
  have hg := chk m hp c t f2 e2
  iapply ((runScatter c (grid0.coords t) (st0_0 t) (hs0 t) (st0_1 t) (hs1 t) (st0_2 t) (hs2 t) (st0_3 t) (hs3 t) (st0_4 t) (hs4 t) (st0_5 t) (hs5 t) m8 hm8 m9 hm9 f0 f1 f2 f3 f4 f5 f8 f9 hg hc1 hc2 hc3).2 E Q)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0 H1 H2 H3 H4]
  · isplitl [H0]; (· iexists f0; isplitr; (· ipureintro; exact e0); iexact H0)
    isplitl [H1]; (· iexists f1; isplitr; (· ipureintro; exact e1); iexact H1)
    isplitl [H2]; (· iexists f2; isplitr; (· ipureintro; exact e2); iexact H2)
    isplitl [H3]; (· iexists f3; isplitr; (· ipureintro; exact e3); iexact H3)
    iexists f4; isplitr; (· ipureintro; exact e4); iexact H4
  have e5' : (st0_5 t).view.read (Elt F) f5 = (st m hp c n).out := e5.trans (by rw [hn]; rfl)
  isplitl [H5]
  · iexists _; isplitr; swap; (· iexact H5); ipureintro
    rw [scatter_out, e3, e4, e5', e8, e9, (win_eq m hp c t f1 f2 e1 e2 _).2 hc3, start_eq m c t f2 e2, count_eq m c t f2 e2, hn, st_scatter m hp c n (by omega), ← ht']
  unfold scr
  isplitl [H8]
  · iexists f8; isplitr; swap; (· iexact H8); ipureintro
    rw [e8, hn, st_scatter m hp c n (by omega)]
  · iexists _; isplitr; swap; (· iexact H9); ipureintro
    rw [scatter_acc, e3, e4, e8, e9, hn, st_scatter m hp c n (by omega), ← ht']

set_option maxHeartbeats 2000000 in
set_option backward.isDefEq.respectTransparency.types false in
/-- The body's obligation at a point. -/
theorem body_obligation (c : Dev nD) : BodyObligation (dats m hp 0 c) (defs₀ (F := F)) Variants.none () Set.univ := fun t => by
  rw [bigSep_W0, bigSep_W0]
  rw [show ((dats m hp 0 c).Φ t.castSucc : sProp 𝕄) = iprop(scr m hp c t.val ∗ ∃ r, prngReg c r) from rfl,
    show ((dats m hp 0 c).Φ t.succ : sProp 𝕄) = iprop(scr m hp c (t.val + 1) ∗ ∃ r, prngReg c r) from rfl,
    show ((dats m hp 0 c).owesAt () t.succ : sProp 𝕄) = (dats m hp 0 c).owesAt () t.castSucc from rfl]
  simp only [after_w0, after_w1, after_w2, after_w3, after_w4, after_w5, before_w0, before_w1, before_w2, before_w3, before_w4]
  rw [prog_eq t]
  rcases Nat.mod_two_eq_zero_or_one t.val with h2 | h2
  · by_cases h0 : t.val = 0
    · have hi : cfg0.idle 5 (grid0.coords t) = false := by rw [idle_iff]; simp; omega
      have hi' : idle0 5 (grid0.coords t) = false := hi
      simp only [hi']
      iintro ⟨⟨Hs, Hg⟩, Ho, ⟨%d0, H0⟩, ⟨%d1, H1⟩, ⟨%d2, H2⟩, ⟨%d3, H3⟩, ⟨%d4, H4⟩, ⟨%d5, H5⟩⟩
      iapply (body_first m hp c t h0)
      isplitl [H0 H1 H2 H3 H4]
      · isplitl [H0]; (· iexact H0)
        isplitl [H1]; (· iexact H1)
        isplitl [H2]; (· iexact H2)
        isplitl [H3]; (· iexact H3)
        iexact H4
      isplitl [H5]; (· iexists _; iexact H5)
      isplitl [Hs]; (· iexact Hs)
      iintro ⟨⟨H0, H1, H2, H3, H4⟩, H5, Hs⟩
      isplitl [Hs Hg]; (· isplitl [Hs]; (· iexact Hs); iexact Hg)
      isplitl [Ho]; (· iexact Ho)
      isplitl [H0]; (· iexact H0)
      isplitl [H1]; (· iexact H1)
      isplitl [H2]; (· iexact H2)
      isplitl [H3]; (· iexact H3)
      isplitl [H4]; (· iexact H4)
      iexact H5
    · have hi : cfg0.idle 5 (grid0.coords t) = true := by rw [idle_iff]; simp; omega
      have hi' : idle0 5 (grid0.coords t) = true := hi
      have hf : (cfg0.win 5).flush t = false := by
        by_contra hb; have := (flush0_5 t).mp (by revert hb; cases (cfg0.win 5).flush t <;> simp); have := lt16 t; omega
      simp only [hi', hf]
      iintro ⟨⟨Hs, Hg⟩, Ho, ⟨%d0, H0⟩, ⟨%d1, H1⟩, ⟨%d2, H2⟩, ⟨%d3, H3⟩, ⟨%d4, H4⟩, ⟨%d5, H5⟩⟩
      iapply (body_gather m hp c t h2 h0 _)
      isplitl [H0 H1 H2 H3 H4]
      · isplitl [H0]; (· iexact H0)
        isplitl [H1]; (· iexact H1)
        isplitl [H2]; (· iexact H2)
        isplitl [H3]; (· iexact H3)
        iexact H4
      isplitl [H5]; (· iexact H5)
      isplitl [Hs]; (· iexact Hs)
      iintro ⟨⟨H0, H1, H2, H3, H4⟩, H5, Hs⟩
      isplitl [Hs Hg]; (· isplitl [Hs]; (· iexact Hs); iexact Hg)
      isplitl [Ho]; (· iexact Ho)
      isplitl [H0]; (· iexact H0)
      isplitl [H1]; (· iexact H1)
      isplitl [H2]; (· iexact H2)
      isplitl [H3]; (· iexact H3)
      isplitl [H4]; (· iexact H4)
      iexists d5; iexact H5
  · have hi : cfg0.idle 5 (grid0.coords t) = false := by rw [idle_iff]; simp; omega
    have hi' : idle0 5 (grid0.coords t) = false := hi
    simp only [hi']
    iintro ⟨⟨Hs, Hg⟩, Ho, ⟨%d0, H0⟩, ⟨%d1, H1⟩, ⟨%d2, H2⟩, ⟨%d3, H3⟩, ⟨%d4, H4⟩, ⟨%d5, H5⟩⟩
    iapply (body_scatter m hp c t h2)
    isplitl [H0 H1 H2 H3 H4]
    · isplitl [H0]; (· iexact H0)
      isplitl [H1]; (· iexact H1)
      isplitl [H2]; (· iexact H2)
      isplitl [H3]; (· iexact H3)
      iexact H4
    isplitl [H5]; (· rw [before_w5 m hp c t d5 (by omega)]; iexact H5)
    isplitl [Hs]; (· iexact Hs)
    iintro ⟨⟨H0, H1, H2, H3, H4⟩, H5, Hs⟩
    isplitl [Hs Hg]; (· isplitl [Hs]; (· iexact Hs); iexact Hg)
    isplitl [Ho]; (· iexact Ho)
    isplitl [H0]; (· iexact H0)
    isplitl [H1]; (· iexact H1)
    isplitl [H2]; (· iexact H2)
    isplitl [H3]; (· iexact H3)
    isplitl [H4]; (· iexact H4)
    iexact H5

/-! ## The launch -/

/-- The last point. -/
abbrev tl : Fin cfg0.N := t0_15

/-- What is flushed at the last point is the result. -/
theorem flushed_eq (c : Dev nD) (t : Fin cfg0.N) (hf : (cfg0.win 5).flush t = true) :
    (dats m hp 0 c).flushed 5 t = ((cfg0.win 5).blk t).view.read (Elt F) (st m hp c 15).out := by
  have h15 : t.val = 15 := by have := (flush0_5 t).mp hf; have := lt16 t; omega
  obtain rfl : t = tl := Fin.ext h15
  show (cfg0.win 5).cut (grid0.coords tl) ((dats m hp 0 c).after 5 tl) = _
  rw [after_w5]
  have hz : (fun a => win0_5.index tl a * main_v0.ty.shape.size a) = fun _ => 0 := funext fun a => by fin_cases a <;> decide
  exact (Memref.read_access_unit_zero (Elt F) main_v0 hz (fun a => by rw [congrFun hz a]; simp) (st m hp c 15).out).symm

/-- So the result array ends at what the last point left. -/
theorem final_o (c : Dev nD) : (dats m hp 0 c).arrAt 5 cfg0.N = (st m hp c 15).out :=
  (dats m hp 0 c).arrAt_eq_of_cover 5 (st m hp c 15).out (flushed_eq m hp c) fun i =>
    ⟨tl, (flush0_5 tl).mpr rfl, by
      show i ∈ ((View.whole main_v0).slice (win0_5.rect tl)).set
      rw [View.set_slice_whole, Rect.mem_set_unit]
      have hz : ∀ a : Fin 2, win0_5.index tl a * win0_5.size a = 0 := by decide +kernel
      have hx : ∀ a : Fin 2, win0_5.xsize (grid0.coords tl) a = S2048x1024.size a := by decide +kernel
      intro a
      refine ⟨(hz a).trans_le (Nat.zero_le _), ?_⟩
      show (i a).val < win0_5.index tl a * win0_5.size a + win0_5.xsize (grid0.coords tl) a
      rw [hz a, hx a, Nat.zero_add]; exact (i a).isLt⟩

/-- What the launch leaves: the result at what the last point left, the arguments unchanged. -/
def Post (r : PUnit × MemSt nD τ sig (Elt F)) : Prop := r.2.sem = (fun _ => 0) ∧ ∀ c : Dev nD,
  r.2.mem ((c : Thread nD τ).loc main_v0) = (st m hp c 15).out
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

/-- The launch terminates with every semaphore counter at zero, the arguments unchanged and the result array at what the
last point left. -/
theorem run_main : θ_run defs (onTc (τ := τ) (main (F := F))) ⟨m, fun _ => 0, ρ⟩ (Post m hp) :=
  Pipeline.θ_run_frame_track cfgs (dats m hp) 0 launch0 defs₀ Variants.none m ρ main
    (fun c => (body_obligation m hp c).loose) (fun c => (dats m hp 0 c).share_full fun _ => rfl) (fun _ _ => rfl) (V m)
    (hmain m Variants.none) (fun _ _ => rfl)
    (fun c => by
      rw [show ((dats m hp 0 c).Φ 0 : sProp 𝕄) = iprop(((∃ f, held (F := F) c m8 f) ∗ ∃ f, held (F := F) c m9 f) ∗ ∃ r, prngReg c r) from rfl]
      unfold ΦA; rw [show Pipeline.scopedRest (cfgs 0).spec c = _ from scopedRest0_eq c])
    (fun c => by
      rw [show ((dats m hp 0 c).Φ (Fin.last (cfgs 0).N) : sProp 𝕄) = iprop(scr m hp c 16 ∗ ∃ r, prngReg c r) from rfl]
      unfold ΦA; rw [show Pipeline.scopedRest (cfgs 0).spec c = _ from scopedRest0_eq c]
      iintro ⟨Hs, Hg⟩
      isplitl [Hs]
      · ihave H := (scr_any m hp c 16) $$ Hs
        iexact H
      iexact Hg)
    (Post m hp) (fun r h => ⟨h.2, fun c =>
      ⟨((h.1 c).1 5).trans (final_o m hp c), ((h.1 c).1 0).trans ((dats m hp 0 c).arrAt_in 0 rfl _), ((h.1 c).1 1).trans ((dats m hp 0 c).arrAt_in 1 rfl _),
        ((h.1 c).1 2).trans ((dats m hp 0 c).arrAt_in 2 rfl _), ((h.1 c).1 3).trans ((dats m hp 0 c).arrAt_in 3 rfl _),
        ((h.1 c).1 4).trans ((dats m hp 0 c).arrAt_in 4 rfl _)⟩⟩)

end Cert.FfnProof

end
-- ==== Proof.FfnWords.lean ====
/-
# The words the experts' kernel computes with

A segment's start, rounded down to a multiple of 128, and the amount the window loaded there is rolled by, so that the
segment's first choice comes first: decided for each of the 4224 starts a segment may have.
-/
module

public import proofs.«01_k».proof.Proof.FfnLaunch

@[expose] public section

noncomputable section

namespace Cert.FfnProof

open Cert.FfnIdeal Cert.FfnIdeal.Gen

open Idealize.ShloMosaic Idealize.ShloMosaic.TcCoe

/-- The start rounded down, and the roll. -/
theorem words_fin : ∀ n : Fin 4224, alignedOf (BitVec.ofNat 32 n.val) = BitVec.ofNat 32 (n.val / 128 * 128)
    ∧ rollOf (BitVec.ofNat 32 n.val) = BitVec.ofNat 32 ((448 - n.val % 128) % 448) := by decide +kernel

theorem aligned_eq {v : BitVec 32} (h : v.toNat < 4224) : (alignedOf v).toNat = v.toNat / 128 * 128 := by
  have := (words_fin ⟨v.toNat, h⟩).1
  rw [BitVec.ofNat_toNat, BitVec.setWidth_eq] at this
  rw [this, BitVec.toNat_ofNat]; dsimp only; omega
theorem roll_eq {v : BitVec 32} (h : v.toNat < 4224) : (rollOf v).toNat = (448 - v.toNat % 128) % 448 := by
  have := (words_fin ⟨v.toNat, h⟩).2
  rw [BitVec.ofNat_toNat, BitVec.setWidth_eq] at this
  rw [this, BitVec.toNat_ofNat]; dsimp only; omega

theorem off3_eq (v : BitVec 32) : k0_off3 v = ![0, (alignedOf v).toNat] := rfl
theorem off4_eq (v : BitVec 32) : k0_off4 v = ![0, (alignedOf v).toNat] := rfl
theorem mult_eq (v : BitVec 32) : k0_mult1 v = alignedOf v := rfl

/-- A start inside the packed choices is in order. -/
theorem wordOK {v : BitVec 32} (h : v.toNat < 4224) : WordOK v := by
  have e := aligned_eq h
  have hoff : ∀ a : Fin 2, (![0, (alignedOf v).toNat] : Fin 2 → Nat) a + S1x448.size a ≤ S1x4544.size a := by
    intro a
    match a with
    | ⟨0, _⟩ => exact le_of_eq rfl
    | ⟨1, _⟩ => show (alignedOf v).toNat + 448 ≤ 4544; rw [e]; omega
  refine ⟨?_, ?_, ?_⟩
  · rw [mult_eq, e]; exact Dvd.intro_left _ rfl
  · rw [off3_eq]; exact hoff
  · rw [off4_eq]; exact hoff

end Cert.FfnProof

end
-- ==== Proof.FfnSlots.lean ====
/-
# What a point of the experts' kernel computes, entry by entry

Over the extended reals: an expert's slot reads one packed choice out of the window, whose whole part names the token and
whose fraction weighs it; the comparison of the tokens' numbers with a slot's is a row of zeros and at most one one, so
that the product with the tokens gathers the token's row; each half adds its hidden units' part of the two products; and
the transposed product adds the weighed rows to their tokens.
-/
module

public import proofs.«01_k».proof.Proof.FfnWords
public import Idealize.ShloMosaic.Lib.ValueIdxCore
public import Idealize.ShloMosaic.Lib.IdealHost
public import Idealize.ShloMosaic.Lib.KernelVsHost
public import Idealize.ShloMosaic.Lib.Pointwise.Contract

@[expose] public section

noncomputable section

namespace Cert.FfnProof

open Cert.FfnIdeal Cert.FfnIdeal.Gen

open Idealize.ShloMosaic hiding ix1 ix2 ix3
open Idealize.ShloMosaic.ValueIdx

/-! ## A packed choice -/

/-- The token a packed choice names, and its weight. -/
def tokenOf (p : EReal) : BitVec 32 := Ideal.fptosi 32 (Ideal.liftRound Int.floor p)
def weightOf (p : EReal) : EReal := p - Ideal.liftRound Int.floor p

/-- A choice naming a token below 2048 is a real number, its weight between 0 and 1. -/
theorem weight_nonneg {p : EReal} {t : ℕ} (ht : t < 2048) (h : tokenOf p = BitVec.ofNat 32 t) : 0 ≤ weightOf p := by
  unfold tokenOf weightOf at *
  induction p with
  | bot =>
    exfalso; rw [Ideal.liftRound_bot] at h; unfold Ideal.fptosi at h; rw [Ideal.toIntClamped_bot] at h
    have := congrArg BitVec.toNat h; simp at this; omega
  | top =>
    exfalso; rw [Ideal.liftRound_top] at h; unfold Ideal.fptosi at h; rw [Ideal.toIntClamped_top] at h
    have := congrArg BitVec.toNat h; simp at this; omega
  | coe r =>
    rw [Ideal.liftRound_coe, ← EReal.coe_sub]
    exact_mod_cast sub_nonneg.2 (Int.floor_le r)

/-! ## The slots -/

/-- The window loaded at the rounded start. -/
theorem window_read {v : BitVec 32} (hv : v.toNat < 4224) (P : FVec Ideal S1x4544 .f32) (off : Fin 2 → ℕ) (ho : off = ![0, (alignedOf v).toNat])
    (hb : ∀ a, off a + S1x448.size a ≤ S1x4544.size a) (k : Fin 448) :
    View.ld (Val := Elt Ideal) (e' := .f32) P (Rect.unit (s := S1x4544) off S1x448.size hb) (ix2 0 k)
      = P (ix2 0 (⟨v.toNat / 128 * 128 + k.val, by have := k.isLt; omega⟩ : Fin 4544)) := by
  subst ho
  refine congrArg P (funext fun a => Fin.ext ?_)
  match a with
  | ⟨0, _⟩ => rfl
  | ⟨1, _⟩ =>
    show (alignedOf v).toNat + 1 * k.val = v.toNat / 128 * 128 + k.val
    rw [aligned_eq hv]; omega

/-- The choice a slot reads: the packed choice at the segment's start and the slot's number. -/
theorem slot_read {v : BitVec 32} (hv : v.toNat < 4224) (P : FVec Ideal S1x4544 .f32) (W : FVec Ideal S1x448 .f32)
    (hW : ∀ k : Fin 448, W (ix2 0 k) = P (ix2 0 (⟨v.toNat / 128 * 128 + k.val, by have := k.isLt; omega⟩ : Fin 4544)))
    (hr : S1x448.Rotates 1 none) (hs : S1x448.Slices ![0, 0] S1x320) (j : Fin 320) :
    extractStridedSlice S1x320 ![0, 0] (dynamicRotate 1 (rollOf v) none W hr) hs (ix2 0 j)
      = P (ix2 0 (⟨v.toNat + j.val, by have := j.isLt; omega⟩ : Fin 4544)) := by
  have hj := j.isLt
  refine (extractStridedSlice_apply _ _ hs (ix2 0 j) (ix2 0 (⟨j.val, by omega⟩ : Fin 448)) fun a => ?_).trans ?_
  · match a with
    | ⟨0, _⟩ => rfl
    | ⟨1, _⟩ => exact (Nat.zero_add _).symm
  refine (dynamicRotate_apply 1 (rollOf v) _ hr (ix2 0 (⟨j.val, by omega⟩ : Fin 448)) (ix2 0 (⟨v.toNat % 128 + j.val, by omega⟩ : Fin 448)) fun b => ?_).trans ?_
  · match b with
    | ⟨0, _⟩ => rfl
    | ⟨1, _⟩ =>
      rw [roll_eq hv]
      show v.toNat % 128 + j.val = (j.val + 448 - (448 - v.toNat % 128) % 448 % 448) % 448
      omega
  · rw [hW]
    refine congrArg P (funext fun a => Fin.ext ?_)
    match a with
    | ⟨0, _⟩ => rfl
    | ⟨1, _⟩ =>
      show v.toNat / 128 * 128 + (v.toNat % 128 + j.val) = v.toNat + j.val
      omega

/-- A slot is live if its number is below the segment's length. -/
def live (n : BitVec 32) (j : Fin 320) : Prop := (j.val : ℤ) < n.toInt
instance (n : BitVec 32) (j : Fin 320) : Decidable (live n j) := inferInstanceAs (Decidable (_ < _))

theorem lanes_apply (j : Fin 320) : lanes (ix2 0 j) = BitVec.ofNat 32 j.val := by
  unfold lanes iota
  exact congrArg (BitVec.ofNat 32) (show 0 * 320 + j.val = j.val by omega)

theorem live_apply (n : BitVec 32) (j : Fin 320) : cmpi .slt lanes (broadcast S1x320 n) (ix2 0 j) = BitVec.ofBool (decide (live n j)) := by
  show IntOp.cmpi .slt (lanes (ix2 0 j)) n = _
  rw [lanes_apply]
  unfold IntOp.cmpi live
  refine congrArg BitVec.ofBool ?_
  show (BitVec.ofNat 32 j.val).slt n = _
  rw [BitVec.slt_eq_decide, BitVec.toInt_ofNat', show Int.bmod ((j.val : ℕ) : ℤ) (2 ^ 32) = (j.val : ℤ) from by have := j.isLt; simp [Int.bmod]; omega]
  exact decide_eq_decide.2 Iff.rfl

theorem select_decide {α : Type} (p : Prop) [Decidable p] (a b : α) : Scalar.select (BitVec.ofBool (decide p)) a b = if p then a else b := by
  unfold Scalar.select
  by_cases h : p <;> simp [h]

/-- Reading a row `[1, 320]` as a column `[320, 1]` and spreading it over columns. -/
theorem spread_apply {α : Type} (N : ℕ) (hN : N ≠ 1 ) (x : S1x320.Idx → α) (h1 : S1x320.ShapeCasts S320) (h2 : S320.ShapeCasts S320x1)
    (h3 : S320x1.Broadcasts ⟨2, ![320, N]⟩) (j : Fin 320) (d : Fin N) :
    broadcastTo ⟨2, ![320, N]⟩ (shapeCast S320x1 (shapeCast S320 x h1) h2) h3 (ix2 j d) = x (ix2 0 j) := by
  refine (broadcastTo_apply _ h3 (ix2 j d) (ix2 j (0 : Fin 1)) fun a => ?_).trans ?_
  · match a with
    | ⟨0, _⟩ => exact (if_neg (show ¬ (320 = 1) by decide)).symm
    | ⟨1, _⟩ => exact (if_pos rfl).symm
  refine (shapeCast_apply _ h2 (ix2 j (0 : Fin 1)) (ix1 j) ?_).trans (shapeCast_apply _ h1 (ix1 j) (ix2 0 j) ?_)
  · rw [Shape.rowMajor_val_two]; simp [Shape.rowMajor_val_one, ix1, ix2]
  · rw [Shape.rowMajor_val_two]; simp [Shape.rowMajor_val_one, ix1, ix2]

/-- The table of ones where a column's number is the slot's word. -/
theorem onehot_apply (y : IVec S1x320 32) (h1 h2 h3) (j : Fin 320) (t : Fin 2048) :
    (truncf .bf16 (sitofp .f32 (extui 32 (cmpi .eq (iota .tc S320x2048 32 [1] iota_S320x2048_d1_w32)
      (broadcastTo S320x2048 (shapeCast S320x1 (shapeCast S320 y h1) h2) h3)) natLt_1_32)) bitsLt_bf16_f32 : FVec Ideal S320x2048 .bf16) (ix2 j t)
      = if y (ix2 0 j) = BitVec.ofNat 32 t.val then (1 : EReal) else 0 := by
  show (FloatOps.sitofp (F := Ideal) .f32 ((IntOp.cmpi .eq (iota .tc S320x2048 32 [1] iota_S320x2048_d1_w32 (ix2 j t))
      (broadcastTo S320x2048 (shapeCast S320x1 (shapeCast S320 y h1) h2) h3 (ix2 j t))).setWidth 32) : EReal) = _
  rw [spread_apply 2048 (by decide) y h1 h2 h3 j t]
  rw [show iota .tc S320x2048 32 [1] iota_S320x2048_d1_w32 (ix2 j t) = BitVec.ofNat 32 t.val from congrArg (BitVec.ofNat 32) (show 0 * 2048 + t.val = t.val by omega)]
  unfold IntOp.cmpi
  by_cases h : y (ix2 0 j) = BitVec.ofNat 32 t.val
  · rw [if_pos h, h]
    show ((((BitVec.ofBool (BitVec.ofNat 32 t.val == BitVec.ofNat 32 t.val)).setWidth 32).toInt : ℝ) : EReal) = 1
    simp
  · rw [if_neg h]
    show ((((BitVec.ofBool (BitVec.ofNat 32 t.val == y (ix2 0 j))).setWidth 32).toInt : ℝ) : EReal) = 0
    rw [show (BitVec.ofNat 32 t.val == y (ix2 0 j)) = false from by simpa using fun e => h e.symm]
    simp

/-! ## The products -/

theorem gather_product (a : FVec Ideal S320x2048 .bf16) (b : FVec Ideal S2048x1024 .bf16) (j : Fin 320) (k : Fin 1024) :
    matmul dot_S320x2048_S2048x1024_S320x1024_1_0_0_1_n_n none a b (constant S320x1024 .f32 0x00000000#32) (ix2 j k)
      = ∑ s : Fin 2048, (a (ix2 j s) * b (ix2 s k) : EReal) := by
  refine (Ideal.matmul_constant_zero_apply dot_S320x2048_S2048x1024_S320x1024_1_0_0_1_n_n _ a b (ix2 j k)).trans ?_
  refine (dot_S320x2048_S2048x1024_S320x1024_1_0_0_1_n_n.sum_contr₁ (a := 1) rfl (K := 2048) rfl _).trans ?_
  refine Finset.sum_congr rfl fun s _ => congrArg₂ (fun x y : EReal => x * y) (congrArg a ?_) (congrArg b ?_) <;>
  · funext c
    apply Fin.ext
    match c with
    | ⟨0, _⟩ => rfl
    | ⟨1, _⟩ => rfl

theorem up_product (a : FVec Ideal S320x1024 .bf16) (b : FVec Ideal S1024x2048 .bf16) (j : Fin 320) (f : Fin 2048) :
    matmul dot_S320x1024_S1024x2048_S320x2048_1_0_0_1_n_n none a b (constant S320x2048 .f32 0x00000000#32) (ix2 j f)
      = ∑ k : Fin 1024, (a (ix2 j k) * b (ix2 k f) : EReal) := by
  refine (Ideal.matmul_constant_zero_apply dot_S320x1024_S1024x2048_S320x2048_1_0_0_1_n_n _ a b (ix2 j f)).trans ?_
  refine (dot_S320x1024_S1024x2048_S320x2048_1_0_0_1_n_n.sum_contr₁ (a := 1) rfl (K := 1024) rfl _).trans ?_
  refine Finset.sum_congr rfl fun s _ => congrArg₂ (fun x y : EReal => x * y) (congrArg a ?_) (congrArg b ?_) <;>
  · funext c
    apply Fin.ext
    match c with
    | ⟨0, _⟩ => rfl
    | ⟨1, _⟩ => rfl

theorem scatter_product (a : FVec Ideal S320x2048 .bf16) (b : FVec Ideal S320x1024 .bf16) (t : Fin 2048) (d : Fin 1024) :
    matmul dot_S320x2048_S320x1024_S2048x1024_0_0_1_1_n_n none a b (constant S2048x1024 .f32 0x00000000#32) (ix2 t d)
      = ∑ j : Fin 320, (a (ix2 j t) * b (ix2 j d) : EReal) := by
  refine (Ideal.matmul_constant_zero_apply dot_S320x2048_S320x1024_S2048x1024_0_0_1_1_n_n _ a b (ix2 t d)).trans ?_
  refine (dot_S320x2048_S320x1024_S2048x1024_0_0_1_1_n_n.sum_contr₁ (a := 0) rfl (K := 320) rfl _).trans ?_
  refine Finset.sum_congr rfl fun s _ => congrArg₂ (fun x y : EReal => x * y) (congrArg a ?_) (congrArg b ?_) <;>
  · funext c
    apply Fin.ext
    match c with
    | ⟨0, _⟩ => rfl
    | ⟨1, _⟩ => rfl

/-! ## The point's values -/

/-- The word a slot is compared by: its token if live, else 2048, no token's number. -/
def wordAt (n : BitVec 32) (q : Fin 320 → EReal) (j : Fin 320) : BitVec 32 := if live n j then tokenOf (q j) else 2048#32

theorem tokens_apply (n : BitVec 32) (R : FVec Ideal S1x320 .f32) (q : Fin 320 → EReal) (hq : ∀ j, R (ix2 0 j) = q j) (j : Fin 320) :
    select (cmpi .slt lanes (broadcast S1x320 n)) (fptosi 32 (floor R)) (broadcast S1x320 2048#32) (ix2 0 j) = wordAt n q j := by
  rw [select_apply, live_apply, select_decide]
  unfold wordAt
  rw [← hq j]; rfl

theorem table_apply (n : BitVec 32) (R : FVec Ideal S1x320 .f32) (q : Fin 320 → EReal) (hq : ∀ j, R (ix2 0 j) = q j) (j : Fin 320) (t : Fin 2048) :
    (truncf .bf16 (sitofp .f32 (extui 32 (cmpi .eq (iota .tc S320x2048 32 [1] iota_S320x2048_d1_w32)
      (broadcastTo S320x2048 (shapeCast S320x1 (shapeCast S320 (select (cmpi .slt lanes (broadcast S1x320 n)) (fptosi 32 (floor R)) (broadcast S1x320 2048#32))
        shapeCasts_S1x320_S320) shapeCasts_S320_S320x1) broadcasts_S320x1_S320x2048)) natLt_1_32)) bitsLt_bf16_f32 : FVec Ideal S320x2048 .bf16) (ix2 j t)
      = if wordAt n q j = BitVec.ofNat 32 t.val then (1 : EReal) else 0 := by
  refine (onehot_apply _ _ _ _ j t).trans ?_
  rw [tokens_apply n R q hq j]

theorem word_iff (n : BitVec 32) (q : Fin 320 → EReal) (j : Fin 320) (t : Fin 2048) :
    wordAt n q j = BitVec.ofNat 32 t.val ↔ live n j ∧ tokenOf (q j) = BitVec.ofNat 32 t.val := by
  unfold wordAt
  by_cases h : live n j
  · rw [if_pos h]; simp [h]
  · rw [if_neg h]
    refine ⟨fun e => ?_, fun e => absurd e.1 h⟩
    have := congrArg BitVec.toNat e
    have ht := t.isLt
    simp at this; omega

/-- A live slot naming a token gathers the token's row. -/
theorem pay2_apply (n r : BitVec 32) (W : FVec Ideal S1x448 .f32) (X : FVec Ideal S2048x1024 .bf16) (q : Fin 320 → EReal)
    (hq : ∀ j, extractStridedSlice S1x320 ![0, 0] (dynamicRotate 1 r none W rotates_S1x448_d1) slices_S1x448_o0_0_S1x320 (ix2 0 j) = q j)
    (j : Fin 320) (t : Fin 2048) (h : wordAt n q j = BitVec.ofNat 32 t.val) (k : Fin 1024) :
    k0_pay2 (F := Ideal) n r lanes W X (ix2 j k) = X (ix2 t k) := by
  unfold k0_pay2
  simp only [shapeCast_self]
  refine (gather_product _ X j k).trans ?_
  have hone := table_apply n _ q hq j
  refine (Finset.sum_congr rfl fun s _ => congrArg (fun z : EReal => z * X (ix2 s k)) (hone s)).trans ?_
  refine (Finset.sum_eq_single t (fun s _ hs => ?_) (fun hn => absurd (Finset.mem_univ t) hn)).trans ?_
  · rw [if_neg, zero_mul]
    rw [h]; intro e
    apply hs; apply Fin.ext
    have := congrArg BitVec.toNat e
    have h1 := s.isLt; have h2 := t.isLt
    simp at this; omega
  · rw [if_pos h, one_mul]

theorem pay3_apply (i : S320x1024.Idx) : k0_pay3 (F := Ideal) i = (0 : EReal) := by
  unfold k0_pay3
  simp only [shapeCast_self]
  exact Ideal.ofBits_zero_f32
theorem pay1_apply (i : S2048x1024.Idx) : k0_pay1 (F := Ideal) i = (0 : EReal) := by
  unfold k0_pay1
  exact Ideal.ofBits_zero_f32

/-- A half adds its hidden units' part. -/
theorem pay4_apply (w1 : FVec Ideal S1x1024x2048 .f32) (w2 : FVec Ideal S1x2048x1024 .f32) (xe : FVec Ideal S320x1024 .bf16) (acc : FVec Ideal S320x1024 .f32)
    (j : Fin 320) (d : Fin 1024) :
    k0_pay4 (F := Ideal) w1 w2 xe acc (ix2 j d)
      = acc (ix2 j d) + ∑ f : Fin 2048, (max (∑ k : Fin 1024, (xe (ix2 j k) * w1 (ix3 0 k f) : EReal)) 0 * w2 (ix3 0 f d) : EReal) := by
  unfold k0_pay4
  simp only [shapeCast_self]
  refine congrArg (fun z : EReal => acc (ix2 j d) + z) ((gather_product _ _ j d).trans (Finset.sum_congr rfl fun f _ => congrArg₂ (fun x y : EReal => x * y) ?_ ?_))
  · refine congrArg₂ (fun x y : EReal => max x y) ((up_product _ _ j f).trans (Finset.sum_congr rfl fun k _ => congrArg (fun z : EReal => xe (ix2 j k) * z) ?_)) Ideal.ofBits_zero_f32
    refine (shapeCast_apply w1 shapeCasts_S1x1024x2048_S1024x2048 (ix2 k f) (ix3 0 k f) ?_)
    rw [Shape.rowMajor_val_two, Shape.rowMajor_val_three]; simp [ix2, ix3]
  · refine (shapeCast_apply w2 shapeCasts_S1x2048x1024_S2048x1024 (ix2 f d) (ix3 0 f d) ?_)
    rw [Shape.rowMajor_val_two, Shape.rowMajor_val_three]; simp [ix2, ix3]

/-- The second half adds the weighed rows to their tokens. -/
theorem pay5_apply (n r : BitVec 32) (W : FVec Ideal S1x448 .f32) (acc : FVec Ideal S320x1024 .f32) (out : FVec Ideal S2048x1024 .f32) (q : Fin 320 → EReal)
    (hq : ∀ j, extractStridedSlice S1x320 ![0, 0] (dynamicRotate 1 r none W rotates_S1x448_d1) slices_S1x448_o0_0_S1x320 (ix2 0 j) = q j)
    (t : Fin 2048) (d : Fin 1024) :
    k0_pay5 (F := Ideal) n r lanes W acc out (ix2 t d)
      = out (ix2 t d) + ∑ j : Fin 320, (if wordAt n q j = BitVec.ofNat 32 t.val then (acc (ix2 j d) * weightOf (q j) : EReal) else 0) := by
  unfold k0_pay5
  simp only [shapeCast_self]
  refine congrArg (fun z : EReal => out (ix2 t d) + z) ((scatter_product _ _ t d).trans (Finset.sum_congr rfl fun j _ => ?_))
  have hone := table_apply n _ q hq j t
  refine (congrArg (fun z : EReal => z * _) hone).trans ?_
  by_cases h : wordAt n q j = BitVec.ofNat 32 t.val
  · rw [if_pos h, if_pos h, one_mul]
    refine congrArg (fun z : EReal => acc (ix2 j d) * z) ?_
    refine (spread_apply 1024 (by decide) _ shapeCasts_S1x320_S320 shapeCasts_S320_S320x1 broadcasts_S320x1_S320x1024 j d).trans ?_
    rw [select_apply, live_apply, select_decide, if_pos ((word_iff n q j t).mp h).1]
    unfold weightOf; rw [← hq j]; rfl
  · rw [if_neg h, if_neg h, zero_mul]

end Cert.FfnProof

end
-- ==== Proof.FfnValue.lean ====
/-
# The result of the experts' kernel

The blocks the points see are the arguments' own entries; at an expert's two points a slot naming a token ends with the
expert's output for that token; and after the last point an entry of the result is the sum over the experts and their
slots of that output weighed, over the extended reals.
-/
module

public import proofs.«01_k».proof.Proof.FfnSlots

@[expose] public section

noncomputable section

namespace Cert.FfnProof

open Cert.FfnIdeal Cert.FfnIdeal.Gen

open Idealize.ShloMosaic hiding ix1 ix2 ix3
open Idealize.ShloMosaic.TcCoe
open Idealize.ShloMosaic.ValueIdx

section AnyFloats

variable {F : FTy → Type} [FloatOps F]
variable (m : (ℓ : Loc nD τ sig) → Buf (Elt F) ℓ)

/-! ## The blocks -/

abbrev argX (c : Dev nD) : Vec F S2048x1024 .bf16 := m ((c : Thread nD τ).loc main_arg0)
abbrev argP (c : Dev nD) : Vec F S1x4544 .f32 := m ((c : Thread nD τ).loc main_arg1)
abbrev argS (c : Dev nD) : Vec F S2x8 .i32 := m ((c : Thread nD τ).loc main_arg2)
abbrev argW1 (c : Dev nD) : Vec F S8x1024x4096 .f32 := m ((c : Thread nD τ).loc main_arg3)
abbrev argW2 (c : Dev nD) : Vec F S8x4096x1024 .f32 := m ((c : Thread nD τ).loc main_arg4)

theorem index_w0 : ∀ t : Fin grid0.N, win0_0.index t 0 = 0 ∧ win0_0.index t 1 = 0 := by decide
theorem index_w1 : ∀ t : Fin grid0.N, win0_1.index t 0 = 0 ∧ win0_1.index t 1 = 0 := by decide
theorem index_w2 : ∀ t : Fin grid0.N, win0_2.index t 0 = 0 ∧ win0_2.index t 1 = 0 := by decide
theorem index_w3 : ∀ t : Fin grid0.N, win0_3.index t 0 = t.val / 2 ∧ win0_3.index t 1 = 0 ∧ win0_3.index t 2 = t.val % 2 := by decide
theorem index_w4 : ∀ t : Fin grid0.N, win0_4.index t 0 = t.val / 2 ∧ win0_4.index t 1 = t.val % 2 ∧ win0_4.index t 2 = 0 := by decide
theorem off1_at : ∀ t : Fin grid0.N, k0_off1 (grid0.coords t) 0 = 0 ∧ k0_off1 (grid0.coords t) 1 = t.val / 2 := by decide
theorem off2_at : ∀ t : Fin grid0.N, k0_off2 (grid0.coords t) 0 = 1 ∧ k0_off2 (grid0.coords t) 1 = t.val / 2 := by decide

theorem xB_eq (c : Dev nD) (t : Fin cfg0.N) : xB m c t = argX m c := by
  funext j
  unfold xB iblk
  rw [View.read_apply]
  refine congrArg (argX m c) (funext fun a => Fin.ext ?_)
  match a with
  | ⟨0, _⟩ => show win0_0.index t 0 * 2048 + 1 * (j 0).val = (j 0).val; rw [(index_w0 t).1]; omega
  | ⟨1, _⟩ => show win0_0.index t 1 * 1024 + 1 * (j 1).val = (j 1).val; rw [(index_w0 t).2]; omega
theorem pB_eq (c : Dev nD) (t : Fin cfg0.N) : pB m c t = argP m c := by
  funext j
  unfold pB iblk
  rw [View.read_apply]
  refine congrArg (argP m c) (funext fun a => Fin.ext ?_)
  match a with
  | ⟨0, _⟩ => show win0_1.index t 0 * 1 + 1 * (j 0).val = (j 0).val; rw [(index_w1 t).1]; omega
  | ⟨1, _⟩ => show win0_1.index t 1 * 4544 + 1 * (j 1).val = (j 1).val; rw [(index_w1 t).2]; omega
theorem sB_eq (c : Dev nD) (t : Fin cfg0.N) : sB m c t = argS m c := by
  funext j
  unfold sB iblk
  rw [View.read_apply]
  refine congrArg (argS m c) (funext fun a => Fin.ext ?_)
  match a with
  | ⟨0, _⟩ => show win0_2.index t 0 * 2 + 1 * (j 0).val = (j 0).val; rw [(index_w2 t).1]; omega
  | ⟨1, _⟩ => show win0_2.index t 1 * 8 + 1 * (j 1).val = (j 1).val; rw [(index_w2 t).2]; omega

/-- The expert and the half of a point. -/
def expertOf (t : Fin cfg0.N) : Fin 8 := ⟨t.val / 2, by have := lt16 t; omega⟩
/-- Hidden unit `f` of a half. -/
def unitOf (t : Fin cfg0.N) (f : Fin 2048) : Fin 4096 := ⟨t.val % 2 * 2048 + f.val, by have := f.isLt; omega⟩

theorem w1B_apply (c : Dev nD) (t : Fin cfg0.N) (k : Fin 1024) (f : Fin 2048) : w1B m c t (ix3 0 k f) = argW1 m c (ix3 (expertOf t) k (unitOf t f)) := by
  unfold w1B iblk
  rw [View.read_apply]
  refine congrArg (argW1 m c) (funext fun a => Fin.ext ?_)
  match a with
  | ⟨0, _⟩ => show win0_3.index t 0 * 1 + 1 * 0 = t.val / 2; rw [(index_w3 t).1]; omega
  | ⟨1, _⟩ => show win0_3.index t 1 * 1024 + 1 * k.val = k.val; rw [(index_w3 t).2.1]; omega
  | ⟨2, _⟩ => show win0_3.index t 2 * 2048 + 1 * f.val = t.val % 2 * 2048 + f.val; rw [(index_w3 t).2.2]; omega
theorem w2B_apply (c : Dev nD) (t : Fin cfg0.N) (f : Fin 2048) (d : Fin 1024) : w2B m c t (ix3 0 f d) = argW2 m c (ix3 (expertOf t) (unitOf t f) d) := by
  unfold w2B iblk
  rw [View.read_apply]
  refine congrArg (argW2 m c) (funext fun a => Fin.ext ?_)
  match a with
  | ⟨0, _⟩ => show win0_4.index t 0 * 1 + 1 * 0 = t.val / 2; rw [(index_w4 t).1]; omega
  | ⟨1, _⟩ => show win0_4.index t 1 * 2048 + 1 * f.val = t.val % 2 * 2048 + f.val; rw [(index_w4 t).2.1]; omega
  | ⟨2, _⟩ => show win0_4.index t 2 * 1024 + 1 * d.val = d.val; rw [(index_w4 t).2.2]; omega

theorem starts_at (c : Dev nD) (t : Fin cfg0.N) (j : S1x1.Idx) : starts (sB m c t) (grid0.coords t) j = argS m c (ix2 0 (expertOf t)) := by
  rw [sB_eq]
  have h0 : (j 0).val < 1 := (j 0).isLt
  have h1 : (j 1).val < 1 := (j 1).isLt
  refine congrArg (argS m c) (funext fun a => Fin.ext ?_)
  match a with
  | ⟨0, _⟩ => show k0_off1 (grid0.coords t) 0 + 1 * (j 0).val = 0; rw [(off1_at t).1]; omega
  | ⟨1, _⟩ => show k0_off1 (grid0.coords t) 1 + 1 * (j 1).val = t.val / 2; rw [(off1_at t).2]; omega
theorem counts_at (c : Dev nD) (t : Fin cfg0.N) (j : S1x1.Idx) : counts (sB m c t) (grid0.coords t) j = argS m c (ix2 1 (expertOf t)) := by
  rw [sB_eq]
  have h0 : (j 0).val < 1 := (j 0).isLt
  have h1 : (j 1).val < 1 := (j 1).isLt
  refine congrArg (argS m c) (funext fun a => Fin.ext ?_)
  match a with
  | ⟨0, _⟩ => show k0_off2 (grid0.coords t) 0 + 1 * (j 0).val = 1; rw [(off2_at t).1]; omega
  | ⟨1, _⟩ => show k0_off2 (grid0.coords t) 1 + 1 * (j 1).val = t.val / 2; rw [(off2_at t).2]; omega

/-- Starts inside the packed choices are in order. -/
theorem startsOK (h : ∀ (c : Dev nD) (e : Fin 8), (argS m c (ix2 0 e) : BitVec 32).toNat < 4224) : StartsOK m := fun c t j => by
  rw [starts_at]; exact wordOK (h c _)

end AnyFloats

/-! ## The experts' outputs -/

variable (m : (ℓ : Loc nD τ sig) → Buf (Elt Ideal) ℓ)

/-- Expert `e`'s hidden unit `f` and output `d` for token `t`. -/
def hidden (X : FVec Ideal S2048x1024 .bf16) (W1 : FVec Ideal S8x1024x4096 .f32) (e : Fin 8) (t : Fin 2048) (f : Fin 4096) : EReal :=
  max (∑ k : Fin 1024, (X (ix2 t k) * W1 (ix3 e k f) : EReal)) 0
def outputOf (X : FVec Ideal S2048x1024 .bf16) (W1 : FVec Ideal S8x1024x4096 .f32) (W2 : FVec Ideal S8x4096x1024 .f32) (e : Fin 8) (t : Fin 2048)
    (d : Fin 1024) : EReal := ∑ f : Fin 4096, hidden X W1 e t f * W2 (ix3 e f d)

/-- A sum over the hidden units is the two halves' sums. -/
theorem sum_halves (g : Fin 4096 → EReal) :
    (∑ f : Fin 2048, g ⟨0 * 2048 + f.val, by have := f.isLt; omega⟩) + ∑ f : Fin 2048, g ⟨1 * 2048 + f.val, by have := f.isLt; omega⟩ = ∑ f : Fin 4096, g f := by
  rw [Fin.sum_univ_add (a := 2048) (b := 2048) g]
  refine congrArg₂ (fun x y : EReal => x + y) (Finset.sum_congr rfl fun f _ => congrArg g (Fin.ext ?_)) (Finset.sum_congr rfl fun f _ => congrArg g (Fin.ext ?_))
  · show 0 * 2048 + f.val = f.val; omega
  · show 1 * 2048 + f.val = 2048 + f.val; omega

/-- The choice in slot `j` of expert `e`'s segment. -/
def choiceAt (P : FVec Ideal S1x4544 .f32) (S : IVec S2x8 32) (hs : ∀ e : Fin 8, (S (ix2 0 e)).toNat < 4224) (e : Fin 8) (j : Fin 320) : EReal :=
  P (ix2 0 (⟨(S (ix2 0 e)).toNat + j.val, by have := j.isLt; have := hs e; omega⟩ : Fin 4544))

variable (hs : ∀ (c : Dev nD) (e : Fin 8), (argS m c (ix2 0 e) : BitVec 32).toNat < 4224)

theorem slots_at (c : Dev nD) (t : Fin cfg0.N) (j : Fin 320) :
    extractStridedSlice S1x320 ![0, 0] (dynamicRotate 1 (rollOf (startV m c t)) none (winV m (startsOK m hs) c t) rotates_S1x448_d1) slices_S1x448_o0_0_S1x320 (ix2 0 j)
      = choiceAt (argP m c) (argS m c) (hs c) (expertOf t) j := by
  have e := starts_at m c t (Shape.Idx.first (by decide))
  have hv : (startV m c t).toNat < 4224 := by
    show (starts (sB m c t) (grid0.coords t) (Shape.Idx.first (by decide))).toNat < 4224
    rw [e]; exact hs c _
  refine (slot_read hv (argP m c) (winV m (startsOK m hs) c t) (fun k => ?_) _ _ j).trans ?_
  · refine (window_read hv (pB m c t) _ (off3_eq _) _ k).trans ?_
    rw [pB_eq]
  · unfold choiceAt
    refine congrArg (argP m c) (congrArg (ix2 0) (Fin.ext ?_))
    show (starts (sB m c t) (grid0.coords t) (Shape.Idx.first (by decide))).toNat + j.val = _
    rw [e]

/-- The word of a slot. -/
abbrev slotWord (c : Dev nD) (e : Fin 8) (j : Fin 320) : BitVec 32 :=
  wordAt (argS m c (ix2 1 e)) (choiceAt (argP m c) (argS m c) (hs c) e) j

theorem count_at (c : Dev nD) (t : Fin cfg0.N) : countV m c t = argS m c (ix2 1 (expertOf t)) := counts_at m c t _

/-- A slot naming a token holds the token's row, -/
theorem xeV_apply (c : Dev nD) (t : Fin cfg0.N) (j : Fin 320) (s : Fin 2048) (h : slotWord m hs c (expertOf t) j = BitVec.ofNat 32 s.val) (k : Fin 1024) :
    xeV m (startsOK m hs) c t (ix2 j k) = argX m c (ix2 s k) := by
  refine (pay2_apply _ _ _ _ (choiceAt (argP m c) (argS m c) (hs c) (expertOf t)) (slots_at m hs c t) j s ?_ k).trans ?_
  · rw [count_at]; exact h
  · rw [xB_eq]

/-- a half adds its part of the expert's output for it, -/
theorem accV_apply (c : Dev nD) (t : Fin cfg0.N) (xe : FVec Ideal S320x1024 .bf16) (acc : FVec Ideal S320x1024 .f32) (j : Fin 320) (s : Fin 2048)
    (h : ∀ k, xe (ix2 j k) = argX m c (ix2 s k)) (d : Fin 1024) :
    accV m c t xe acc (ix2 j d) = acc (ix2 j d) + ∑ f : Fin 2048, hidden (argX m c) (argW1 m c) (expertOf t) s (unitOf t f) * argW2 m c (ix3 (expertOf t) (unitOf t f) d) := by
  refine (pay4_apply _ _ _ _ j d).trans (congrArg (fun z : EReal => acc (ix2 j d) + z) (Finset.sum_congr rfl fun f _ => ?_))
  refine congrArg₂ (fun x y : EReal => x * y) ?_ (w2B_apply m c t f d)
  unfold hidden
  exact congrArg (fun z : EReal => max z 0) (Finset.sum_congr rfl fun k _ => congrArg₂ (fun x y : EReal => x * y) (h k) (w1B_apply m c t k f))

/-- and the weighed rows are added to their tokens. -/
theorem outV_apply (c : Dev nD) (t : Fin cfg0.N) (acc : FVec Ideal S320x1024 .f32) (out : FVec Ideal S2048x1024 .f32) (s : Fin 2048) (d : Fin 1024) :
    outV m (startsOK m hs) c t acc out (ix2 s d) = out (ix2 s d) + ∑ j : Fin 320, (if slotWord m hs c (expertOf t) j = BitVec.ofNat 32 s.val
      then (acc (ix2 j d) * weightOf (choiceAt (argP m c) (argS m c) (hs c) (expertOf t) j) : EReal) else 0) := by
  refine (pay5_apply _ _ _ _ _ (choiceAt (argP m c) (argS m c) (hs c) (expertOf t)) (slots_at m hs c t) s d).trans ?_
  rw [count_at]

/-! ## The points in turn -/

/-- After an expert's first half: its slots gathered, their accumulator holding the first half's part. -/
theorem st_even (c : Dev nD) (e : Fin 8) :
    (st m (startsOK m hs) c (2 * e.val)).xe = xeV m (startsOK m hs) c (pt (2 * e.val))
    ∧ (st m (startsOK m hs) c (2 * e.val)).acc = accV m c (pt (2 * e.val)) (xeV m (startsOK m hs) c (pt (2 * e.val))) (k0_pay3 (F := Ideal)) := by
  obtain ⟨n, hn⟩ := e
  cases n with
  | zero => exact ⟨rfl, rfl⟩
  | succ n =>
    show (st m (startsOK m hs) c (2 * n + 1 + 1)).xe = _ ∧ (st m (startsOK m hs) c (2 * n + 1 + 1)).acc = _
    rw [st_gather m _ c (2 * n + 1) (by omega)]
    exact ⟨rfl, rfl⟩

/-- The weighed outputs an expert adds to a token's entry. -/
def added (c : Dev nD) (s : Fin 2048) (d : Fin 1024) (e : Fin 8) : EReal :=
  ∑ j : Fin 320, (if slotWord m hs c e j = BitVec.ofNat 32 s.val
    then outputOf (argX m c) (argW1 m c) (argW2 m c) e s d * weightOf (choiceAt (argP m c) (argS m c) (hs c) e j) else 0)

theorem pt_lt {n : ℕ} (h : n < 16) : (pt n).val = n := Nat.mod_eq_of_lt h
theorem expert_even (e : Fin 8) : expertOf (pt (2 * e.val)) = e := Fin.ext (by have := e.isLt; show (pt (2 * e.val)).val / 2 = e.val; rw [pt_lt (by omega)]; omega)
theorem expert_odd (e : Fin 8) : expertOf (pt (2 * e.val + 1)) = e := Fin.ext (by have := e.isLt; show (pt (2 * e.val + 1)).val / 2 = e.val; rw [pt_lt (by omega)]; omega)
theorem unit_even (e : Fin 8) (f : Fin 2048) : unitOf (pt (2 * e.val)) f = ⟨0 * 2048 + f.val, by have := f.isLt; omega⟩ :=
  Fin.ext (by have := e.isLt; show (pt (2 * e.val)).val % 2 * 2048 + f.val = 0 * 2048 + f.val; rw [pt_lt (by omega)]; omega)
theorem unit_odd (e : Fin 8) (f : Fin 2048) : unitOf (pt (2 * e.val + 1)) f = ⟨1 * 2048 + f.val, by have := f.isLt; omega⟩ :=
  Fin.ext (by have := e.isLt; show (pt (2 * e.val + 1)).val % 2 * 2048 + f.val = 1 * 2048 + f.val; rw [pt_lt (by omega)]; omega)

/-- An expert's second half adds its weighed outputs. -/
theorem st_odd (c : Dev nD) (e : Fin 8) (s : Fin 2048) (d : Fin 1024) :
    (st m (startsOK m hs) c (2 * e.val + 1)).out (ix2 s d) = (st m (startsOK m hs) c (2 * e.val)).out (ix2 s d) + added m hs c s d e := by
  rw [st_scatter m _ c (2 * e.val) (by omega)]
  refine (outV_apply m hs c _ _ _ s d).trans (congrArg (fun z : EReal => _ + z) ?_)
  rw [expert_odd]
  unfold added
  refine Finset.sum_congr rfl fun j _ => ?_
  by_cases h : slotWord m hs c e j = BitVec.ofNat 32 s.val
  · rw [if_pos h, if_pos h]
    refine congrArg (fun z : EReal => z * _) ?_
    have hx : ∀ k, (st m (startsOK m hs) c (2 * e.val)).xe (ix2 j k) = argX m c (ix2 s k) := fun k => by
      rw [(st_even m hs c e).1]; exact xeV_apply m hs c _ j s (by rw [expert_even]; exact h) k
    rw [accV_apply m c _ _ _ j s hx d, expert_odd, (st_even m hs c e).2,
      accV_apply m c _ _ _ j s (fun k => xeV_apply m hs c _ j s (by rw [expert_even]; exact h) k) d, expert_even, pay3_apply, zero_add]
    simp only [unit_even, unit_odd]
    exact sum_halves fun f => hidden (argX m c) (argW1 m c) e s f * argW2 m c (ix3 e f d)
  · rw [if_neg h, if_neg h]

/-- After an expert's two points the result holds what the experts so far have added. -/
theorem st_sum (c : Dev nD) (s : Fin 2048) (d : Fin 1024) (n : ℕ) (hn : n < 8) :
    (st m (startsOK m hs) c (2 * n + 1)).out (ix2 s d) = ∑ e ∈ Finset.range (n + 1), if h : e < 8 then added m hs c s d ⟨e, h⟩ else 0 := by
  induction n with
  | zero =>
    refine (st_odd m hs c ⟨0, hn⟩ s d).trans ?_
    rw [Finset.sum_range_one, dif_pos (by omega)]
    refine (congrArg (fun z : EReal => z + _) (?_ : _ = (0 : EReal))).trans (zero_add _)
    exact pay1_apply (ix2 s d)
  | succ n ih =>
    refine (st_odd m hs c ⟨n + 1, hn⟩ s d).trans ?_
    rw [Finset.sum_range_succ, dif_pos hn, ← ih (by omega)]
    refine congrArg (fun z : EReal => z + _) ?_
    show (st m (startsOK m hs) c (2 * n + 1 + 1)).out (ix2 s d) = _
    rw [st_gather m _ c (2 * n + 1) (by omega)]

/-- The result, entry by entry. -/
theorem result_apply (c : Dev nD) (s : Fin 2048) (d : Fin 1024) :
    (st m (startsOK m hs) c 15).out (ix2 s d) = ∑ e : Fin 8, added m hs c s d e := by
  refine (st_sum m hs c s d 7 (by omega)).trans ?_
  rw [Finset.sum_range]
  exact Finset.sum_congr rfl fun e _ => dif_pos e.isLt

end Cert.FfnProof

end
-- ==== Proof.FfnReference.lean ====
/-
# The experts' reference, entry by entry

Over the extended reals an entry of the reference's result is the sum over the experts of the expert's output for the token
times the token's share of the expert. Where the segments start inside the packed choices and are no longer than the slots,
the share is the sum over the slots, and the sum is what the kernel adds.
-/
module

public import proofs.«01_k».proof.Proof.FfnRef
public import proofs.«01_k».proof.Proof.FfnValue
public import Idealize.ShloMosaic.Lib.IdealHost

@[expose] public section

noncomputable section

namespace Cert.FfnProof.Ref

open Cert.FfnRefIdeal Cert.FfnRefIdeal.Gen
open Idealize.ShloMosaic hiding ix1 ix2 ix3
open Idealize.ShloMosaic.ValueIdx

variable (X : FVec Ideal S2048x1024 .bf16) (P : FVec Ideal S1x4544 .f32) (S : IVec S2x8 32) (W1 : FVec Ideal S8x1024x4096 .f32) (W2 : FVec Ideal S8x4096x1024 .f32)

/-! ## The experts' outputs -/

theorem up_apply (x : FVec Ideal S2048x1024 .f32) (e : Fin 8) (f : Fin 4096) (t : Fin 2048) :
    Host.dotGeneral dot_S8x1024x4096_S2048x1024_S8x4096x2048_1_1_02_0_n_n none W1 x (ix3 e f t) = ∑ k : Fin 1024, (W1 (ix3 e k f) * x (ix2 t k) : EReal) := by
  refine (Ideal.dotGeneral_apply dot_S8x1024x4096_S2048x1024_S8x4096x2048_1_1_02_0_n_n _ _ W1 x (ix3 e f t)).trans ?_
  refine (dot_S8x1024x4096_S2048x1024_S8x4096x2048_1_1_02_0_n_n.sum_contr₁ (a := 1) rfl (K := 1024) rfl _).trans ?_
  refine Finset.sum_congr rfl fun k _ => congrArg₂ (fun x y : EReal => x * y) (congrArg W1 ?_) (congrArg x ?_)
  · funext c
    apply Fin.ext
    match c with
    | ⟨0, _⟩ => rfl
    | ⟨1, _⟩ => rfl
    | ⟨2, _⟩ => rfl
  · funext c
    apply Fin.ext
    match c with
    | ⟨0, _⟩ => rfl
    | ⟨1, _⟩ => rfl

theorem down_apply (h : FVec Ideal S8x2048x4096 .f32) (e : Fin 8) (t : Fin 2048) (d : Fin 1024) :
    Host.dotGeneral dot_S8x2048x4096_S8x4096x1024_S8x2048x1024_2_1_1_2_0_0 none h W2 (ix3 e t d) = ∑ f : Fin 4096, (h (ix3 e t f) * W2 (ix3 e f d) : EReal) := by
  refine (Ideal.dotGeneral_apply dot_S8x2048x4096_S8x4096x1024_S8x2048x1024_2_1_1_2_0_0 _ _ h W2 (ix3 e t d)).trans ?_
  refine (dot_S8x2048x4096_S8x4096x1024_S8x2048x1024_2_1_1_2_0_0.sum_contr₁ (a := 2) rfl (K := 4096) rfl _).trans ?_
  refine Finset.sum_congr rfl fun k _ => congrArg₂ (fun x y : EReal => x * y) (congrArg h ?_) (congrArg W2 ?_) <;>
  · funext c
    apply Fin.ext
    match c with
    | ⟨0, _⟩ => rfl
    | ⟨1, _⟩ => rfl
    | ⟨2, _⟩ => rfl

theorem units_apply (e : Fin 8) (t : Fin 2048) (f : Fin 4096) : units X W1 (ix3 e t f) = hidden X W1 e t f := by
  show max (transpose S8x2048x4096 [0, 2, 1] _ _ (ix3 e t f) : EReal) (broadcastInDim S8x2048x4096 ![] bcast_S_S8x2048x4096 (constant (F := Ideal) S_ .f32 0x00000000#32) (ix3 e t f)) = _
  rw [transpose_apply (k := ix3 e f t) [0, 2, 1] _ _ (ix3 e t f) (fun b => by
    match b with
    | ⟨0, _⟩ => rfl
    | ⟨1, _⟩ => rfl
    | ⟨2, _⟩ => rfl), up_apply]
  unfold hidden
  refine congrArg₂ (fun x y : EReal => max x y) (Finset.sum_congr rfl fun k _ => mul_comm _ _) Ideal.ofBits_zero_f32

theorem outputs_apply (e : Fin 8) (t : Fin 2048) (d : Fin 1024) : outputs X W1 W2 (ix3 e t d) = outputOf X W1 W2 e t d := by
  refine (down_apply W2 _ e t d).trans (Finset.sum_congr rfl fun f _ => ?_)
  rw [units_apply]

/-! ## The shares -/

theorem row_apply (p : Fin 4544) : row P (ix1 p) = P (ix2 0 p) := by
  refine shapeCast_apply P _ (ix1 p) (ix2 0 p) ?_
  rw [Shape.rowMajor_val_two, Shape.rowMajor_val_one]
  show 0 * 4544 + p.val = p.val
  omega

theorem starts_apply (e : Fin 8) : startsOf S (ix1 e) = S (ix2 0 e) := by
  refine (shapeCast_apply _ _ (ix1 e) (ix2 0 e) ?_).trans ?_
  · rw [Shape.rowMajor_val_two, Shape.rowMajor_val_one]
    show 0 * 8 + e.val = e.val
    omega
  · refine extractStridedSlice_apply _ S _ _ _ fun a => ?_
    match a with
    | ⟨0, _⟩ => rfl
    | ⟨1, _⟩ => exact (Nat.zero_add _).symm

theorem counts_apply (e : Fin 8) : countsOf S (ix1 e) = S (ix2 1 e) := by
  refine (shapeCast_apply _ _ (ix1 e) (ix2 0 e) ?_).trans ?_
  · rw [Shape.rowMajor_val_two, Shape.rowMajor_val_one]
    show 0 * 8 + e.val = e.val
    omega
  · refine extractStridedSlice_apply _ S _ _ _ fun a => ?_
    match a with
    | ⟨0, _⟩ => rfl
    | ⟨1, _⟩ => exact (Nat.zero_add _).symm

theorem positions_apply (e : Fin 8) (p : Fin 4544) : positions (ix2 e p) = BitVec.ofNat 32 p.val := rfl
theorem everywhere_apply (v : IVec S8 32) (e : Fin 8) (p : Fin 4544) : everywhere v (ix2 e p) = v (ix1 e) := by
  unfold everywhere broadcastInDim
  refine congrArg v (funext fun a => Fin.ext ?_)
  match a with
  | ⟨0, _⟩ => rfl

theorem small_toInt {n : ℕ} (h : n < 2147483648) : (BitVec.ofNat 32 n).toInt = (n : ℤ) := by
  rw [BitVec.toInt_ofNat']; simp [Int.bmod]; omega

/-- A position lies inside an expert's segment. -/
def within (e : Fin 8) (p : Fin 4544) : Prop := (S (ix2 0 e)).toInt ≤ (p.val : ℤ) ∧ (p.val : ℤ) < (S (ix2 0 e) + S (ix2 1 e)).toInt
instance (e : Fin 8) (p : Fin 4544) : Decidable (within S e p) := inferInstanceAs (Decidable (_ ∧ _))

theorem and_bits (p q : Bool) : BitVec.ofBool p &&& BitVec.ofBool q = BitVec.ofBool (p && q) := by
  cases p <;> cases q <;> rfl

theorem inside_apply (e : Fin 8) (p : Fin 4544) : inside S (ix2 e p) = BitVec.ofBool (decide (within S e p)) := by
  show IntOp.cmpi .sge (positions (ix2 e p)) (everywhere (startsOf S) (ix2 e p))
    &&& IntOp.cmpi .slt (positions (ix2 e p)) (everywhere (addi (startsOf S) (countsOf S)) (ix2 e p)) = _
  rw [everywhere_apply, everywhere_apply, positions_apply, starts_apply,
    show addi (startsOf S) (countsOf S) (ix1 e) = S (ix2 0 e) + S (ix2 1 e) from congrArg₂ (· + ·) (starts_apply S e) (counts_apply S e)]
  have hp : (BitVec.ofNat 32 p.val).toInt = (p.val : ℤ) := small_toInt (by have := p.isLt; omega)
  show BitVec.ofBool ((S (ix2 0 e)).sle (BitVec.ofNat 32 p.val)) &&& BitVec.ofBool ((BitVec.ofNat 32 p.val).slt (S (ix2 0 e) + S (ix2 1 e))) = _
  rw [BitVec.sle_eq_decide, BitVec.slt_eq_decide, hp]
  rw [and_bits, ← Bool.decide_and]
  rfl

theorem here_apply (t : Fin 2048) (p : Fin 4544) : here P (ix2 t p) = BitVec.ofBool (tokenOf (P (ix2 0 p)) == BitVec.ofNat 32 t.val) := by
  rw [← row_apply P p]
  refine congrArg₂ (fun x y : BitVec 32 => BitVec.ofBool (x == y)) ?_ ?_
  · refine congrArg (fun q : EReal => Ideal.fptosi 32 (Ideal.liftRound Int.floor q)) (congrArg (row P) (funext fun a => Fin.ext ?_))
    match a with
    | ⟨0, _⟩ => rfl
  · rfl

/-- The weight a position adds to a token's share of an expert, and the share. -/
def part (e : Fin 8) (t : Fin 2048) (p : Fin 4544) : EReal :=
  if within S e p ∧ tokenOf (P (ix2 0 p)) = BitVec.ofNat 32 t.val then weightOf (P (ix2 0 p)) else 0
def shareOf (e : Fin 8) (t : Fin 2048) : EReal := ∑ p : Fin 4544, part P S e t p

theorem marked_apply (e : Fin 8) (t : Fin 2048) (p : Fin 4544) :
    marked P S (ix3 e t p) = BitVec.ofBool (decide (within S e p ∧ tokenOf (P (ix2 0 p)) = BitVec.ofNat 32 t.val)) := by
  have h1 : marked P S (ix3 e t p) = inside S (ix2 e p) &&& here P (ix2 t p) := by
    refine congrArg₂ (fun x y : BitVec 1 => x &&& y) ?_ ?_
    · refine congrArg (inside S) (funext fun a => Fin.ext ?_)
      match a with
      | ⟨0, _⟩ => rfl
      | ⟨1, _⟩ => rfl
    · refine congrArg (here P) (funext fun a => Fin.ext ?_)
      match a with
      | ⟨0, _⟩ => rfl
      | ⟨1, _⟩ => rfl
  rw [h1, inside_apply, here_apply, and_bits, Bool.decide_and, beq_eq_decide]

theorem reduces_shares : S8x2048x4544.Reduces [2] S8x2048 := by decide
theorem reduces_result : S8x2048x1024.Reduces [0] S2048x1024 := by decide

theorem chosen_apply (e : Fin 8) (t : Fin 2048) (p : Fin 4544) :
    select (marked P S) (broadcastInDim S8x2048x4544 ![2] bcast_S4544_S8x2048x4544_2 (subf (row P) (numbers P)))
      (broadcastInDim S8x2048x4544 ![] bcast_S_S8x2048x4544 (constant (F := Ideal) S_ .f32 0x00000000#32)) (ix3 e t p) = part P S e t p := by
  rw [select_apply, marked_apply]
  unfold part
  have hw : broadcastInDim S8x2048x4544 ![2] bcast_S4544_S8x2048x4544_2 (subf (row P) (numbers P)) (ix3 e t p) = weightOf (P (ix2 0 p)) := by
    rw [← row_apply P p]
    refine congrArg (fun q : EReal => weightOf q) (congrArg (row P) (funext fun a => Fin.ext ?_))
    match a with
    | ⟨0, _⟩ => rfl
  rw [hw]
  by_cases h : within S e p ∧ tokenOf (P (ix2 0 p)) = BitVec.ofNat 32 t.val
  · rw [if_pos h, decide_eq_true h]; rfl
  · rw [if_neg h, decide_eq_false h]; exact Ideal.ofBits_zero_f32

theorem lift_shares (e : Fin 8) (t : Fin 2048) (p : Fin 4544) : reduces_shares.lift (ix2 e t) p = (ix3 e t p : S8x2048x4544.Idx) := by
  funext a
  apply Fin.ext
  match a with
  | ⟨0, _⟩ => rfl
  | ⟨1, _⟩ => rfl
  | ⟨2, _⟩ => rfl
theorem lift_result (e : Fin 8) (t : Fin 2048) (d : Fin 1024) : reduces_result.lift (ix2 t d) e = (ix3 e t d : S8x2048x1024.Idx) := by
  funext a
  apply Fin.ext
  match a with
  | ⟨0, _⟩ => rfl
  | ⟨1, _⟩ => rfl
  | ⟨2, _⟩ => rfl

theorem shares_apply (e : Fin 8) (t : Fin 2048) : shares P S (ix2 e t) = shareOf P S e t := by
  refine (Ideal.hostReduceAdd_single reducesTo_S8x2048x4544_S8x2048_d2 reduces_shares _ _ _).trans ?_
  refine (congrArg₂ (fun x y : EReal => x + y) Ideal.ofBits_zero_f32 (Finset.sum_congr rfl fun p _ => ?_)).trans (zero_add (shareOf P S e t))
  exact (congrArg _ (lift_shares e t p)).trans (chosen_apply P S e t p)

/-- The reference's result at an entry. -/
theorem result_apply (t : Fin 2048) (d : Fin 1024) :
    result X P S W1 W2 (ix2 t d) = ∑ e : Fin 8, outputOf X W1 W2 e t d * shareOf P S e t := by
  refine (Ideal.hostReduceAdd_single reducesTo_S8x2048x1024_S2048x1024_d0 reduces_result _ _ _).trans ?_
  refine (congrArg₂ (fun x y : EReal => x + y) Ideal.ofBits_zero_f32 (Finset.sum_congr rfl fun e _ => ?_)).trans (zero_add _)
  refine (congrArg _ (lift_result e t d)).trans ?_
  refine congrArg₂ (fun x y : EReal => x * y) (outputs_apply X W1 W2 e t d) (Eq.trans (congrArg (shares P S) (funext fun a => Fin.ext ?_)) (shares_apply P S e t))
  match a with
  | ⟨0, _⟩ => rfl
  | ⟨1, _⟩ => rfl

/-! ## The shares, slot by slot -/

/-- A number times a sum of numbers none below zero. -/
theorem mul_sum_nonneg {ι : Type} (s : Finset ι) (y : EReal) (w : ι → EReal) (h : ∀ i, 0 ≤ w i) : y * ∑ i ∈ s, w i = ∑ i ∈ s, y * w i := by
  classical
  induction s using Finset.induction_on with
  | empty => simp
  | insert a s ha ih =>
    rw [Finset.sum_insert ha, Finset.sum_insert ha, EReal.left_distrib_of_nonneg (h a) (Finset.sum_nonneg fun i _ => h i), ih]

theorem part_nonneg (e : Fin 8) (t : Fin 2048) (p : Fin 4544) : 0 ≤ part P S e t p := by
  unfold part
  split
  · next h => exact weight_nonneg t.isLt h.2
  · exact le_rfl

variable (hs : ∀ e : Fin 8, (S (ix2 0 e)).toNat < 4224) (hc : ∀ e : Fin 8, (S (ix2 1 e)).toInt ≤ 320)
include hs hc

/-- A position is inside an expert's segment exactly if it is a live slot's. -/
theorem within_iff (e : Fin 8) (p : Fin 4544) : within S e p ↔ (S (ix2 0 e)).toNat ≤ p.val ∧ (p.val : ℤ) < (S (ix2 0 e)).toNat + (S (ix2 1 e)).toInt := by
  have h := hs e
  have h' := hc e
  have e0 : (S (ix2 0 e)).toInt = ((S (ix2 0 e)).toNat : ℤ) := BitVec.toInt_eq_toNat_of_lt (by omega)
  have hl := BitVec.le_toInt (S (ix2 1 e))
  have e1 : (S (ix2 0 e) + S (ix2 1 e)).toInt = ((S (ix2 0 e)).toNat : ℤ) + (S (ix2 1 e)).toInt := by
    rw [BitVec.toInt_add, e0]
    refine Int.bmod_eq_of_le ?_ ?_ <;> simp at hl ⊢ <;> omega
  unfold within
  rw [e0, e1]
  omega

/-- The share is the sum over the slots. -/
theorem share_slots (e : Fin 8) (t : Fin 2048) : shareOf P S e t
    = ∑ j : Fin 320, if wordAt (S (ix2 1 e)) (choiceAt P S hs e) j = BitVec.ofNat 32 t.val then weightOf (choiceAt P S hs e j) else 0 := by
  have h := hs e
  have h' := hc e
  refine (Finset.sum_of_injOn (fun j : Fin 320 => (⟨(S (ix2 0 e)).toNat + j.val, by have := j.isLt; omega⟩ : Fin 4544)) ?_ ?_ ?_ ?_).symm
  · intro a _ b _ hab
    have := congrArg Fin.val hab
    exact Fin.ext (by dsimp only at this; omega)
  · exact fun _ _ => Finset.mem_coe.2 (Finset.mem_univ _)
  · intro p _ hp
    unfold part
    refine if_neg fun hw => hp ?_
    have := (within_iff S hs hc e p).1 hw.1
    refine ⟨⟨p.val - (S (ix2 0 e)).toNat, by omega⟩, Finset.mem_coe.2 (Finset.mem_univ _), Fin.ext ?_⟩
    show (S (ix2 0 e)).toNat + (p.val - (S (ix2 0 e)).toNat) = p.val
    omega
  · intro j _
    unfold part
    refine if_congr ((word_iff _ _ j t).trans (and_congr_left fun _ => ?_)) rfl rfl
    rw [within_iff S hs hc]
    unfold live
    dsimp only
    push_cast
    omega

/-- What an expert adds is its output times the share. -/
theorem added_eq (e : Fin 8) (t : Fin 2048) (y : EReal) :
    (∑ j : Fin 320, if wordAt (S (ix2 1 e)) (choiceAt P S hs e) j = BitVec.ofNat 32 t.val then y * weightOf (choiceAt P S hs e j) else 0)
      = y * shareOf P S e t := by
  rw [share_slots P S hs hc e t, mul_sum_nonneg _ y _ fun j => ?_]
  · refine Finset.sum_congr rfl fun j _ => ?_
    split
    · rfl
    · exact (mul_zero y).symm
  · split
    · next h => exact weight_nonneg t.isLt ((word_iff _ _ j t).1 h).2
    · exact le_rfl

end Cert.FfnProof.Ref

end
-- ==== Proof.FfnClaims.lean ====
/-
# The claims about the experts' computation

The kernel, its idealized text and the reference run and leave every semaphore at zero, the kernel from segments that start
inside the packed choices; and over the extended reals, from segments no longer than the slots, the kernel's result is the
reference's: every token's experts' outputs, weighed and added.
-/
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.Pre_starts_inside
public import proofs.«01_k».proof.Proof.Gen.Pre_segments_fit
public import proofs.«01_k».proof.Proof.FfnReference

@[expose] public section

noncomputable section

namespace Cert.FfnProof

open Cert.FfnIdeal Cert.FfnIdeal.Gen

open Idealize.ShloMosaic hiding ix1 ix2 ix3
open Idealize.ShloMosaic.ValueIdx
open Idealize.ShloMosaic.TcCoe
open Idealize.SL.Sem

/-! ## What the preconditions say -/

theorem seg_row (S : IVec S2x8 32) (o : Nat) (i : Fin 2) (ho : o = i.val) (hs : S2x8.Slices ![o, 0] Cert.Pre_starts_inside.S1x8)
    (hc : Cert.Pre_starts_inside.S1x8.ShapeCasts Cert.Pre_starts_inside.S8) (e : Fin 8) :
    shapeCast Cert.Pre_starts_inside.S8 (extractStridedSlice Cert.Pre_starts_inside.S1x8 ![o, 0] S hs) hc (ix1 e) = S (ix2 i e) := by
  refine (shapeCast_apply _ _ (ix1 e) (ix2 0 e) ?_).trans ?_
  · rw [Shape.rowMajor_val_two, Shape.rowMajor_val_one]
    show 0 * 8 + e.val = e.val
    omega
  · refine extractStridedSlice_apply _ S _ _ _ fun a => ?_
    match a with
    | ⟨0, _⟩ => exact ho.symm
    | ⟨1, _⟩ => exact (Nat.zero_add _).symm

theorem bit_true {p : Bool} (h : BitVec.ofBool p = 1#1) : p = true := by
  cases p
  · exact absurd h (by decide)
  · rfl

/-- A word at least zero and below 4224, as a natural number. -/
theorem word_inside {v : BitVec 32} (h : IntOp.cmpi .sge v 0#32 &&& IntOp.cmpi .slt v 4224#32 = 1#1) : v.toNat < 4224 := by
  have h' : BitVec.ofBool ((0#32).sle v) &&& BitVec.ofBool (v.slt 4224#32) = 1#1 := h
  rw [Ref.and_bits] at h'
  have hb := bit_true h'
  rw [Bool.and_eq_true, BitVec.sle_eq_decide, BitVec.slt_eq_decide, decide_eq_true_eq, decide_eq_true_eq] at hb
  have e0 : (0#32).toInt = 0 := by decide
  have e1 : (4224#32).toInt = 4224 := by decide
  rw [e0, e1] at hb
  have := BitVec.toInt_eq_toNat_cond v
  have := v.isLt
  split at * <;> omega

theorem word_fits {v : BitVec 32} (h : IntOp.cmpi .sle v 320#32 = 1#1) : v.toInt ≤ 320 := by
  have h' : BitVec.ofBool (v.sle 320#32) = 1#1 := h
  have hb := bit_true h'
  rw [BitVec.sle_eq_decide, decide_eq_true_eq] at hb
  have e1 : (320#32).toInt = 320 := by decide
  rwa [e1] at hb

section Words

variable {F : FTy → Type} [FloatOps F]
variable (X : FVec F S2048x1024 .bf16) (P : FVec F S1x4544 .f32) (S : IVec S2x8 32) (W1 : FVec F S8x1024x4096 .f32) (W2 : FVec F S8x4096x1024 .f32)

/-- The first precondition: every segment starts inside the packed choices; -/
theorem starts_of (h : Cert.Pre_starts_inside.fn X P S W1 W2 = fun _ => 1#1) (e : Fin 8) : (S (ix2 0 e)).toNat < 4224 := by
  refine word_inside ?_
  rw [← seg_row S 0 0 rfl Cert.Pre_starts_inside.Facts.slices_S2x8_S1x8_0_0 Cert.Pre_starts_inside.Facts.shapeCasts_S1x8_S8 e]
  exact congrFun h (ix1 e)

/-- the second: that, and no segment is longer than the slots. -/
theorem fit_starts (h : (Cert.Pre_segments_fit.fn X P S W1 W2).1 = fun _ => 1#1) (e : Fin 8) : (S (ix2 0 e)).toNat < 4224 := by
  refine word_inside ?_
  rw [← seg_row S 0 0 rfl Cert.Pre_segments_fit.Facts.slices_S2x8_S1x8_0_0 Cert.Pre_segments_fit.Facts.shapeCasts_S1x8_S8 e]
  exact congrFun h (ix1 e)

theorem fit_counts (h : (Cert.Pre_segments_fit.fn X P S W1 W2).2 = fun _ => 1#1) (e : Fin 8) : (S (ix2 1 e)).toInt ≤ 320 := by
  refine word_fits ?_
  rw [← seg_row S 1 1 rfl Cert.Pre_segments_fit.Facts.slices_S2x8_S1x8_1_0 Cert.Pre_segments_fit.Facts.shapeCasts_S1x8_S8 e]
  exact congrFun h (ix1 e)

end Words

/-! ## The frames -/

/-- The two texts' body tables are one, -/
theorem bodies_eq : Cert.Ffn.defs₀ (F := Bits) = defs₀ (F := Bits) := by
  unfold Cert.Ffn.defs₀ defs₀
  refine congrArg Defs.onTc (funext fun d => funext fun l => ?_)
  match d, l with
  | 0, (t, s) => rfl
  | ⟨_ + 1, h⟩, _ => exact absurd h (Nat.not_lt.2 (Nat.le_add_left _ _))

theorem tables_eq : Cert.Ffn.defs (F := Bits) = defs (F := Bits) :=
  congrArg (Pipeline.defs (pcfgs (F := Bits))) bodies_eq

/-- so what runs of the one runs of the other: the kernel runs and ends quiescent, its arguments unchanged. -/
theorem frame_kernel : Cert.quiescent_Ffn := by
  intro m ρ hpre
  rw [tables_eq]
  have hs : StartsOK (F := Bits) m := startsOK m fun c e => starts_of _ _ _ _ _ (hpre c) e
  have h := (θ_run (defs (F := Bits)) _ _).mono
    (fun _ h => (⟨fun c => (h.2 c).2, h.1⟩ : (∀ c : Dev nD, _ ∧ _ ∧ _ ∧ _ ∧ _) ∧ _)) (run_main (F := Bits) m ρ hs)
  exact h

/-- The idealized text runs and ends quiescent, its arguments unchanged, -/
theorem frame_ideal : Cert.quiescent_FfnIdeal := fun m ρ hpre =>
  (θ_run defs _ _).mono (fun _ h => ⟨fun c => (h.2 c).2, h.1⟩)
    (run_main (F := Ideal) m ρ (startsOK m fun c e => starts_of _ _ _ _ _ (hpre c) e))

/-- from segments that fit in particular. -/
theorem frame_ideal_fit : Cert.quiescent_FfnIdeal_pre_segments_fit := fun m ρ hpre =>
  (θ_run defs _ _).mono (fun _ h => ⟨fun c => (h.2 c).2, h.1⟩)
    (run_main (F := Ideal) m ρ (startsOK m fun c e => fit_starts _ _ _ _ _ (hpre c).1 e))

/-- The reference runs and ends quiescent, its arguments unchanged, -/
theorem frame_ref : Cert.quiescent_FfnRefIdeal := fun m ρ _ =>
  (θ_run Cert.FfnRefIdeal.defs _ _).mono
    (fun r h => ⟨fun c => (h c).2, Idealize.ShloMosaic.sem_eq_zero_of_no_sems (by decide) r.2⟩) (Ref.run_ref (F := Ideal) m ρ)

/-- from segments that fit in particular. -/
theorem frame_ref_fit : Cert.quiescent_FfnRefIdeal_pre_segments_fit := fun m ρ _ => frame_ref m ρ trivial

/-! ## The results -/

/-- The kernel's result is the reference's. -/
theorem result_eq (m : (ℓ : Loc nD τ sig) → Buf (Elt Ideal) ℓ)
    (hs : ∀ (c : Dev nD) (e : Fin 8), (argS m c (ix2 0 e) : BitVec 32).toNat < 4224)
    (hc : ∀ (c : Dev nD) (e : Fin 8), (argS m c (ix2 1 e) : BitVec 32).toInt ≤ 320) (c : Dev nD) :
    (st m (startsOK m hs) c 15).out = Ref.result (F := Ideal) (argX m c) (argP m c) (argS m c) (argW1 m c) (argW2 m c) := by
  funext i
  obtain ⟨s, d, rfl⟩ : ∃ (s : Fin 2048) (d : Fin 1024), i = ix2 s d := ⟨_, _, ValueIdx.eq_ix2 i⟩
  refine (result_apply m hs c s d).trans (Eq.trans (Finset.sum_congr rfl fun e _ => ?_) (Ref.result_apply _ _ _ _ _ s d).symm)
  exact Ref.added_eq (argP m c) (argS m c) (hs c) (hc c) e s _

/-- Over the extended reals, from segments that fit, the kernel's result is the reference's. -/
theorem algebraic : Cert.algebraic_FfnIdeal_FfnRefIdeal_pre_segments_fit := by
  intro m ρ m' ρ' hpre hp
  have hs : ∀ (c : Dev nD) (e : Fin 8), (argS m c (ix2 0 e) : BitVec 32).toNat < 4224 := fun c e => fit_starts _ _ _ _ _ (hpre c).1 e
  have hc : ∀ (c : Dev nD) (e : Fin 8), (argS m c (ix2 1 e) : BitVec 32).toInt ≤ 320 := fun c e => fit_counts _ _ _ _ _ (hpre c).2 e
  refine ⟨fun c => Ref.result (F := Ideal) (argX m c) (argP m c) (argS m c) (argW1 m c) (argW2 m c), ?_, ?_⟩
  · exact (θ_run defs _ _).mono (fun _ h c => ⟨((h.2 c).1).trans (result_eq m hs hc c), (h.2 c).2⟩) (run_main (F := Ideal) m ρ (startsOK m hs))
  · refine (θ_run Cert.FfnRefIdeal.defs _ _).mono (fun _ h c => ⟨((h c).1).trans ?_, (h c).2⟩) (Ref.run_ref (F := Ideal) m' ρ')
    obtain ⟨e0, e1, e2, e3, e4⟩ := hp c
    rw [e0, e1, e2, e3, e4]

end Cert.FfnProof

end
-- ==== Proof.lean ====
/- The proof of the certificate's claim, assembled from the theorems about each call. -/
module

public import proofs.«01_k».proof.Proof.CombineClaims
public import proofs.«01_k».proof.Proof.RouteClaims
public import proofs.«01_k».proof.Proof.FfnClaims
public import Idealize.ShloMosaic.Init

@[expose] public section

noncomputable section

namespace Cert.Proof

open Idealize.ShloMosaic Idealize.SL.Sem

/-- Everything the certificate claims. -/
theorem claim : Cert.Claim := ⟨Cert.Combine.Gen.facts, Cert.CombineIdeal.Gen.facts, Cert.CombineRefIdeal.Gen.facts,
  Cert.Route.Gen.facts, Cert.RouteIdeal.Gen.facts, Cert.RouteRefIdeal.Gen.facts,
  Cert.Ffn.Gen.facts, Cert.FfnIdeal.Gen.facts, Cert.FfnRefIdeal.Gen.facts,
  Cert.Pre_finite_RouteIdeal.Gen.facts, Cert.Pre_finite_RouteRefIdeal.Gen.facts, Cert.Pre_starts_inside.Gen.facts, Cert.Pre_segments_fit.Gen.facts,
  Cert.CombineProof.frame_kernel, Cert.CombineProof.frame_ideal, Cert.CombineProof.frame_ref,
  Cert.RouteProof.frame_kernel, Cert.RouteProof.frame_ideal, Cert.RouteProof.frame_ideal_finite,
  Cert.RouteProof.frame_ref, Cert.RouteProof.frame_ref_finite,
  Cert.FfnProof.frame_kernel, Cert.FfnProof.frame_ideal, Cert.FfnProof.frame_ideal_fit, Cert.FfnProof.frame_ref, Cert.FfnProof.frame_ref_fit,
  trivial, Cert.CombineProof.algebraic, trivial, Cert.RouteProof.algebraic, trivial, Cert.FfnProof.algebraic⟩

end Cert.Proof

end
